-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S16384x17x128 : Shape := ⟨3, ![16384, 17, 128]⟩
abbrev S278528 : Shape := ⟨1, ![278528]⟩
abbrev S17x16384x128 : Shape := ⟨3, ![17, 16384, 128]⟩
abbrev S278528x128 : Shape := ⟨2, ![278528, 128]⟩
abbrev S8704 : Shape := ⟨1, ![8704]⟩
abbrev S6x128x128 : Shape := ⟨3, ![6, 128, 128]⟩
abbrev S6 : Shape := ⟨1, ![6]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S1 : Shape := ⟨1, ![1]⟩

abbrev nBuf : Table → Nat
  | .hbm => 7
  | .local .scVector .vmem => 2
  | _ => 0

abbrev bufTy : (tb : Table) → Fin (nBuf tb) → BufTy
  | .hbm, ⟨0, _⟩ => ⟨S16384x17x128, .f32⟩
  | .hbm, ⟨1, _⟩ => ⟨S278528, .i32⟩
  | .hbm, ⟨2, _⟩ => ⟨S17x16384x128, .f32⟩
  | .hbm, ⟨3, _⟩ => ⟨S278528x128, .f32⟩
  | .hbm, ⟨4, _⟩ => ⟨S278528x128, .f32⟩
  | .hbm, ⟨5, _⟩ => ⟨S17x16384x128, .f32⟩
  | .hbm, ⟨6, _⟩ => ⟨S16384x17x128, .f32⟩
  | .local .scVector .vmem, ⟨0, _⟩ => ⟨S8704, .i32⟩
  | .local .scVector .vmem, ⟨1, _⟩ => ⟨S6x128x128, .f32⟩
  | _, _ => ⟨S16384x17x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_c_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8704_i32 : BitVec 32 := 8704#32
  let v2 : BitVec 32 := Scalar.muli v1 c8704_i32
  ![v2.toNat]
def k0_off2 (i : grid0.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8704_i32 : BitVec 32 := 8704#32
  let v2 : BitVec 32 := Scalar.muli v1 c8704_i32
  let v27 : BitVec 32 := Scalar.addi v2 c0_i32_24
  let c0_i32_29 : BitVec 32 := 0#32
  ![v27.toNat, 0]
def k0_off2_at (r : Fin 8) : BitVec 32 :=
  if r.val < 4 then
    if r.val < 2 then
      if r.val < 1 then
        0#32
      else
        128#32
    else
      if r.val < 3 then
        256#32
      else
        384#32
  else
    if r.val < 6 then
      if r.val < 5 then
        512#32
      else
        8320#32
    else
      if r.val < 7 then
        8448#32
      else
        8576#32
@[reducible] def k0_t1_loop : Scf.Loop 32 :=
  let c0_i32_145 : BitVec 32 := 0#32
  let c10_i32 : BitVec 32 := 10#32
  let v142 : BitVec 32 := Scalar.addi c0_i32_145 c10_i32
  let c1_i32_146 : BitVec 32 := 1#32
  ⟨c0_i32_145, v142, c1_i32_146⟩
def k0_off3 (i : grid0.Coords) (k0_t1 : Fin k0_t1_loop.trips) (c0_i32_254 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8704_i32 : BitVec 32 := 8704#32
  let v2 : BitVec 32 := Scalar.muli v1 c8704_i32
  let c0_i32_145 : BitVec 32 := 0#32
  let c1_i32_146 : BitVec 32 := 1#32
  let arg9 : BitVec 32 := Scf.iv c0_i32_145 c1_i32_146 k0_t1
  let c6_i32 : BitVec 32 := 6#32
  let v236 : BitVec 32 := Scalar.muli arg9 c6_i32
  let c5_i32_253 : BitVec 32 := 5#32
  let v237 : BitVec 32 := Scalar.addi v236 c5_i32_253
  let v238 : BitVec 32 := Scalar.addi v237 c0_i32_254
  let c128_i32_262 : BitVec 32 := 128#32
  let v245 : BitVec 32 := Scalar.muli v238 c128_i32_262
  let v246 : BitVec 32 := Scalar.addi v2 v245
  let c0_i32_267 : BitVec 32 := 0#32
  ![v246.toNat, 0]
def k0_off4 (k0_t1 : Fin k0_t1_loop.trips) (c0_i32_254 : BitVec 32) : Fin 1 → Nat :=
  let c0_i32_145 : BitVec 32 := 0#32
  let c1_i32_146 : BitVec 32 := 1#32
  let arg9 : BitVec 32 := Scf.iv c0_i32_145 c1_i32_146 k0_t1
  let c6_i32 : BitVec 32 := 6#32
  let v236 : BitVec 32 := Scalar.muli arg9 c6_i32
  let c5_i32_253 : BitVec 32 := 5#32
  let v237 : BitVec 32 := Scalar.addi v236 c5_i32_253
  let v238 : BitVec 32 := Scalar.addi v237 c0_i32_254
  let c3_i32_281 : BitVec 32 := 3#32
  let v263 : BitVec 32 := Scalar.addi v238 c3_i32_281
  let c128_i32_282 : BitVec 32 := 128#32
  let v264 : BitVec 32 := Scalar.muli v263 c128_i32_282
  ![v264.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x17x128 : Shape := ⟨3, ![16384, 17, 128]⟩
abbrev S_ : Shape := ⟨0, ![]⟩
abbrev S1 : Shape := ⟨1, ![1]⟩
abbrev S2 : Shape := ⟨1, ![2]⟩
abbrev S16384 : Shape := ⟨1, ![16384]⟩
abbrev S16384x1 : Shape := ⟨2, ![16384, 1]⟩
abbrev S16384x2 : Shape := ⟨2, ![16384, 2]⟩
abbrev S17 : Shape := ⟨1, ![17]⟩
abbrev S1x2 : Shape := ⟨2, ![1, 2]⟩
abbrev S16384x2x1 : Shape := ⟨3, ![16384, 2, 1]⟩
abbrev S16384x2x2 : Shape := ⟨3, ![16384, 2, 2]⟩
abbrev S16384x1x2 : Shape := ⟨3, ![16384, 1, 2]⟩
abbrev S1x17 : Shape := ⟨2, ![1, 17]⟩
abbrev S16384x17 : Shape := ⟨2, ![16384, 17]⟩
abbrev S16384x17x1 : Shape := ⟨3, ![16384, 17, 1]⟩
abbrev S1x1x1 : Shape := ⟨3, ![1, 1, 1]⟩

abbrev nBuf : Space → Nat
  | .hbm => 768
  | .vmem => 0
  | .smem => 0
  | _ => 0

abbrev hbmTy0_0 (i : Nat) : BufTy := match i % 128 with
  | 0 => ⟨S16384x17x128, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S16384, .i64⟩
  | 16 => ⟨S_, .i64⟩
  | 17 => ⟨S16384, .i64⟩
  | 18 => ⟨S16384, .i64⟩
  | 19 => ⟨S_, .i64⟩
  | 20 => ⟨S16384, .i64⟩
  | 21 => ⟨S16384, .i64⟩
  | 22 => ⟨S16384, .i32⟩
  | 23 => ⟨S16384, .i32⟩
  | 24 => ⟨S_, .i32⟩
  | 25 => ⟨S_, .i32⟩
  | 26 => ⟨S_, .i32⟩
  | 27 => ⟨S16384, .i32⟩
  | 28 => ⟨S16384, .i32⟩
  | 29 => ⟨S16384, .i32⟩
  | 30 => ⟨S16384, .i32⟩
  | 31 => ⟨S16384, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i32⟩
  | 38 => ⟨S16384, .i32⟩
  | 39 => ⟨S16384, .i32⟩
  | 40 => ⟨S16384, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i32⟩
  | 47 => ⟨S16384, .i32⟩
  | 48 => ⟨S16384, .i32⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S16384, .i32⟩
  | 57 => ⟨S16384, .i32⟩
  | 58 => ⟨S16384, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i32⟩
  | 65 => ⟨S16384, .i32⟩
  | 66 => ⟨S16384, .i32⟩
  | 67 => ⟨S16384, .i32⟩
  | 68 => ⟨S16384, .i32⟩
  | 69 => ⟨S16384, .i32⟩
  | 70 => ⟨S16384, .i32⟩
  | 71 => ⟨S_, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S16384, .i32⟩
  | 80 => ⟨S16384, .i32⟩
  | 81 => ⟨S16384, .i32⟩
  | 82 => ⟨S16384, .i32⟩
  | 83 => ⟨S16384, .i32⟩
  | 84 => ⟨S_, .i32⟩
  | 85 => ⟨S16384, .i32⟩
  | 86 => ⟨S16384, .i32⟩
  | 87 => ⟨S_, .i32⟩
  | 88 => ⟨S16384, .i32⟩
  | 89 => ⟨S16384, .i32⟩
  | 90 => ⟨S16384, .i32⟩
  | 91 => ⟨S16384, .i32⟩
  | 92 => ⟨S16384, .i32⟩
  | 93 => ⟨S_, .i32⟩
  | 94 => ⟨S16384, .i32⟩
  | 95 => ⟨S16384, .i32⟩
  | 96 => ⟨S_, .i32⟩
  | 97 => ⟨S16384, .i32⟩
  | 98 => ⟨S16384, .i32⟩
  | 99 => ⟨S16384, .i32⟩
  | 100 => ⟨S16384, .i32⟩
  | 101 => ⟨S16384, .i32⟩
  | 102 => ⟨S_, .i32⟩
  | 103 => ⟨S16384, .i32⟩
  | 104 => ⟨S16384, .i32⟩
  | 105 => ⟨S_, .i32⟩
  | 106 => ⟨S16384, .i32⟩
  | 107 => ⟨S16384, .i32⟩
  | 108 => ⟨S16384, .i32⟩
  | 109 => ⟨S16384, .i32⟩
  | 110 => ⟨S16384, .i32⟩
  | 111 => ⟨S16384, .i32⟩
  | 112 => ⟨S16384, .i32⟩
  | 113 => ⟨S16384, .i32⟩
  | 114 => ⟨S_, .i32⟩
  | 115 => ⟨S16384, .i32⟩
  | 116 => ⟨S16384, .i32⟩
  | 117 => ⟨S16384, .i32⟩
  | 118 => ⟨S_, .i32⟩
  | 119 => ⟨S16384, .i32⟩
  | 120 => ⟨S16384, .i32⟩
  | 121 => ⟨S_, .i32⟩
  | 122 => ⟨S16384, .i32⟩
  | 123 => ⟨S16384, .i32⟩
  | 124 => ⟨S16384, .i32⟩
  | 125 => ⟨S16384, .i32⟩
  | 126 => ⟨S16384, .i32⟩
  | 127 => ⟨S_, .i32⟩
  | _ => ⟨S16384x17x128, .f32⟩

abbrev hbmTy0_1 (i : Nat) : BufTy := match i % 128 with
  | 0 => ⟨S16384, .i32⟩
  | 1 => ⟨S16384, .i32⟩
  | 2 => ⟨S_, .i32⟩
  | 3 => ⟨S16384, .i32⟩
  | 4 => ⟨S16384, .i32⟩
  | 5 => ⟨S16384, .i32⟩
  | 6 => ⟨S16384, .i32⟩
  | 7 => ⟨S16384, .i32⟩
  | 8 => ⟨S_, .i32⟩
  | 9 => ⟨S16384, .i32⟩
  | 10 => ⟨S16384, .i32⟩
  | 11 => ⟨S_, .i32⟩
  | 12 => ⟨S16384, .i32⟩
  | 13 => ⟨S16384, .i32⟩
  | 14 => ⟨S16384, .i32⟩
  | 15 => ⟨S16384, .i32⟩
  | 16 => ⟨S16384, .i32⟩
  | 17 => ⟨S_, .i32⟩
  | 18 => ⟨S16384, .i32⟩
  | 19 => ⟨S16384, .i32⟩
  | 20 => ⟨S_, .i32⟩
  | 21 => ⟨S16384, .i32⟩
  | 22 => ⟨S16384, .i32⟩
  | 23 => ⟨S16384, .i32⟩
  | 24 => ⟨S16384, .i32⟩
  | 25 => ⟨S16384, .i32⟩
  | 26 => ⟨S16384, .i32⟩
  | 27 => ⟨S16384, .i32⟩
  | 28 => ⟨S16384, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S16384, .i32⟩
  | 49 => ⟨S16384, .i32⟩
  | 50 => ⟨S16384, .i32⟩
  | 51 => ⟨S_, .i32⟩
  | 52 => ⟨S16384, .i32⟩
  | 53 => ⟨S16384, .i32⟩
  | 54 => ⟨S_, .i32⟩
  | 55 => ⟨S16384, .i32⟩
  | 56 => ⟨S16384, .i32⟩
  | 57 => ⟨S16384, .i32⟩
  | 58 => ⟨S16384, .i32⟩
  | 59 => ⟨S16384, .i32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S16384, .i32⟩
  | 67 => ⟨S16384, .i32⟩
  | 68 => ⟨S16384, .i32⟩
  | 69 => ⟨S16384, .i32⟩
  | 70 => ⟨S16384, .i32⟩
  | 71 => ⟨S16384, .i32⟩
  | 72 => ⟨S_, .i32⟩
  | 73 => ⟨S16384, .i32⟩
  | 74 => ⟨S16384, .i32⟩
  | 75 => ⟨S16384, .i32⟩
  | 76 => ⟨S_, .i32⟩
  | 77 => ⟨S16384, .i32⟩
  | 78 => ⟨S16384, .i32⟩
  | 79 => ⟨S_, .i32⟩
  | 80 => ⟨S16384, .i32⟩
  | 81 => ⟨S16384, .i32⟩
  | 82 => ⟨S16384, .i32⟩
  | 83 => ⟨S16384, .i32⟩
  | 84 => ⟨S16384, .i32⟩
  | 85 => ⟨S_, .i32⟩
  | 86 => ⟨S16384, .i32⟩
  | 87 => ⟨S16384, .i32⟩
  | 88 => ⟨S_, .i32⟩
  | 89 => ⟨S16384, .i32⟩
  | 90 => ⟨S16384, .i32⟩
  | 91 => ⟨S16384, .i32⟩
  | 92 => ⟨S16384, .i32⟩
  | 93 => ⟨S16384, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S16384, .i32⟩
  | 101 => ⟨S16384, .i32⟩
  | 102 => ⟨S16384, .i32⟩
  | 103 => ⟨S_, .i32⟩
  | 104 => ⟨S16384, .i32⟩
  | 105 => ⟨S16384, .i32⟩
  | 106 => ⟨S_, .i32⟩
  | 107 => ⟨S16384, .i32⟩
  | 108 => ⟨S16384, .i32⟩
  | 109 => ⟨S16384, .i32⟩
  | 110 => ⟨S16384, .i32⟩
  | 111 => ⟨S16384, .i32⟩
  | 112 => ⟨S16384, .i32⟩
  | 113 => ⟨S16384, .i32⟩
  | 114 => ⟨S16384, .i32⟩
  | 115 => ⟨S_, .i32⟩
  | 116 => ⟨S16384, .i32⟩
  | 117 => ⟨S16384, .i32⟩
  | 118 => ⟨S16384x1, .i32⟩
  | 119 => ⟨S16384x1, .i32⟩
  | 120 => ⟨S16384x2, .i32⟩
  | 121 => ⟨S17, .i32⟩
  | 122 => ⟨S16384x1, .i32⟩
  | 123 => ⟨S16384, .i32⟩
  | 124 => ⟨S16384x1, .i32⟩
  | 125 => ⟨S16384, .i32⟩
  | 126 => ⟨S2, .i64⟩
  | 127 => ⟨S_, .i64⟩
  | _ => ⟨S16384x17x128, .f32⟩

abbrev hbmTy0_2 (i : Nat) : BufTy := match i % 128 with
  | 0 => ⟨S2, .i64⟩
  | 1 => ⟨S2, .i64⟩
  | 2 => ⟨S_, .i64⟩
  | 3 => ⟨S2, .i64⟩
  | 4 => ⟨S2, .i64⟩
  | 5 => ⟨S2, .i32⟩
  | 6 => ⟨S2, .i32⟩
  | 7 => ⟨S1x2, .i32⟩
  | 8 => ⟨S1x2, .i32⟩
  | 9 => ⟨S16384x1, .i32⟩
  | 10 => ⟨S16384x1, .i32⟩
  | 11 => ⟨S16384x1, .i32⟩
  | 12 => ⟨S_, .i32⟩
  | 13 => ⟨S16384x1, .i32⟩
  | 14 => ⟨S16384x1, .i32⟩
  | 15 => ⟨S16384x2, .i32⟩
  | 16 => ⟨S16384x2, .i32⟩
  | 17 => ⟨S16384x2, .i32⟩
  | 18 => ⟨S16384x2, .i32⟩
  | 19 => ⟨S16384x2, .i32⟩
  | 20 => ⟨S16384x2, .i32⟩
  | 21 => ⟨S16384x2, .i32⟩
  | 22 => ⟨S_, .i32⟩
  | 23 => ⟨S16384x2, .i32⟩
  | 24 => ⟨S16384x2, .i32⟩
  | 25 => ⟨S_, .i32⟩
  | 26 => ⟨S16384x2, .i32⟩
  | 27 => ⟨S16384x2, .i32⟩
  | 28 => ⟨S16384x2, .i32⟩
  | 29 => ⟨S16384x2, .i32⟩
  | 30 => ⟨S16384x2, .i32⟩
  | 31 => ⟨S_, .i32⟩
  | 32 => ⟨S16384x2, .i32⟩
  | 33 => ⟨S16384x2, .i32⟩
  | 34 => ⟨S_, .i32⟩
  | 35 => ⟨S16384x2, .i32⟩
  | 36 => ⟨S16384x2, .i32⟩
  | 37 => ⟨S16384x2, .i32⟩
  | 38 => ⟨S16384x2, .i32⟩
  | 39 => ⟨S16384x2, .i32⟩
  | 40 => ⟨S_, .i32⟩
  | 41 => ⟨S16384x2, .i32⟩
  | 42 => ⟨S16384x2, .i32⟩
  | 43 => ⟨S_, .i32⟩
  | 44 => ⟨S16384x2, .i32⟩
  | 45 => ⟨S16384x2, .i32⟩
  | 46 => ⟨S16384x2, .i32⟩
  | 47 => ⟨S16384x2, .i32⟩
  | 48 => ⟨S16384x2, .i32⟩
  | 49 => ⟨S_, .i32⟩
  | 50 => ⟨S16384x2, .i32⟩
  | 51 => ⟨S16384x2, .i32⟩
  | 52 => ⟨S_, .i32⟩
  | 53 => ⟨S16384x2, .i32⟩
  | 54 => ⟨S16384x2, .i32⟩
  | 55 => ⟨S16384x2, .i32⟩
  | 56 => ⟨S16384x2, .i32⟩
  | 57 => ⟨S16384x2, .i32⟩
  | 58 => ⟨S16384x2, .i32⟩
  | 59 => ⟨S16384x2, .i32⟩
  | 60 => ⟨S16384x2, .i32⟩
  | 61 => ⟨S_, .i32⟩
  | 62 => ⟨S16384x2, .i32⟩
  | 63 => ⟨S16384x2, .i32⟩
  | 64 => ⟨S16384x2, .i32⟩
  | 65 => ⟨S_, .i32⟩
  | 66 => ⟨S16384x2, .i32⟩
  | 67 => ⟨S16384x2, .i32⟩
  | 68 => ⟨S_, .i32⟩
  | 69 => ⟨S16384x2, .i32⟩
  | 70 => ⟨S16384x2, .i32⟩
  | 71 => ⟨S16384x2, .i32⟩
  | 72 => ⟨S16384x2, .i32⟩
  | 73 => ⟨S16384x2, .i32⟩
  | 74 => ⟨S_, .i32⟩
  | 75 => ⟨S16384x2, .i32⟩
  | 76 => ⟨S16384x2, .i32⟩
  | 77 => ⟨S_, .i32⟩
  | 78 => ⟨S16384x2, .i32⟩
  | 79 => ⟨S16384x2, .i32⟩
  | 80 => ⟨S16384x2, .i32⟩
  | 81 => ⟨S16384x2, .i32⟩
  | 82 => ⟨S16384x2, .i32⟩
  | 83 => ⟨S_, .i32⟩
  | 84 => ⟨S16384x2, .i32⟩
  | 85 => ⟨S16384x2, .i32⟩
  | 86 => ⟨S_, .i32⟩
  | 87 => ⟨S16384x2, .i32⟩
  | 88 => ⟨S16384x2, .i32⟩
  | 89 => ⟨S16384x2, .i32⟩
  | 90 => ⟨S16384x2, .i32⟩
  | 91 => ⟨S16384x2, .i32⟩
  | 92 => ⟨S_, .i32⟩
  | 93 => ⟨S16384x2, .i32⟩
  | 94 => ⟨S16384x2, .i32⟩
  | 95 => ⟨S_, .i32⟩
  | 96 => ⟨S16384x2, .i32⟩
  | 97 => ⟨S16384x2, .i32⟩
  | 98 => ⟨S16384x2, .i32⟩
  | 99 => ⟨S16384x2, .i32⟩
  | 100 => ⟨S16384x2, .i32⟩
  | 101 => ⟨S16384x2, .i32⟩
  | 102 => ⟨S16384x2, .i32⟩
  | 103 => ⟨S16384x2, .i32⟩
  | 104 => ⟨S_, .i32⟩
  | 105 => ⟨S16384x2, .i32⟩
  | 106 => ⟨S16384x2, .i32⟩
  | 107 => ⟨S16384x2, .i32⟩
  | 108 => ⟨S_, .i32⟩
  | 109 => ⟨S16384x2, .i32⟩
  | 110 => ⟨S16384x2, .i32⟩
  | 111 => ⟨S_, .i32⟩
  | 112 => ⟨S16384x2, .i32⟩
  | 113 => ⟨S16384x2, .i32⟩
  | 114 => ⟨S16384x2, .i32⟩
  | 115 => ⟨S16384x2, .i32⟩
  | 116 => ⟨S16384x2, .i32⟩
  | 117 => ⟨S_, .i32⟩
  | 118 => ⟨S16384x2, .i32⟩
  | 119 => ⟨S16384x2, .i32⟩
  | 120 => ⟨S_, .i32⟩
  | 121 => ⟨S16384x2, .i32⟩
  | 122 => ⟨S16384x2, .i32⟩
  | 123 => ⟨S16384x2, .i32⟩
  | 124 => ⟨S16384x2, .i32⟩
  | 125 => ⟨S16384x2, .i32⟩
  | 126 => ⟨S_, .i32⟩
  | 127 => ⟨S16384x2, .i32⟩
  | _ => ⟨S16384x17x128, .f32⟩

abbrev hbmTy0_3 (i : Nat) : BufTy := match i % 128 with
  | 0 => ⟨S16384x2, .i32⟩
  | 1 => ⟨S_, .i32⟩
  | 2 => ⟨S16384x2, .i32⟩
  | 3 => ⟨S16384x2, .i32⟩
  | 4 => ⟨S16384x2, .i32⟩
  | 5 => ⟨S16384x2, .i32⟩
  | 6 => ⟨S16384x2, .i32⟩
  | 7 => ⟨S_, .i32⟩
  | 8 => ⟨S16384x2, .i32⟩
  | 9 => ⟨S16384x2, .i32⟩
  | 10 => ⟨S_, .i32⟩
  | 11 => ⟨S16384x2, .i32⟩
  | 12 => ⟨S16384x2, .i32⟩
  | 13 => ⟨S16384x2, .i32⟩
  | 14 => ⟨S16384x2, .i32⟩
  | 15 => ⟨S16384x2, .i32⟩
  | 16 => ⟨S16384x2, .i32⟩
  | 17 => ⟨S16384x2, .i32⟩
  | 18 => ⟨S16384x2, .i32⟩
  | 19 => ⟨S_, .i32⟩
  | 20 => ⟨S16384x2, .i32⟩
  | 21 => ⟨S16384x2, .i32⟩
  | 22 => ⟨S16384x2, .i32⟩
  | 23 => ⟨S_, .i32⟩
  | 24 => ⟨S16384x2, .i32⟩
  | 25 => ⟨S16384x2, .i32⟩
  | 26 => ⟨S_, .i32⟩
  | 27 => ⟨S16384x2, .i32⟩
  | 28 => ⟨S16384x2, .i32⟩
  | 29 => ⟨S16384x2, .i32⟩
  | 30 => ⟨S16384x2, .i32⟩
  | 31 => ⟨S16384x2, .i32⟩
  | 32 => ⟨S_, .i32⟩
  | 33 => ⟨S16384x2, .i32⟩
  | 34 => ⟨S16384x2, .i32⟩
  | 35 => ⟨S_, .i32⟩
  | 36 => ⟨S16384x2, .i32⟩
  | 37 => ⟨S16384x2, .i32⟩
  | 38 => ⟨S16384x2, .i32⟩
  | 39 => ⟨S16384x2, .i32⟩
  | 40 => ⟨S16384x2, .i32⟩
  | 41 => ⟨S_, .i32⟩
  | 42 => ⟨S16384x2, .i32⟩
  | 43 => ⟨S16384x2, .i32⟩
  | 44 => ⟨S_, .i32⟩
  | 45 => ⟨S16384x2, .i32⟩
  | 46 => ⟨S16384x2, .i32⟩
  | 47 => ⟨S16384x2, .i32⟩
  | 48 => ⟨S16384x2, .i32⟩
  | 49 => ⟨S16384x2, .i32⟩
  | 50 => ⟨S_, .i32⟩
  | 51 => ⟨S16384x2, .i32⟩
  | 52 => ⟨S16384x2, .i32⟩
  | 53 => ⟨S_, .i32⟩
  | 54 => ⟨S16384x2, .i32⟩
  | 55 => ⟨S16384x2, .i32⟩
  | 56 => ⟨S16384x2, .i32⟩
  | 57 => ⟨S16384x2, .i32⟩
  | 58 => ⟨S16384x2, .i32⟩
  | 59 => ⟨S16384x2, .i32⟩
  | 60 => ⟨S16384x2, .i32⟩
  | 61 => ⟨S16384x2, .i32⟩
  | 62 => ⟨S_, .i32⟩
  | 63 => ⟨S16384x2, .i32⟩
  | 64 => ⟨S16384x2, .i32⟩
  | 65 => ⟨S16384x2, .i32⟩
  | 66 => ⟨S_, .i32⟩
  | 67 => ⟨S16384x2, .i32⟩
  | 68 => ⟨S16384x2, .i32⟩
  | 69 => ⟨S_, .i32⟩
  | 70 => ⟨S16384x2, .i32⟩
  | 71 => ⟨S16384x2, .i32⟩
  | 72 => ⟨S16384x2, .i32⟩
  | 73 => ⟨S16384x2, .i32⟩
  | 74 => ⟨S16384x2, .i32⟩
  | 75 => ⟨S_, .i32⟩
  | 76 => ⟨S16384x2, .i32⟩
  | 77 => ⟨S16384x2, .i32⟩
  | 78 => ⟨S_, .i32⟩
  | 79 => ⟨S16384x2, .i32⟩
  | 80 => ⟨S16384x2, .i32⟩
  | 81 => ⟨S16384x2, .i32⟩
  | 82 => ⟨S16384x2, .i32⟩
  | 83 => ⟨S16384x2, .i32⟩
  | 84 => ⟨S_, .i32⟩
  | 85 => ⟨S16384x2, .i32⟩
  | 86 => ⟨S16384x2, .i32⟩
  | 87 => ⟨S_, .i32⟩
  | 88 => ⟨S16384x2, .i32⟩
  | 89 => ⟨S16384x2, .i32⟩
  | 90 => ⟨S16384x2, .i32⟩
  | 91 => ⟨S16384x2, .i32⟩
  | 92 => ⟨S16384x2, .i32⟩
  | 93 => ⟨S_, .i32⟩
  | 94 => ⟨S16384x2, .i32⟩
  | 95 => ⟨S16384x2, .i32⟩
  | 96 => ⟨S_, .i32⟩
  | 97 => ⟨S16384x2, .i32⟩
  | 98 => ⟨S16384x2, .i32⟩
  | 99 => ⟨S16384x2, .i32⟩
  | 100 => ⟨S16384x2, .i32⟩
  | 101 => ⟨S16384x2, .i32⟩
  | 102 => ⟨S16384x2, .i32⟩
  | 103 => ⟨S16384x2, .i32⟩
  | 104 => ⟨S16384x2, .i32⟩
  | 105 => ⟨S_, .i32⟩
  | 106 => ⟨S16384x2, .i32⟩
  | 107 => ⟨S16384x2, .i32⟩
  | 108 => ⟨S16384x2x1, .i32⟩
  | 109 => ⟨S16384x2x1, .i32⟩
  | 110 => ⟨S16384x2x2, .i32⟩
  | 111 => ⟨S16384x1x2, .i32⟩
  | 112 => ⟨S16384x2, .i32⟩
  | 113 => ⟨S16384x1x2, .i32⟩
  | 114 => ⟨S16384x2, .i32⟩
  | 115 => ⟨S16384x1, .i32⟩
  | 116 => ⟨S16384, .i32⟩
  | 117 => ⟨S16384x1, .i32⟩
  | 118 => ⟨S16384, .i32⟩
  | 119 => ⟨S17, .i64⟩
  | 120 => ⟨S_, .i64⟩
  | 121 => ⟨S17, .i64⟩
  | 122 => ⟨S17, .i64⟩
  | 123 => ⟨S_, .i64⟩
  | 124 => ⟨S17, .i64⟩
  | 125 => ⟨S17, .i64⟩
  | 126 => ⟨S17, .i32⟩
  | 127 => ⟨S17, .i32⟩
  | _ => ⟨S16384x17x128, .f32⟩

abbrev hbmTy0_4 (i : Nat) : BufTy := match i % 128 with
  | 0 => ⟨S1x17, .i32⟩
  | 1 => ⟨S1x17, .i32⟩
  | 2 => ⟨S16384x1, .i32⟩
  | 3 => ⟨S16384x1, .i32⟩
  | 4 => ⟨S16384x1, .i32⟩
  | 5 => ⟨S_, .i32⟩
  | 6 => ⟨S16384x1, .i32⟩
  | 7 => ⟨S16384x1, .i32⟩
  | 8 => ⟨S16384x17, .i32⟩
  | 9 => ⟨S16384x17, .i32⟩
  | 10 => ⟨S16384x17, .i32⟩
  | 11 => ⟨S16384x17, .i32⟩
  | 12 => ⟨S16384x17, .i32⟩
  | 13 => ⟨S16384x17, .i32⟩
  | 14 => ⟨S16384x17, .i32⟩
  | 15 => ⟨S_, .i32⟩
  | 16 => ⟨S16384x17, .i32⟩
  | 17 => ⟨S16384x17, .i32⟩
  | 18 => ⟨S_, .i32⟩
  | 19 => ⟨S16384x17, .i32⟩
  | 20 => ⟨S16384x17, .i32⟩
  | 21 => ⟨S16384x17, .i32⟩
  | 22 => ⟨S16384x17, .i32⟩
  | 23 => ⟨S16384x17, .i32⟩
  | 24 => ⟨S_, .i32⟩
  | 25 => ⟨S16384x17, .i32⟩
  | 26 => ⟨S16384x17, .i32⟩
  | 27 => ⟨S_, .i32⟩
  | 28 => ⟨S16384x17, .i32⟩
  | 29 => ⟨S16384x17, .i32⟩
  | 30 => ⟨S16384x17, .i32⟩
  | 31 => ⟨S16384x17, .i32⟩
  | 32 => ⟨S16384x17, .i32⟩
  | 33 => ⟨S_, .i32⟩
  | 34 => ⟨S16384x17, .i32⟩
  | 35 => ⟨S16384x17, .i32⟩
  | 36 => ⟨S_, .i32⟩
  | 37 => ⟨S16384x17, .i32⟩
  | 38 => ⟨S16384x17, .i32⟩
  | 39 => ⟨S16384x17, .i32⟩
  | 40 => ⟨S16384x17, .i32⟩
  | 41 => ⟨S16384x17, .i32⟩
  | 42 => ⟨S_, .i32⟩
  | 43 => ⟨S16384x17, .i32⟩
  | 44 => ⟨S16384x17, .i32⟩
  | 45 => ⟨S_, .i32⟩
  | 46 => ⟨S16384x17, .i32⟩
  | 47 => ⟨S16384x17, .i32⟩
  | 48 => ⟨S16384x17, .i32⟩
  | 49 => ⟨S16384x17, .i32⟩
  | 50 => ⟨S16384x17, .i32⟩
  | 51 => ⟨S16384x17, .i32⟩
  | 52 => ⟨S16384x17, .i32⟩
  | 53 => ⟨S16384x17, .i32⟩
  | 54 => ⟨S_, .i32⟩
  | 55 => ⟨S16384x17, .i32⟩
  | 56 => ⟨S16384x17, .i32⟩
  | 57 => ⟨S16384x17, .i32⟩
  | 58 => ⟨S_, .i32⟩
  | 59 => ⟨S16384x17, .i32⟩
  | 60 => ⟨S16384x17, .i32⟩
  | 61 => ⟨S_, .i32⟩
  | 62 => ⟨S16384x17, .i32⟩
  | 63 => ⟨S16384x17, .i32⟩
  | 64 => ⟨S16384x17, .i32⟩
  | 65 => ⟨S16384x17, .i32⟩
  | 66 => ⟨S16384x17, .i32⟩
  | 67 => ⟨S_, .i32⟩
  | 68 => ⟨S16384x17, .i32⟩
  | 69 => ⟨S16384x17, .i32⟩
  | 70 => ⟨S_, .i32⟩
  | 71 => ⟨S16384x17, .i32⟩
  | 72 => ⟨S16384x17, .i32⟩
  | 73 => ⟨S16384x17, .i32⟩
  | 74 => ⟨S16384x17, .i32⟩
  | 75 => ⟨S16384x17, .i32⟩
  | 76 => ⟨S_, .i32⟩
  | 77 => ⟨S16384x17, .i32⟩
  | 78 => ⟨S16384x17, .i32⟩
  | 79 => ⟨S_, .i32⟩
  | 80 => ⟨S16384x17, .i32⟩
  | 81 => ⟨S16384x17, .i32⟩
  | 82 => ⟨S16384x17, .i32⟩
  | 83 => ⟨S16384x17, .i32⟩
  | 84 => ⟨S16384x17, .i32⟩
  | 85 => ⟨S_, .i32⟩
  | 86 => ⟨S16384x17, .i32⟩
  | 87 => ⟨S16384x17, .i32⟩
  | 88 => ⟨S_, .i32⟩
  | 89 => ⟨S16384x17, .i32⟩
  | 90 => ⟨S16384x17, .i32⟩
  | 91 => ⟨S16384x17, .i32⟩
  | 92 => ⟨S16384x17, .i32⟩
  | 93 => ⟨S16384x17, .i32⟩
  | 94 => ⟨S16384x17, .i32⟩
  | 95 => ⟨S16384x17, .i32⟩
  | 96 => ⟨S16384x17, .i32⟩
  | 97 => ⟨S_, .i32⟩
  | 98 => ⟨S16384x17, .i32⟩
  | 99 => ⟨S16384x17, .i32⟩
  | 100 => ⟨S16384x17, .i32⟩
  | 101 => ⟨S_, .i32⟩
  | 102 => ⟨S16384x17, .i32⟩
  | 103 => ⟨S16384x17, .i32⟩
  | 104 => ⟨S_, .i32⟩
  | 105 => ⟨S16384x17, .i32⟩
  | 106 => ⟨S16384x17, .i32⟩
  | 107 => ⟨S16384x17, .i32⟩
  | 108 => ⟨S16384x17, .i32⟩
  | 109 => ⟨S16384x17, .i32⟩
  | 110 => ⟨S_, .i32⟩
  | 111 => ⟨S16384x17, .i32⟩
  | 112 => ⟨S16384x17, .i32⟩
  | 113 => ⟨S_, .i32⟩
  | 114 => ⟨S16384x17, .i32⟩
  | 115 => ⟨S16384x17, .i32⟩
  | 116 => ⟨S16384x17, .i32⟩
  | 117 => ⟨S16384x17, .i32⟩
  | 118 => ⟨S16384x17, .i32⟩
  | 119 => ⟨S_, .i32⟩
  | 120 => ⟨S16384x17, .i32⟩
  | 121 => ⟨S16384x17, .i32⟩
  | 122 => ⟨S_, .i32⟩
  | 123 => ⟨S16384x17, .i32⟩
  | 124 => ⟨S16384x17, .i32⟩
  | 125 => ⟨S16384x17, .i32⟩
  | 126 => ⟨S16384x17, .i32⟩
  | 127 => ⟨S16384x17, .i32⟩
  | _ => ⟨S16384x17x128, .f32⟩

abbrev hbmTy0_5 (i : Nat) : BufTy := match i % 128 with
  | 0 => ⟨S_, .i32⟩
  | 1 => ⟨S16384x17, .i32⟩
  | 2 => ⟨S16384x17, .i32⟩
  | 3 => ⟨S_, .i32⟩
  | 4 => ⟨S16384x17, .i32⟩
  | 5 => ⟨S16384x17, .i32⟩
  | 6 => ⟨S16384x17, .i32⟩
  | 7 => ⟨S16384x17, .i32⟩
  | 8 => ⟨S16384x17, .i32⟩
  | 9 => ⟨S16384x17, .i32⟩
  | 10 => ⟨S16384x17, .i32⟩
  | 11 => ⟨S16384x17, .i32⟩
  | 12 => ⟨S_, .i32⟩
  | 13 => ⟨S16384x17, .i32⟩
  | 14 => ⟨S16384x17, .i32⟩
  | 15 => ⟨S16384x17, .i32⟩
  | 16 => ⟨S_, .i32⟩
  | 17 => ⟨S16384x17, .i32⟩
  | 18 => ⟨S16384x17, .i32⟩
  | 19 => ⟨S_, .i32⟩
  | 20 => ⟨S16384x17, .i32⟩
  | 21 => ⟨S16384x17, .i32⟩
  | 22 => ⟨S16384x17, .i32⟩
  | 23 => ⟨S16384x17, .i32⟩
  | 24 => ⟨S16384x17, .i32⟩
  | 25 => ⟨S_, .i32⟩
  | 26 => ⟨S16384x17, .i32⟩
  | 27 => ⟨S16384x17, .i32⟩
  | 28 => ⟨S_, .i32⟩
  | 29 => ⟨S16384x17, .i32⟩
  | 30 => ⟨S16384x17, .i32⟩
  | 31 => ⟨S16384x17, .i32⟩
  | 32 => ⟨S16384x17, .i32⟩
  | 33 => ⟨S16384x17, .i32⟩
  | 34 => ⟨S_, .i32⟩
  | 35 => ⟨S16384x17, .i32⟩
  | 36 => ⟨S16384x17, .i32⟩
  | 37 => ⟨S_, .i32⟩
  | 38 => ⟨S16384x17, .i32⟩
  | 39 => ⟨S16384x17, .i32⟩
  | 40 => ⟨S16384x17, .i32⟩
  | 41 => ⟨S16384x17, .i32⟩
  | 42 => ⟨S16384x17, .i32⟩
  | 43 => ⟨S_, .i32⟩
  | 44 => ⟨S16384x17, .i32⟩
  | 45 => ⟨S16384x17, .i32⟩
  | 46 => ⟨S_, .i32⟩
  | 47 => ⟨S16384x17, .i32⟩
  | 48 => ⟨S16384x17, .i32⟩
  | 49 => ⟨S16384x17, .i32⟩
  | 50 => ⟨S16384x17, .i32⟩
  | 51 => ⟨S16384x17, .i32⟩
  | 52 => ⟨S16384x17, .i32⟩
  | 53 => ⟨S16384x17, .i32⟩
  | 54 => ⟨S16384x17, .i32⟩
  | 55 => ⟨S_, .i32⟩
  | 56 => ⟨S16384x17, .i32⟩
  | 57 => ⟨S16384x17, .i32⟩
  | 58 => ⟨S16384x17, .i32⟩
  | 59 => ⟨S_, .i32⟩
  | 60 => ⟨S16384x17, .i32⟩
  | 61 => ⟨S16384x17, .i32⟩
  | 62 => ⟨S_, .i32⟩
  | 63 => ⟨S16384x17, .i32⟩
  | 64 => ⟨S16384x17, .i32⟩
  | 65 => ⟨S16384x17, .i32⟩
  | 66 => ⟨S16384x17, .i32⟩
  | 67 => ⟨S16384x17, .i32⟩
  | 68 => ⟨S_, .i32⟩
  | 69 => ⟨S16384x17, .i32⟩
  | 70 => ⟨S16384x17, .i32⟩
  | 71 => ⟨S_, .i32⟩
  | 72 => ⟨S16384x17, .i32⟩
  | 73 => ⟨S16384x17, .i32⟩
  | 74 => ⟨S16384x17, .i32⟩
  | 75 => ⟨S16384x17, .i32⟩
  | 76 => ⟨S16384x17, .i32⟩
  | 77 => ⟨S_, .i32⟩
  | 78 => ⟨S16384x17, .i32⟩
  | 79 => ⟨S16384x17, .i32⟩
  | 80 => ⟨S_, .i32⟩
  | 81 => ⟨S16384x17, .i32⟩
  | 82 => ⟨S16384x17, .i32⟩
  | 83 => ⟨S16384x17, .i32⟩
  | 84 => ⟨S16384x17, .i32⟩
  | 85 => ⟨S16384x17, .i32⟩
  | 86 => ⟨S_, .i32⟩
  | 87 => ⟨S16384x17, .i32⟩
  | 88 => ⟨S16384x17, .i32⟩
  | 89 => ⟨S_, .i32⟩
  | 90 => ⟨S16384x17, .i32⟩
  | 91 => ⟨S16384x17, .i32⟩
  | 92 => ⟨S16384x17, .i32⟩
  | 93 => ⟨S16384x17, .i32⟩
  | 94 => ⟨S16384x17, .i32⟩
  | 95 => ⟨S16384x17, .i32⟩
  | 96 => ⟨S16384x17, .i32⟩
  | 97 => ⟨S16384x17, .i32⟩
  | 98 => ⟨S_, .i32⟩
  | 99 => ⟨S16384x17, .i32⟩
  | 100 => ⟨S16384x17, .i32⟩
  | 101 => ⟨S16384x17, .i32⟩
  | 102 => ⟨S16384x17, .i32⟩
  | 103 => ⟨S16384x17, .i32⟩
  | 104 => ⟨S16384x17, .i32⟩
  | 105 => ⟨S16384x17x1, .i32⟩
  | 106 => ⟨S_, .i32⟩
  | 107 => ⟨S16384x17x1, .i32⟩
  | 108 => ⟨S16384x17x1, .i1⟩
  | 109 => ⟨S_, .i32⟩
  | 110 => ⟨S16384x17x1, .i32⟩
  | 111 => ⟨S16384x17x1, .i32⟩
  | 112 => ⟨S16384x17x1, .i32⟩
  | 113 => ⟨S1, .i32⟩
  | 114 => ⟨S_, .i32⟩
  | 115 => ⟨S16384x17x1, .i32⟩
  | 116 => ⟨S16384x17x1, .i1⟩
  | 117 => ⟨S1x1x1, .i32⟩
  | 118 => ⟨S16384x17x1, .i32⟩
  | 119 => ⟨S16384x17x1, .i1⟩
  | 120 => ⟨S16384x17x1, .i1⟩
  | 121 => ⟨S_, .i1⟩
  | 122 => ⟨S16384x17, .i1⟩
  | 123 => ⟨S16384x17x128, .f32⟩
  | 124 => ⟨S16384x17x128, .i1⟩
  | 125 => ⟨S_, .f32⟩
  | 126 => ⟨S16384x17x128, .f32⟩
  | 127 => ⟨S16384x17x128, .f32⟩
  | _ => ⟨S16384x17x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x17x128, .f32⟩

abbrev bufTy : (tb : Table) → Fin (tcTables nBuf tb) → BufTy
  | .hbm, ⟨i, _⟩ => hbmTy i
  | _, _ => ⟨S16384x17x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_call1_call0_v0 : Ref sig .tc := ⟨.hbm, 250, rfl⟩
abbrev main_call1_call0_v1 : Ref sig .tc := ⟨.hbm, 251, rfl⟩
abbrev main_call1_call0_v2 : Ref sig .tc := ⟨.hbm, 252, rfl⟩
abbrev main_call1_call0_v3 : Ref sig .tc := ⟨.hbm, 253, rfl⟩
abbrev main_call1_call0_v4 : Ref sig .tc := ⟨.hbm, 254, rfl⟩
abbrev main_call1_call0_c : Ref sig .tc := ⟨.hbm, 255, rfl⟩
abbrev main_call1_call0_v5 : Ref sig .tc := ⟨.hbm, 256, rfl⟩
abbrev main_call1_call0_v6 : Ref sig .tc := ⟨.hbm, 257, rfl⟩
abbrev main_call1_call0_c_0 : Ref sig .tc := ⟨.hbm, 258, rfl⟩
abbrev main_call1_call0_v7 : Ref sig .tc := ⟨.hbm, 259, rfl⟩
abbrev main_call1_call0_v8 : Ref sig .tc := ⟨.hbm, 260, rfl⟩
abbrev main_call1_call0_v9 : Ref sig .tc := ⟨.hbm, 261, rfl⟩
abbrev main_call1_call0_v10 : Ref sig .tc := ⟨.hbm, 262, rfl⟩
abbrev main_call1_call0_v11 : Ref sig .tc := ⟨.hbm, 263, rfl⟩
abbrev main_call1_call0_v12 : Ref sig .tc := ⟨.hbm, 264, rfl⟩
abbrev main_call1_call0_v13 : Ref sig .tc := ⟨.hbm, 265, rfl⟩
abbrev main_call1_call0_v14 : Ref sig .tc := ⟨.hbm, 266, rfl⟩
abbrev main_call1_call0_call0_v0 : Ref sig .tc := ⟨.hbm, 267, rfl⟩
abbrev main_call1_call0_call0_c : Ref sig .tc := ⟨.hbm, 268, rfl⟩
abbrev main_call1_call0_call0_v1 : Ref sig .tc := ⟨.hbm, 269, rfl⟩
abbrev main_call1_call0_call0_v2 : Ref sig .tc := ⟨.hbm, 270, rfl⟩
abbrev main_call1_call0_call0_v3 : Ref sig .tc := ⟨.hbm, 271, rfl⟩
abbrev main_call1_call0_call0_v4 : Ref sig .tc := ⟨.hbm, 272, rfl⟩
abbrev main_call1_call0_call0_v5 : Ref sig .tc := ⟨.hbm, 273, rfl⟩
abbrev main_call1_call0_call0_v6 : Ref sig .tc := ⟨.hbm, 274, rfl⟩
abbrev main_call1_call0_call0_v7 : Ref sig .tc := ⟨.hbm, 275, rfl⟩
abbrev main_call1_call0_call0_v8 : Ref sig .tc := ⟨.hbm, 276, rfl⟩
abbrev main_call1_call0_call0_v9 : Ref sig .tc := ⟨.hbm, 277, rfl⟩
abbrev main_call1_call0_call0_c_0 : Ref sig .tc := ⟨.hbm, 278, rfl⟩
abbrev main_call1_call0_call0_v10 : Ref sig .tc := ⟨.hbm, 279, rfl⟩
abbrev main_call1_call0_call0_v11 : Ref sig .tc := ⟨.hbm, 280, rfl⟩
abbrev main_call1_call0_call0_c_1 : Ref sig .tc := ⟨.hbm, 281, rfl⟩
abbrev main_call1_call0_call0_v12 : Ref sig .tc := ⟨.hbm, 282, rfl⟩
abbrev main_call1_call0_call0_v13 : Ref sig .tc := ⟨.hbm, 283, rfl⟩
abbrev main_call1_call0_call0_v14 : Ref sig .tc := ⟨.hbm, 284, rfl⟩
abbrev main_call1_call0_call0_v15 : Ref sig .tc := ⟨.hbm, 285, rfl⟩
abbrev main_call1_call0_call0_v16 : Ref sig .tc := ⟨.hbm, 286, rfl⟩
abbrev main_call1_call0_call0_c_2 : Ref sig .tc := ⟨.hbm, 287, rfl⟩
abbrev main_call1_call0_call0_v17 : Ref sig .tc := ⟨.hbm, 288, rfl⟩
abbrev main_call1_call0_call0_v18 : Ref sig .tc := ⟨.hbm, 289, rfl⟩
abbrev main_call1_call0_call0_c_3 : Ref sig .tc := ⟨.hbm, 290, rfl⟩
abbrev main_call1_call0_call0_v19 : Ref sig .tc := ⟨.hbm, 291, rfl⟩
abbrev main_call1_call0_call0_v20 : Ref sig .tc := ⟨.hbm, 292, rfl⟩
abbrev main_call1_call0_call0_v21 : Ref sig .tc := ⟨.hbm, 293, rfl⟩
abbrev main_call1_call0_call0_v22 : Ref sig .tc := ⟨.hbm, 294, rfl⟩
abbrev main_call1_call0_call0_v23 : Ref sig .tc := ⟨.hbm, 295, rfl⟩
abbrev main_call1_call0_call0_c_4 : Ref sig .tc := ⟨.hbm, 296, rfl⟩
abbrev main_call1_call0_call0_v24 : Ref sig .tc := ⟨.hbm, 297, rfl⟩
abbrev main_call1_call0_call0_v25 : Ref sig .tc := ⟨.hbm, 298, rfl⟩
abbrev main_call1_call0_call0_c_5 : Ref sig .tc := ⟨.hbm, 299, rfl⟩
abbrev main_call1_call0_call0_v26 : Ref sig .tc := ⟨.hbm, 300, rfl⟩
abbrev main_call1_call0_call0_v27 : Ref sig .tc := ⟨.hbm, 301, rfl⟩
abbrev main_call1_call0_call0_v28 : Ref sig .tc := ⟨.hbm, 302, rfl⟩
abbrev main_call1_call0_call0_v29 : Ref sig .tc := ⟨.hbm, 303, rfl⟩
abbrev main_call1_call0_call0_v30 : Ref sig .tc := ⟨.hbm, 304, rfl⟩
abbrev main_call1_call0_call0_c_6 : Ref sig .tc := ⟨.hbm, 305, rfl⟩
abbrev main_call1_call0_call0_v31 : Ref sig .tc := ⟨.hbm, 306, rfl⟩
abbrev main_call1_call0_call0_v32 : Ref sig .tc := ⟨.hbm, 307, rfl⟩
abbrev main_call1_call0_call0_c_7 : Ref sig .tc := ⟨.hbm, 308, rfl⟩
abbrev main_call1_call0_call0_v33 : Ref sig .tc := ⟨.hbm, 309, rfl⟩
abbrev main_call1_call0_call0_v34 : Ref sig .tc := ⟨.hbm, 310, rfl⟩
abbrev main_call1_call0_call0_v35 : Ref sig .tc := ⟨.hbm, 311, rfl⟩
abbrev main_call1_call0_call0_v36 : Ref sig .tc := ⟨.hbm, 312, rfl⟩
abbrev main_call1_call0_call0_v37 : Ref sig .tc := ⟨.hbm, 313, rfl⟩
abbrev main_call1_call0_call0_v38 : Ref sig .tc := ⟨.hbm, 314, rfl⟩
abbrev main_call1_call0_call0_v39 : Ref sig .tc := ⟨.hbm, 315, rfl⟩
abbrev main_call1_call0_call0_v40 : Ref sig .tc := ⟨.hbm, 316, rfl⟩
abbrev main_call1_call0_call0_c_8 : Ref sig .tc := ⟨.hbm, 317, rfl⟩
abbrev main_call1_call0_call0_v41 : Ref sig .tc := ⟨.hbm, 318, rfl⟩
abbrev main_call1_call0_call0_v42 : Ref sig .tc := ⟨.hbm, 319, rfl⟩
abbrev main_call1_call0_call0_v43 : Ref sig .tc := ⟨.hbm, 320, rfl⟩
abbrev main_call1_call0_call0_c_9 : Ref sig .tc := ⟨.hbm, 321, rfl⟩
abbrev main_call1_call0_call0_v44 : Ref sig .tc := ⟨.hbm, 322, rfl⟩
abbrev main_call1_call0_call0_v45 : Ref sig .tc := ⟨.hbm, 323, rfl⟩
abbrev main_call1_call0_call0_c_10 : Ref sig .tc := ⟨.hbm, 324, rfl⟩
abbrev main_call1_call0_call0_v46 : Ref sig .tc := ⟨.hbm, 325, rfl⟩
abbrev main_call1_call0_call0_v47 : Ref sig .tc := ⟨.hbm, 326, rfl⟩
abbrev main_call1_call0_call0_v48 : Ref sig .tc := ⟨.hbm, 327, rfl⟩
abbrev main_call1_call0_call0_v49 : Ref sig .tc := ⟨.hbm, 328, rfl⟩
abbrev main_call1_call0_call0_v50 : Ref sig .tc := ⟨.hbm, 329, rfl⟩
abbrev main_call1_call0_call0_c_11 : Ref sig .tc := ⟨.hbm, 330, rfl⟩
abbrev main_call1_call0_call0_v51 : Ref sig .tc := ⟨.hbm, 331, rfl⟩
abbrev main_call1_call0_call0_v52 : Ref sig .tc := ⟨.hbm, 332, rfl⟩
abbrev main_call1_call0_call0_c_12 : Ref sig .tc := ⟨.hbm, 333, rfl⟩
abbrev main_call1_call0_call0_v53 : Ref sig .tc := ⟨.hbm, 334, rfl⟩
abbrev main_call1_call0_call0_v54 : Ref sig .tc := ⟨.hbm, 335, rfl⟩
abbrev main_call1_call0_call0_v55 : Ref sig .tc := ⟨.hbm, 336, rfl⟩
abbrev main_call1_call0_call0_v56 : Ref sig .tc := ⟨.hbm, 337, rfl⟩
abbrev main_call1_call0_call0_v57 : Ref sig .tc := ⟨.hbm, 338, rfl⟩
abbrev main_call1_call0_call0_c_13 : Ref sig .tc := ⟨.hbm, 339, rfl⟩
abbrev main_call1_call0_call0_v58 : Ref sig .tc := ⟨.hbm, 340, rfl⟩
abbrev main_call1_call0_call0_v59 : Ref sig .tc := ⟨.hbm, 341, rfl⟩
abbrev main_call1_call0_call0_c_14 : Ref sig .tc := ⟨.hbm, 342, rfl⟩
abbrev main_call1_call0_call0_v60 : Ref sig .tc := ⟨.hbm, 343, rfl⟩
abbrev main_call1_call0_call0_v61 : Ref sig .tc := ⟨.hbm, 344, rfl⟩
abbrev main_call1_call0_call0_v62 : Ref sig .tc := ⟨.hbm, 345, rfl⟩
abbrev main_call1_call0_call0_v63 : Ref sig .tc := ⟨.hbm, 346, rfl⟩
abbrev main_call1_call0_call0_v64 : Ref sig .tc := ⟨.hbm, 347, rfl⟩
abbrev main_call1_call0_call0_c_15 : Ref sig .tc := ⟨.hbm, 348, rfl⟩
abbrev main_call1_call0_call0_v65 : Ref sig .tc := ⟨.hbm, 349, rfl⟩
abbrev main_call1_call0_call0_v66 : Ref sig .tc := ⟨.hbm, 350, rfl⟩
abbrev main_call1_call0_call0_c_16 : Ref sig .tc := ⟨.hbm, 351, rfl⟩
abbrev main_call1_call0_call0_v67 : Ref sig .tc := ⟨.hbm, 352, rfl⟩
abbrev main_call1_call0_call0_v68 : Ref sig .tc := ⟨.hbm, 353, rfl⟩
abbrev main_call1_call0_call0_v69 : Ref sig .tc := ⟨.hbm, 354, rfl⟩
abbrev main_call1_call0_call0_v70 : Ref sig .tc := ⟨.hbm, 355, rfl⟩
abbrev main_call1_call0_call0_v71 : Ref sig .tc := ⟨.hbm, 356, rfl⟩
abbrev main_call1_call0_call0_v72 : Ref sig .tc := ⟨.hbm, 357, rfl⟩
abbrev main_call1_call0_call0_v73 : Ref sig .tc := ⟨.hbm, 358, rfl⟩
abbrev main_call1_call0_call0_v74 : Ref sig .tc := ⟨.hbm, 359, rfl⟩
abbrev main_call1_call0_call0_c_17 : Ref sig .tc := ⟨.hbm, 360, rfl⟩
abbrev main_call1_call0_call0_v75 : Ref sig .tc := ⟨.hbm, 361, rfl⟩
abbrev main_call1_call0_call0_v76 : Ref sig .tc := ⟨.hbm, 362, rfl⟩
abbrev main_call1_call0_call0_v77 : Ref sig .tc := ⟨.hbm, 363, rfl⟩
abbrev main_call1_call0_call0_c_18 : Ref sig .tc := ⟨.hbm, 364, rfl⟩
abbrev main_call1_call0_call0_v78 : Ref sig .tc := ⟨.hbm, 365, rfl⟩
abbrev main_call1_call0_call0_v79 : Ref sig .tc := ⟨.hbm, 366, rfl⟩
abbrev main_call1_call0_call0_c_19 : Ref sig .tc := ⟨.hbm, 367, rfl⟩
abbrev main_call1_call0_call0_v80 : Ref sig .tc := ⟨.hbm, 368, rfl⟩
abbrev main_call1_call0_call0_v81 : Ref sig .tc := ⟨.hbm, 369, rfl⟩
abbrev main_call1_call0_call0_v82 : Ref sig .tc := ⟨.hbm, 370, rfl⟩
abbrev main_call1_call0_call0_v83 : Ref sig .tc := ⟨.hbm, 371, rfl⟩
abbrev main_call1_call0_call0_v84 : Ref sig .tc := ⟨.hbm, 372, rfl⟩
abbrev main_call1_call0_call0_c_20 : Ref sig .tc := ⟨.hbm, 373, rfl⟩
abbrev main_call1_call0_call0_v85 : Ref sig .tc := ⟨.hbm, 374, rfl⟩
abbrev main_call1_call0_call0_v86 : Ref sig .tc := ⟨.hbm, 375, rfl⟩
abbrev main_call1_call0_call0_c_21 : Ref sig .tc := ⟨.hbm, 376, rfl⟩
abbrev main_call1_call0_call0_v87 : Ref sig .tc := ⟨.hbm, 377, rfl⟩
abbrev main_call1_call0_call0_v88 : Ref sig .tc := ⟨.hbm, 378, rfl⟩
abbrev main_call1_call0_call0_v89 : Ref sig .tc := ⟨.hbm, 379, rfl⟩
abbrev main_call1_call0_call0_v90 : Ref sig .tc := ⟨.hbm, 380, rfl⟩
abbrev main_call1_call0_call0_v91 : Ref sig .tc := ⟨.hbm, 381, rfl⟩
abbrev main_call1_call0_call0_c_22 : Ref sig .tc := ⟨.hbm, 382, rfl⟩
abbrev main_call1_call0_call0_v92 : Ref sig .tc := ⟨.hbm, 383, rfl⟩
abbrev main_call1_call0_call0_v93 : Ref sig .tc := ⟨.hbm, 384, rfl⟩
abbrev main_call1_call0_call0_c_23 : Ref sig .tc := ⟨.hbm, 385, rfl⟩
abbrev main_call1_call0_call0_v94 : Ref sig .tc := ⟨.hbm, 386, rfl⟩
abbrev main_call1_call0_call0_v95 : Ref sig .tc := ⟨.hbm, 387, rfl⟩
abbrev main_call1_call0_call0_v96 : Ref sig .tc := ⟨.hbm, 388, rfl⟩
abbrev main_call1_call0_call0_v97 : Ref sig .tc := ⟨.hbm, 389, rfl⟩
abbrev main_call1_call0_call0_v98 : Ref sig .tc := ⟨.hbm, 390, rfl⟩
abbrev main_call1_call0_call0_c_24 : Ref sig .tc := ⟨.hbm, 391, rfl⟩
abbrev main_call1_call0_call0_v99 : Ref sig .tc := ⟨.hbm, 392, rfl⟩
abbrev main_call1_call0_call0_v100 : Ref sig .tc := ⟨.hbm, 393, rfl⟩
abbrev main_call1_call0_call0_c_25 : Ref sig .tc := ⟨.hbm, 394, rfl⟩
abbrev main_call1_call0_call0_v101 : Ref sig .tc := ⟨.hbm, 395, rfl⟩
abbrev main_call1_call0_call0_v102 : Ref sig .tc := ⟨.hbm, 396, rfl⟩
abbrev main_call1_call0_call0_v103 : Ref sig .tc := ⟨.hbm, 397, rfl⟩
abbrev main_call1_call0_call0_v104 : Ref sig .tc := ⟨.hbm, 398, rfl⟩
abbrev main_call1_call0_call0_v105 : Ref sig .tc := ⟨.hbm, 399, rfl⟩
abbrev main_call1_call0_call0_v106 : Ref sig .tc := ⟨.hbm, 400, rfl⟩
abbrev main_call1_call0_call0_v107 : Ref sig .tc := ⟨.hbm, 401, rfl⟩
abbrev main_call1_call0_call0_v108 : Ref sig .tc := ⟨.hbm, 402, rfl⟩
abbrev main_call1_call0_call0_c_26 : Ref sig .tc := ⟨.hbm, 403, rfl⟩
abbrev main_call1_call0_call0_v109 : Ref sig .tc := ⟨.hbm, 404, rfl⟩
abbrev main_call1_call0_call0_v110 : Ref sig .tc := ⟨.hbm, 405, rfl⟩
abbrev main_call1_call0_call0_v111 : Ref sig .tc := ⟨.hbm, 406, rfl⟩
abbrev main_call1_call0_call0_c_27 : Ref sig .tc := ⟨.hbm, 407, rfl⟩
abbrev main_call1_call0_call0_v112 : Ref sig .tc := ⟨.hbm, 408, rfl⟩
abbrev main_call1_call0_call0_v113 : Ref sig .tc := ⟨.hbm, 409, rfl⟩
abbrev main_call1_call0_call0_c_28 : Ref sig .tc := ⟨.hbm, 410, rfl⟩
abbrev main_call1_call0_call0_v114 : Ref sig .tc := ⟨.hbm, 411, rfl⟩
abbrev main_call1_call0_call0_v115 : Ref sig .tc := ⟨.hbm, 412, rfl⟩
abbrev main_call1_call0_call0_v116 : Ref sig .tc := ⟨.hbm, 413, rfl⟩
abbrev main_call1_call0_call0_v117 : Ref sig .tc := ⟨.hbm, 414, rfl⟩
abbrev main_call1_call0_call0_v118 : Ref sig .tc := ⟨.hbm, 415, rfl⟩
abbrev main_call1_call0_call0_c_29 : Ref sig .tc := ⟨.hbm, 416, rfl⟩
abbrev main_call1_call0_call0_v119 : Ref sig .tc := ⟨.hbm, 417, rfl⟩
abbrev main_call1_call0_call0_v120 : Ref sig .tc := ⟨.hbm, 418, rfl⟩
abbrev main_call1_call0_call0_c_30 : Ref sig .tc := ⟨.hbm, 419, rfl⟩
abbrev main_call1_call0_call0_v121 : Ref sig .tc := ⟨.hbm, 420, rfl⟩
abbrev main_call1_call0_call0_v122 : Ref sig .tc := ⟨.hbm, 421, rfl⟩
abbrev main_call1_call0_call0_v123 : Ref sig .tc := ⟨.hbm, 422, rfl⟩
abbrev main_call1_call0_call0_v124 : Ref sig .tc := ⟨.hbm, 423, rfl⟩
abbrev main_call1_call0_call0_v125 : Ref sig .tc := ⟨.hbm, 424, rfl⟩
abbrev main_call1_call0_call0_c_31 : Ref sig .tc := ⟨.hbm, 425, rfl⟩
abbrev main_call1_call0_call0_v126 : Ref sig .tc := ⟨.hbm, 426, rfl⟩
abbrev main_call1_call0_call0_v127 : Ref sig .tc := ⟨.hbm, 427, rfl⟩
abbrev main_call1_call0_call0_c_32 : Ref sig .tc := ⟨.hbm, 428, rfl⟩
abbrev main_call1_call0_call0_v128 : Ref sig .tc := ⟨.hbm, 429, rfl⟩
abbrev main_call1_call0_call0_v129 : Ref sig .tc := ⟨.hbm, 430, rfl⟩
abbrev main_call1_call0_call0_v130 : Ref sig .tc := ⟨.hbm, 431, rfl⟩
abbrev main_call1_call0_call0_v131 : Ref sig .tc := ⟨.hbm, 432, rfl⟩
abbrev main_call1_call0_call0_v132 : Ref sig .tc := ⟨.hbm, 433, rfl⟩
abbrev main_call1_call0_call0_c_33 : Ref sig .tc := ⟨.hbm, 434, rfl⟩
abbrev main_call1_call0_call0_v133 : Ref sig .tc := ⟨.hbm, 435, rfl⟩
abbrev main_call1_call0_call0_v134 : Ref sig .tc := ⟨.hbm, 436, rfl⟩
abbrev main_call1_call0_call0_c_34 : Ref sig .tc := ⟨.hbm, 437, rfl⟩
abbrev main_call1_call0_call0_v135 : Ref sig .tc := ⟨.hbm, 438, rfl⟩
abbrev main_call1_call0_call0_v136 : Ref sig .tc := ⟨.hbm, 439, rfl⟩
abbrev main_call1_call0_call0_v137 : Ref sig .tc := ⟨.hbm, 440, rfl⟩
abbrev main_call1_call0_call0_v138 : Ref sig .tc := ⟨.hbm, 441, rfl⟩
abbrev main_call1_call0_call0_v139 : Ref sig .tc := ⟨.hbm, 442, rfl⟩
abbrev main_call1_call0_call0_v140 : Ref sig .tc := ⟨.hbm, 443, rfl⟩
abbrev main_call1_call0_call0_v141 : Ref sig .tc := ⟨.hbm, 444, rfl⟩
abbrev main_call1_call0_call0_v142 : Ref sig .tc := ⟨.hbm, 445, rfl⟩
abbrev main_call1_call0_call0_c_35 : Ref sig .tc := ⟨.hbm, 446, rfl⟩
abbrev main_call1_call0_call0_v143 : Ref sig .tc := ⟨.hbm, 447, rfl⟩
abbrev main_call1_call0_call0_v144 : Ref sig .tc := ⟨.hbm, 448, rfl⟩
abbrev main_call1_call0_call0_v145 : Ref sig .tc := ⟨.hbm, 449, rfl⟩
abbrev main_call1_call0_call0_c_36 : Ref sig .tc := ⟨.hbm, 450, rfl⟩
abbrev main_call1_call0_call0_v146 : Ref sig .tc := ⟨.hbm, 451, rfl⟩
abbrev main_call1_call0_call0_v147 : Ref sig .tc := ⟨.hbm, 452, rfl⟩
abbrev main_call1_call0_call0_c_37 : Ref sig .tc := ⟨.hbm, 453, rfl⟩
abbrev main_call1_call0_call0_v148 : Ref sig .tc := ⟨.hbm, 454, rfl⟩
abbrev main_call1_call0_call0_v149 : Ref sig .tc := ⟨.hbm, 455, rfl⟩
abbrev main_call1_call0_call0_v150 : Ref sig .tc := ⟨.hbm, 456, rfl⟩
abbrev main_call1_call0_call0_v151 : Ref sig .tc := ⟨.hbm, 457, rfl⟩
abbrev main_call1_call0_call0_v152 : Ref sig .tc := ⟨.hbm, 458, rfl⟩
abbrev main_call1_call0_call0_c_38 : Ref sig .tc := ⟨.hbm, 459, rfl⟩
abbrev main_call1_call0_call0_v153 : Ref sig .tc := ⟨.hbm, 460, rfl⟩
abbrev main_call1_call0_call0_v154 : Ref sig .tc := ⟨.hbm, 461, rfl⟩
abbrev main_call1_call0_call0_c_39 : Ref sig .tc := ⟨.hbm, 462, rfl⟩
abbrev main_call1_call0_call0_v155 : Ref sig .tc := ⟨.hbm, 463, rfl⟩
abbrev main_call1_call0_call0_v156 : Ref sig .tc := ⟨.hbm, 464, rfl⟩
abbrev main_call1_call0_call0_v157 : Ref sig .tc := ⟨.hbm, 465, rfl⟩
abbrev main_call1_call0_call0_v158 : Ref sig .tc := ⟨.hbm, 466, rfl⟩
abbrev main_call1_call0_call0_v159 : Ref sig .tc := ⟨.hbm, 467, rfl⟩
abbrev main_call1_call0_call0_c_40 : Ref sig .tc := ⟨.hbm, 468, rfl⟩
abbrev main_call1_call0_call0_v160 : Ref sig .tc := ⟨.hbm, 469, rfl⟩
abbrev main_call1_call0_call0_v161 : Ref sig .tc := ⟨.hbm, 470, rfl⟩
abbrev main_call1_call0_call0_c_41 : Ref sig .tc := ⟨.hbm, 471, rfl⟩
abbrev main_call1_call0_call0_v162 : Ref sig .tc := ⟨.hbm, 472, rfl⟩
abbrev main_call1_call0_call0_v163 : Ref sig .tc := ⟨.hbm, 473, rfl⟩
abbrev main_call1_call0_call0_v164 : Ref sig .tc := ⟨.hbm, 474, rfl⟩
abbrev main_call1_call0_call0_v165 : Ref sig .tc := ⟨.hbm, 475, rfl⟩
abbrev main_call1_call0_call0_v166 : Ref sig .tc := ⟨.hbm, 476, rfl⟩
abbrev main_call1_call0_call0_c_42 : Ref sig .tc := ⟨.hbm, 477, rfl⟩
abbrev main_call1_call0_call0_v167 : Ref sig .tc := ⟨.hbm, 478, rfl⟩
abbrev main_call1_call0_call0_v168 : Ref sig .tc := ⟨.hbm, 479, rfl⟩
abbrev main_call1_call0_call0_c_43 : Ref sig .tc := ⟨.hbm, 480, rfl⟩
abbrev main_call1_call0_call0_v169 : Ref sig .tc := ⟨.hbm, 481, rfl⟩
abbrev main_call1_call0_call0_v170 : Ref sig .tc := ⟨.hbm, 482, rfl⟩
abbrev main_call1_call0_call0_v171 : Ref sig .tc := ⟨.hbm, 483, rfl⟩
abbrev main_call1_call0_call0_v172 : Ref sig .tc := ⟨.hbm, 484, rfl⟩
abbrev main_call1_call0_call0_v173 : Ref sig .tc := ⟨.hbm, 485, rfl⟩
abbrev main_call1_call0_v15_0 : Ref sig .tc := ⟨.hbm, 486, rfl⟩
abbrev main_call1_call0_call0_v175 : Ref sig .tc := ⟨.hbm, 487, rfl⟩
abbrev main_call1_call0_call0_v176 : Ref sig .tc := ⟨.hbm, 488, rfl⟩
abbrev main_call1_call0_call0_c_44 : Ref sig .tc := ⟨.hbm, 489, rfl⟩
abbrev main_call1_call0_call0_v177 : Ref sig .tc := ⟨.hbm, 490, rfl⟩
abbrev main_call1_call0_v15_1 : Ref sig .tc := ⟨.hbm, 491, rfl⟩
abbrev main_call1_call0_v16 : Ref sig .tc := ⟨.hbm, 492, rfl⟩
abbrev main_call1_call0_v17 : Ref sig .tc := ⟨.hbm, 493, rfl⟩
abbrev main_call1_v0 : Ref sig .tc := ⟨.hbm, 494, rfl⟩
abbrev main_call1_v1 : Ref sig .tc := ⟨.hbm, 495, rfl⟩
abbrev main_call1_v2 : Ref sig .tc := ⟨.hbm, 496, rfl⟩
abbrev main_call1_v3 : Ref sig .tc := ⟨.hbm, 497, rfl⟩
abbrev main_call1_v4 : Ref sig .tc := ⟨.hbm, 498, rfl⟩
abbrev main_call1_v5 : Ref sig .tc := ⟨.hbm, 499, rfl⟩
abbrev main_call1_v6 : Ref sig .tc := ⟨.hbm, 500, rfl⟩
abbrev main_call1_v7 : Ref sig .tc := ⟨.hbm, 501, rfl⟩
abbrev main_call1_v8 : Ref sig .tc := ⟨.hbm, 502, rfl⟩
abbrev main_call1_v9 : Ref sig .tc := ⟨.hbm, 503, rfl⟩
abbrev main_call1_c : Ref sig .tc := ⟨.hbm, 504, rfl⟩
abbrev main_call1_v10 : Ref sig .tc := ⟨.hbm, 505, rfl⟩
abbrev main_call1_v11 : Ref sig .tc := ⟨.hbm, 506, rfl⟩
abbrev main_call1_c_0 : Ref sig .tc := ⟨.hbm, 507, rfl⟩
abbrev main_call1_v12 : Ref sig .tc := ⟨.hbm, 508, rfl⟩
abbrev main_call1_v13 : Ref sig .tc := ⟨.hbm, 509, rfl⟩
abbrev main_call1_v14 : Ref sig .tc := ⟨.hbm, 510, rfl⟩
abbrev main_call1_v15 : Ref sig .tc := ⟨.hbm, 511, rfl⟩
abbrev main_call1_v16 : Ref sig .tc := ⟨.hbm, 512, rfl⟩
abbrev main_call1_v17 : Ref sig .tc := ⟨.hbm, 513, rfl⟩
abbrev main_call1_v18 : Ref sig .tc := ⟨.hbm, 514, rfl⟩
abbrev main_call1_v19 : Ref sig .tc := ⟨.hbm, 515, rfl⟩
abbrev main_call1_call1_v0 : Ref sig .tc := ⟨.hbm, 516, rfl⟩
abbrev main_call1_call1_c : Ref sig .tc := ⟨.hbm, 517, rfl⟩
abbrev main_call1_call1_v1 : Ref sig .tc := ⟨.hbm, 518, rfl⟩
abbrev main_call1_call1_v2 : Ref sig .tc := ⟨.hbm, 519, rfl⟩
abbrev main_call1_call1_v3 : Ref sig .tc := ⟨.hbm, 520, rfl⟩
abbrev main_call1_call1_v4 : Ref sig .tc := ⟨.hbm, 521, rfl⟩
abbrev main_call1_call1_v5 : Ref sig .tc := ⟨.hbm, 522, rfl⟩
abbrev main_call1_call1_v6 : Ref sig .tc := ⟨.hbm, 523, rfl⟩
abbrev main_call1_call1_v7 : Ref sig .tc := ⟨.hbm, 524, rfl⟩
abbrev main_call1_call1_v8 : Ref sig .tc := ⟨.hbm, 525, rfl⟩
abbrev main_call1_call1_v9 : Ref sig .tc := ⟨.hbm, 526, rfl⟩
abbrev main_call1_call1_c_0 : Ref sig .tc := ⟨.hbm, 527, rfl⟩
abbrev main_call1_call1_v10 : Ref sig .tc := ⟨.hbm, 528, rfl⟩
abbrev main_call1_call1_v11 : Ref sig .tc := ⟨.hbm, 529, rfl⟩
abbrev main_call1_call1_c_1 : Ref sig .tc := ⟨.hbm, 530, rfl⟩
abbrev main_call1_call1_v12 : Ref sig .tc := ⟨.hbm, 531, rfl⟩
abbrev main_call1_call1_v13 : Ref sig .tc := ⟨.hbm, 532, rfl⟩
abbrev main_call1_call1_v14 : Ref sig .tc := ⟨.hbm, 533, rfl⟩
abbrev main_call1_call1_v15 : Ref sig .tc := ⟨.hbm, 534, rfl⟩
abbrev main_call1_call1_v16 : Ref sig .tc := ⟨.hbm, 535, rfl⟩
abbrev main_call1_call1_c_2 : Ref sig .tc := ⟨.hbm, 536, rfl⟩
abbrev main_call1_call1_v17 : Ref sig .tc := ⟨.hbm, 537, rfl⟩
abbrev main_call1_call1_v18 : Ref sig .tc := ⟨.hbm, 538, rfl⟩
abbrev main_call1_call1_c_3 : Ref sig .tc := ⟨.hbm, 539, rfl⟩
abbrev main_call1_call1_v19 : Ref sig .tc := ⟨.hbm, 540, rfl⟩
abbrev main_call1_call1_v20 : Ref sig .tc := ⟨.hbm, 541, rfl⟩
abbrev main_call1_call1_v21 : Ref sig .tc := ⟨.hbm, 542, rfl⟩
abbrev main_call1_call1_v22 : Ref sig .tc := ⟨.hbm, 543, rfl⟩
abbrev main_call1_call1_v23 : Ref sig .tc := ⟨.hbm, 544, rfl⟩
abbrev main_call1_call1_c_4 : Ref sig .tc := ⟨.hbm, 545, rfl⟩
abbrev main_call1_call1_v24 : Ref sig .tc := ⟨.hbm, 546, rfl⟩
abbrev main_call1_call1_v25 : Ref sig .tc := ⟨.hbm, 547, rfl⟩
abbrev main_call1_call1_c_5 : Ref sig .tc := ⟨.hbm, 548, rfl⟩
abbrev main_call1_call1_v26 : Ref sig .tc := ⟨.hbm, 549, rfl⟩
abbrev main_call1_call1_v27 : Ref sig .tc := ⟨.hbm, 550, rfl⟩
abbrev main_call1_call1_v28 : Ref sig .tc := ⟨.hbm, 551, rfl⟩
abbrev main_call1_call1_v29 : Ref sig .tc := ⟨.hbm, 552, rfl⟩
abbrev main_call1_call1_v30 : Ref sig .tc := ⟨.hbm, 553, rfl⟩
abbrev main_call1_call1_c_6 : Ref sig .tc := ⟨.hbm, 554, rfl⟩
abbrev main_call1_call1_v31 : Ref sig .tc := ⟨.hbm, 555, rfl⟩
abbrev main_call1_call1_v32 : Ref sig .tc := ⟨.hbm, 556, rfl⟩
abbrev main_call1_call1_c_7 : Ref sig .tc := ⟨.hbm, 557, rfl⟩
abbrev main_call1_call1_v33 : Ref sig .tc := ⟨.hbm, 558, rfl⟩
abbrev main_call1_call1_v34 : Ref sig .tc := ⟨.hbm, 559, rfl⟩
abbrev main_call1_call1_v35 : Ref sig .tc := ⟨.hbm, 560, rfl⟩
abbrev main_call1_call1_v36 : Ref sig .tc := ⟨.hbm, 561, rfl⟩
abbrev main_call1_call1_v37 : Ref sig .tc := ⟨.hbm, 562, rfl⟩
abbrev main_call1_call1_v38 : Ref sig .tc := ⟨.hbm, 563, rfl⟩
abbrev main_call1_call1_v39 : Ref sig .tc := ⟨.hbm, 564, rfl⟩
abbrev main_call1_call1_v40 : Ref sig .tc := ⟨.hbm, 565, rfl⟩
abbrev main_call1_call1_c_8 : Ref sig .tc := ⟨.hbm, 566, rfl⟩
abbrev main_call1_call1_v41 : Ref sig .tc := ⟨.hbm, 567, rfl⟩
abbrev main_call1_call1_v42 : Ref sig .tc := ⟨.hbm, 568, rfl⟩
abbrev main_call1_call1_v43 : Ref sig .tc := ⟨.hbm, 569, rfl⟩
abbrev main_call1_call1_c_9 : Ref sig .tc := ⟨.hbm, 570, rfl⟩
abbrev main_call1_call1_v44 : Ref sig .tc := ⟨.hbm, 571, rfl⟩
abbrev main_call1_call1_v45 : Ref sig .tc := ⟨.hbm, 572, rfl⟩
abbrev main_call1_call1_c_10 : Ref sig .tc := ⟨.hbm, 573, rfl⟩
abbrev main_call1_call1_v46 : Ref sig .tc := ⟨.hbm, 574, rfl⟩
abbrev main_call1_call1_v47 : Ref sig .tc := ⟨.hbm, 575, rfl⟩
abbrev main_call1_call1_v48 : Ref sig .tc := ⟨.hbm, 576, rfl⟩
abbrev main_call1_call1_v49 : Ref sig .tc := ⟨.hbm, 577, rfl⟩
abbrev main_call1_call1_v50 : Ref sig .tc := ⟨.hbm, 578, rfl⟩
abbrev main_call1_call1_c_11 : Ref sig .tc := ⟨.hbm, 579, rfl⟩
abbrev main_call1_call1_v51 : Ref sig .tc := ⟨.hbm, 580, rfl⟩
abbrev main_call1_call1_v52 : Ref sig .tc := ⟨.hbm, 581, rfl⟩
abbrev main_call1_call1_c_12 : Ref sig .tc := ⟨.hbm, 582, rfl⟩
abbrev main_call1_call1_v53 : Ref sig .tc := ⟨.hbm, 583, rfl⟩
abbrev main_call1_call1_v54 : Ref sig .tc := ⟨.hbm, 584, rfl⟩
abbrev main_call1_call1_v55 : Ref sig .tc := ⟨.hbm, 585, rfl⟩
abbrev main_call1_call1_v56 : Ref sig .tc := ⟨.hbm, 586, rfl⟩
abbrev main_call1_call1_v57 : Ref sig .tc := ⟨.hbm, 587, rfl⟩
abbrev main_call1_call1_c_13 : Ref sig .tc := ⟨.hbm, 588, rfl⟩
abbrev main_call1_call1_v58 : Ref sig .tc := ⟨.hbm, 589, rfl⟩
abbrev main_call1_call1_v59 : Ref sig .tc := ⟨.hbm, 590, rfl⟩
abbrev main_call1_call1_c_14 : Ref sig .tc := ⟨.hbm, 591, rfl⟩
abbrev main_call1_call1_v60 : Ref sig .tc := ⟨.hbm, 592, rfl⟩
abbrev main_call1_call1_v61 : Ref sig .tc := ⟨.hbm, 593, rfl⟩
abbrev main_call1_call1_v62 : Ref sig .tc := ⟨.hbm, 594, rfl⟩
abbrev main_call1_call1_v63 : Ref sig .tc := ⟨.hbm, 595, rfl⟩
abbrev main_call1_call1_v64 : Ref sig .tc := ⟨.hbm, 596, rfl⟩
abbrev main_call1_call1_c_15 : Ref sig .tc := ⟨.hbm, 597, rfl⟩
abbrev main_call1_call1_v65 : Ref sig .tc := ⟨.hbm, 598, rfl⟩
abbrev main_call1_call1_v66 : Ref sig .tc := ⟨.hbm, 599, rfl⟩
abbrev main_call1_call1_c_16 : Ref sig .tc := ⟨.hbm, 600, rfl⟩
abbrev main_call1_call1_v67 : Ref sig .tc := ⟨.hbm, 601, rfl⟩
abbrev main_call1_call1_v68 : Ref sig .tc := ⟨.hbm, 602, rfl⟩
abbrev main_call1_call1_v69 : Ref sig .tc := ⟨.hbm, 603, rfl⟩
abbrev main_call1_call1_v70 : Ref sig .tc := ⟨.hbm, 604, rfl⟩
abbrev main_call1_call1_v71 : Ref sig .tc := ⟨.hbm, 605, rfl⟩
abbrev main_call1_call1_v72 : Ref sig .tc := ⟨.hbm, 606, rfl⟩
abbrev main_call1_call1_v73 : Ref sig .tc := ⟨.hbm, 607, rfl⟩
abbrev main_call1_call1_v74 : Ref sig .tc := ⟨.hbm, 608, rfl⟩
abbrev main_call1_call1_c_17 : Ref sig .tc := ⟨.hbm, 609, rfl⟩
abbrev main_call1_call1_v75 : Ref sig .tc := ⟨.hbm, 610, rfl⟩
abbrev main_call1_call1_v76 : Ref sig .tc := ⟨.hbm, 611, rfl⟩
abbrev main_call1_call1_v77 : Ref sig .tc := ⟨.hbm, 612, rfl⟩
abbrev main_call1_call1_c_18 : Ref sig .tc := ⟨.hbm, 613, rfl⟩
abbrev main_call1_call1_v78 : Ref sig .tc := ⟨.hbm, 614, rfl⟩
abbrev main_call1_call1_v79 : Ref sig .tc := ⟨.hbm, 615, rfl⟩
abbrev main_call1_call1_c_19 : Ref sig .tc := ⟨.hbm, 616, rfl⟩
abbrev main_call1_call1_v80 : Ref sig .tc := ⟨.hbm, 617, rfl⟩
abbrev main_call1_call1_v81 : Ref sig .tc := ⟨.hbm, 618, rfl⟩
abbrev main_call1_call1_v82 : Ref sig .tc := ⟨.hbm, 619, rfl⟩
abbrev main_call1_call1_v83 : Ref sig .tc := ⟨.hbm, 620, rfl⟩
abbrev main_call1_call1_v84 : Ref sig .tc := ⟨.hbm, 621, rfl⟩
abbrev main_call1_call1_c_20 : Ref sig .tc := ⟨.hbm, 622, rfl⟩
abbrev main_call1_call1_v85 : Ref sig .tc := ⟨.hbm, 623, rfl⟩
abbrev main_call1_call1_v86 : Ref sig .tc := ⟨.hbm, 624, rfl⟩
abbrev main_call1_call1_c_21 : Ref sig .tc := ⟨.hbm, 625, rfl⟩
abbrev main_call1_call1_v87 : Ref sig .tc := ⟨.hbm, 626, rfl⟩
abbrev main_call1_call1_v88 : Ref sig .tc := ⟨.hbm, 627, rfl⟩
abbrev main_call1_call1_v89 : Ref sig .tc := ⟨.hbm, 628, rfl⟩
abbrev main_call1_call1_v90 : Ref sig .tc := ⟨.hbm, 629, rfl⟩
abbrev main_call1_call1_v91 : Ref sig .tc := ⟨.hbm, 630, rfl⟩
abbrev main_call1_call1_c_22 : Ref sig .tc := ⟨.hbm, 631, rfl⟩
abbrev main_call1_call1_v92 : Ref sig .tc := ⟨.hbm, 632, rfl⟩
abbrev main_call1_call1_v93 : Ref sig .tc := ⟨.hbm, 633, rfl⟩
abbrev main_call1_call1_c_23 : Ref sig .tc := ⟨.hbm, 634, rfl⟩
abbrev main_call1_call1_v94 : Ref sig .tc := ⟨.hbm, 635, rfl⟩
abbrev main_call1_call1_v95 : Ref sig .tc := ⟨.hbm, 636, rfl⟩
abbrev main_call1_call1_v96 : Ref sig .tc := ⟨.hbm, 637, rfl⟩
abbrev main_call1_call1_v97 : Ref sig .tc := ⟨.hbm, 638, rfl⟩
abbrev main_call1_call1_v98 : Ref sig .tc := ⟨.hbm, 639, rfl⟩
abbrev main_call1_call1_c_24 : Ref sig .tc := ⟨.hbm, 640, rfl⟩
abbrev main_call1_call1_v99 : Ref sig .tc := ⟨.hbm, 641, rfl⟩
abbrev main_call1_call1_v100 : Ref sig .tc := ⟨.hbm, 642, rfl⟩
abbrev main_call1_call1_c_25 : Ref sig .tc := ⟨.hbm, 643, rfl⟩
abbrev main_call1_call1_v101 : Ref sig .tc := ⟨.hbm, 644, rfl⟩
abbrev main_call1_call1_v102 : Ref sig .tc := ⟨.hbm, 645, rfl⟩
abbrev main_call1_call1_v103 : Ref sig .tc := ⟨.hbm, 646, rfl⟩
abbrev main_call1_call1_v104 : Ref sig .tc := ⟨.hbm, 647, rfl⟩
abbrev main_call1_call1_v105 : Ref sig .tc := ⟨.hbm, 648, rfl⟩
abbrev main_call1_call1_v106 : Ref sig .tc := ⟨.hbm, 649, rfl⟩
abbrev main_call1_call1_v107 : Ref sig .tc := ⟨.hbm, 650, rfl⟩
abbrev main_call1_call1_v108 : Ref sig .tc := ⟨.hbm, 651, rfl⟩
abbrev main_call1_call1_c_26 : Ref sig .tc := ⟨.hbm, 652, rfl⟩
abbrev main_call1_call1_v109 : Ref sig .tc := ⟨.hbm, 653, rfl⟩
abbrev main_call1_call1_v110 : Ref sig .tc := ⟨.hbm, 654, rfl⟩
abbrev main_call1_call1_v111 : Ref sig .tc := ⟨.hbm, 655, rfl⟩
abbrev main_call1_call1_c_27 : Ref sig .tc := ⟨.hbm, 656, rfl⟩
abbrev main_call1_call1_v112 : Ref sig .tc := ⟨.hbm, 657, rfl⟩
abbrev main_call1_call1_v113 : Ref sig .tc := ⟨.hbm, 658, rfl⟩
abbrev main_call1_call1_c_28 : Ref sig .tc := ⟨.hbm, 659, rfl⟩
abbrev main_call1_call1_v114 : Ref sig .tc := ⟨.hbm, 660, rfl⟩
abbrev main_call1_call1_v115 : Ref sig .tc := ⟨.hbm, 661, rfl⟩
abbrev main_call1_call1_v116 : Ref sig .tc := ⟨.hbm, 662, rfl⟩
abbrev main_call1_call1_v117 : Ref sig .tc := ⟨.hbm, 663, rfl⟩
abbrev main_call1_call1_v118 : Ref sig .tc := ⟨.hbm, 664, rfl⟩
abbrev main_call1_call1_c_29 : Ref sig .tc := ⟨.hbm, 665, rfl⟩
abbrev main_call1_call1_v119 : Ref sig .tc := ⟨.hbm, 666, rfl⟩
abbrev main_call1_call1_v120 : Ref sig .tc := ⟨.hbm, 667, rfl⟩
abbrev main_call1_call1_c_30 : Ref sig .tc := ⟨.hbm, 668, rfl⟩
abbrev main_call1_call1_v121 : Ref sig .tc := ⟨.hbm, 669, rfl⟩
abbrev main_call1_call1_v122 : Ref sig .tc := ⟨.hbm, 670, rfl⟩
abbrev main_call1_call1_v123 : Ref sig .tc := ⟨.hbm, 671, rfl⟩
abbrev main_call1_call1_v124 : Ref sig .tc := ⟨.hbm, 672, rfl⟩
abbrev main_call1_call1_v125 : Ref sig .tc := ⟨.hbm, 673, rfl⟩
abbrev main_call1_call1_c_31 : Ref sig .tc := ⟨.hbm, 674, rfl⟩
abbrev main_call1_call1_v126 : Ref sig .tc := ⟨.hbm, 675, rfl⟩
abbrev main_call1_call1_v127 : Ref sig .tc := ⟨.hbm, 676, rfl⟩
abbrev main_call1_call1_c_32 : Ref sig .tc := ⟨.hbm, 677, rfl⟩
abbrev main_call1_call1_v128 : Ref sig .tc := ⟨.hbm, 678, rfl⟩
abbrev main_call1_call1_v129 : Ref sig .tc := ⟨.hbm, 679, rfl⟩
abbrev main_call1_call1_v130 : Ref sig .tc := ⟨.hbm, 680, rfl⟩
abbrev main_call1_call1_v131 : Ref sig .tc := ⟨.hbm, 681, rfl⟩
abbrev main_call1_call1_v132 : Ref sig .tc := ⟨.hbm, 682, rfl⟩
abbrev main_call1_call1_c_33 : Ref sig .tc := ⟨.hbm, 683, rfl⟩
abbrev main_call1_call1_v133 : Ref sig .tc := ⟨.hbm, 684, rfl⟩
abbrev main_call1_call1_v134 : Ref sig .tc := ⟨.hbm, 685, rfl⟩
abbrev main_call1_call1_c_34 : Ref sig .tc := ⟨.hbm, 686, rfl⟩
abbrev main_call1_call1_v135 : Ref sig .tc := ⟨.hbm, 687, rfl⟩
abbrev main_call1_call1_v136 : Ref sig .tc := ⟨.hbm, 688, rfl⟩
abbrev main_call1_call1_v137 : Ref sig .tc := ⟨.hbm, 689, rfl⟩
abbrev main_call1_call1_v138 : Ref sig .tc := ⟨.hbm, 690, rfl⟩
abbrev main_call1_call1_v139 : Ref sig .tc := ⟨.hbm, 691, rfl⟩
abbrev main_call1_call1_v140 : Ref sig .tc := ⟨.hbm, 692, rfl⟩
abbrev main_call1_call1_v141 : Ref sig .tc := ⟨.hbm, 693, rfl⟩
abbrev main_call1_call1_v142 : Ref sig .tc := ⟨.hbm, 694, rfl⟩
abbrev main_call1_call1_c_35 : Ref sig .tc := ⟨.hbm, 695, rfl⟩
abbrev main_call1_call1_v143 : Ref sig .tc := ⟨.hbm, 696, rfl⟩
abbrev main_call1_call1_v144 : Ref sig .tc := ⟨.hbm, 697, rfl⟩
abbrev main_call1_call1_v145 : Ref sig .tc := ⟨.hbm, 698, rfl⟩
abbrev main_call1_call1_c_36 : Ref sig .tc := ⟨.hbm, 699, rfl⟩
abbrev main_call1_call1_v146 : Ref sig .tc := ⟨.hbm, 700, rfl⟩
abbrev main_call1_call1_v147 : Ref sig .tc := ⟨.hbm, 701, rfl⟩
abbrev main_call1_call1_c_37 : Ref sig .tc := ⟨.hbm, 702, rfl⟩
abbrev main_call1_call1_v148 : Ref sig .tc := ⟨.hbm, 703, rfl⟩
abbrev main_call1_call1_v149 : Ref sig .tc := ⟨.hbm, 704, rfl⟩
abbrev main_call1_call1_v150 : Ref sig .tc := ⟨.hbm, 705, rfl⟩
abbrev main_call1_call1_v151 : Ref sig .tc := ⟨.hbm, 706, rfl⟩
abbrev main_call1_call1_v152 : Ref sig .tc := ⟨.hbm, 707, rfl⟩
abbrev main_call1_call1_c_38 : Ref sig .tc := ⟨.hbm, 708, rfl⟩
abbrev main_call1_call1_v153 : Ref sig .tc := ⟨.hbm, 709, rfl⟩
abbrev main_call1_call1_v154 : Ref sig .tc := ⟨.hbm, 710, rfl⟩
abbrev main_call1_call1_c_39 : Ref sig .tc := ⟨.hbm, 711, rfl⟩
abbrev main_call1_call1_v155 : Ref sig .tc := ⟨.hbm, 712, rfl⟩
abbrev main_call1_call1_v156 : Ref sig .tc := ⟨.hbm, 713, rfl⟩
abbrev main_call1_call1_v157 : Ref sig .tc := ⟨.hbm, 714, rfl⟩
abbrev main_call1_call1_v158 : Ref sig .tc := ⟨.hbm, 715, rfl⟩
abbrev main_call1_call1_v159 : Ref sig .tc := ⟨.hbm, 716, rfl⟩
abbrev main_call1_call1_c_40 : Ref sig .tc := ⟨.hbm, 717, rfl⟩
abbrev main_call1_call1_v160 : Ref sig .tc := ⟨.hbm, 718, rfl⟩
abbrev main_call1_call1_v161 : Ref sig .tc := ⟨.hbm, 719, rfl⟩
abbrev main_call1_call1_c_41 : Ref sig .tc := ⟨.hbm, 720, rfl⟩
abbrev main_call1_call1_v162 : Ref sig .tc := ⟨.hbm, 721, rfl⟩
abbrev main_call1_call1_v163 : Ref sig .tc := ⟨.hbm, 722, rfl⟩
abbrev main_call1_call1_v164 : Ref sig .tc := ⟨.hbm, 723, rfl⟩
abbrev main_call1_call1_v165 : Ref sig .tc := ⟨.hbm, 724, rfl⟩
abbrev main_call1_call1_v166 : Ref sig .tc := ⟨.hbm, 725, rfl⟩
abbrev main_call1_call1_c_42 : Ref sig .tc := ⟨.hbm, 726, rfl⟩
abbrev main_call1_call1_v167 : Ref sig .tc := ⟨.hbm, 727, rfl⟩
abbrev main_call1_call1_v168 : Ref sig .tc := ⟨.hbm, 728, rfl⟩
abbrev main_call1_call1_c_43 : Ref sig .tc := ⟨.hbm, 729, rfl⟩
abbrev main_call1_call1_v169 : Ref sig .tc := ⟨.hbm, 730, rfl⟩
abbrev main_call1_call1_v170 : Ref sig .tc := ⟨.hbm, 731, rfl⟩
abbrev main_call1_call1_v171 : Ref sig .tc := ⟨.hbm, 732, rfl⟩
abbrev main_call1_call1_v172 : Ref sig .tc := ⟨.hbm, 733, rfl⟩
abbrev main_call1_call1_v173 : Ref sig .tc := ⟨.hbm, 734, rfl⟩
abbrev main_call1_v20_0 : Ref sig .tc := ⟨.hbm, 735, rfl⟩
abbrev main_call1_call1_v175 : Ref sig .tc := ⟨.hbm, 736, rfl⟩
abbrev main_call1_call1_v176 : Ref sig .tc := ⟨.hbm, 737, rfl⟩
abbrev main_call1_call1_c_44 : Ref sig .tc := ⟨.hbm, 738, rfl⟩
abbrev main_call1_call1_v177 : Ref sig .tc := ⟨.hbm, 739, rfl⟩
abbrev main_call1_v20_1 : Ref sig .tc := ⟨.hbm, 740, rfl⟩
abbrev main_call1_v21 : Ref sig .tc := ⟨.hbm, 741, rfl⟩
abbrev main_call1_v22 : Ref sig .tc := ⟨.hbm, 742, rfl⟩
abbrev main_call1_v23_0 : Ref sig .tc := ⟨.hbm, 743, rfl⟩
abbrev main_v9 : Ref sig .tc := ⟨.hbm, 744, rfl⟩
abbrev main_v10 : Ref sig .tc := ⟨.hbm, 745, rfl⟩
abbrev main_call2_c : Ref sig .tc := ⟨.hbm, 746, rfl⟩
abbrev main_call2_v0 : Ref sig .tc := ⟨.hbm, 747, rfl⟩
abbrev main_call2_v1 : Ref sig .tc := ⟨.hbm, 748, rfl⟩
abbrev main_call2_c_0 : Ref sig .tc := ⟨.hbm, 749, rfl⟩
abbrev main_call2_v2 : Ref sig .tc := ⟨.hbm, 750, rfl⟩
abbrev main_call2_v3 : Ref sig .tc := ⟨.hbm, 751, rfl⟩
abbrev main_call2_v4 : Ref sig .tc := ⟨.hbm, 752, rfl⟩
abbrev main_call2_c_1 : Ref sig .tc := ⟨.hbm, 753, rfl⟩
abbrev main_call2_c_2 : Ref sig .tc := ⟨.hbm, 754, rfl⟩
abbrev main_call2_v5 : Ref sig .tc := ⟨.hbm, 755, rfl⟩
abbrev main_call2_v6 : Ref sig .tc := ⟨.hbm, 756, rfl⟩
abbrev main_call2_v7 : Ref sig .tc := ⟨.hbm, 757, rfl⟩
abbrev main_call2_v8 : Ref sig .tc := ⟨.hbm, 758, rfl⟩
abbrev main_call2_v9 : Ref sig .tc := ⟨.hbm, 759, rfl⟩
abbrev main_call2_v10 : Ref sig .tc := ⟨.hbm, 760, rfl⟩
abbrev main_call2_c_3 : Ref sig .tc := ⟨.hbm, 761, rfl⟩
abbrev main_call2_v11 : Ref sig .tc := ⟨.hbm, 762, rfl⟩
abbrev main_call2_v12 : Ref sig .tc := ⟨.hbm, 763, rfl⟩
abbrev main_call2_v13 : Ref sig .tc := ⟨.hbm, 764, rfl⟩
abbrev main_call2_cst : Ref sig .tc := ⟨.hbm, 765, rfl⟩
abbrev main_call2_v14 : Ref sig .tc := ⟨.hbm, 766, rfl⟩
abbrev main_v11 : Ref sig .tc := ⟨.hbm, 767, rfl⟩

abbrev nD : Nat := 1
abbrev τ : Topo := Topo.v7x

variable {F : FTy → Type} [FloatOps F]
-- ==== Proof.Tile.Setup.lean ====
/-
  The row gather on the SparseCores: what each vector subcore holds and how the pieces it works on are cut.

  Subcore `L` owns 8704 consecutive rows of the output, 68 chunks of 128 rows. Chunk `n` is gathered into one of six
  slots of a row buffer and copied out from there. The sets of rows, slots and list words are written as intervals here,
  so that cutting and joining them is arithmetic.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v1
abbrev iLoc (d : Dev nD) : Loc nD τ sig := (SparseCore.T d).loc main_c
abbrev oLoc (d : Dev nD) : Loc nD τ sig := (SparseCore.T d).loc main_v2

abbrev tV : Memref sig .scVector .hbm S278528x128 .f32 := Memref.whole main_v1_scv
abbrev iV : Memref sig .scVector .hbm S278528 .i32 := Memref.whole main_c_scv
abbrev oV : Memref sig .scVector .hbm S278528x128 .f32 := Memref.whole main_v2_scv
abbrev sV : Memref sig .scVector .vmem S8704 .i32 := Memref.whole cc0_scratch0
abbrev rV : Memref sig .scVector .vmem S6x128x128 .f32 := Memref.whole cc0_scratch1

/-- The grid position's subcore. -/
abbrev cV (L : grid0.Coords) : Fin τ.nSC := (L 0).castLE hcore0
abbrev jV (L : grid0.Coords) : Fin τ.nSub := (L 1).castLE hsub0
abbrev th (d : Dev nD) (L : grid0.Coords) : Thread nD τ := V d (cV L) (jV L)

/-- The first output row of the subcore. -/
def base (L : grid0.Coords) : ℕ := 17408 * (L 1).val + 8704 * (L 0).val

theorem base_le (L : grid0.Coords) : base L + 8704 ≤ 278528 := by
  have h0 : (L 0).val < 2 := (L 0).isLt
  have h1 : (L 1).val < 16 := (L 1).isLt
  unfold base; omega

/-! ## The windows the program names -/

/-- All of the table, as the gathers name it. -/
abbrev tAll : Memref sig .scVector .hbm S278528x128 .f32 :=
  (tV).slice (Rect.unit (s := S278528x128) ![0, 0] S278528x128.size inb_S278528x128_S278528x128_0_0) (fun _ => rfl)

theorem slotInb (b : ℕ) (hb : b < 6) : ∀ a, (![b, 0, 0] : Fin 3 → Nat) a + S1x128x128.size a ≤ S6x128x128.size a := by
  revert hb; revert b; decide
/-- Slot `b` of the row buffer, as a 128 × 128 array. -/
abbrev slotM (b : ℕ) (hb : b < 6) : Memref sig .scVector .vmem S128x128 .f32 :=
  ((rV).slice (Rect.unit (s := S6x128x128) ![b, 0, 0] S1x128x128.size (slotInb b hb)) (fun _ => rfl)).squeeze S128x128 squeezes_S1x128x128_S128x128
/-- The 128 words of the index list from `o`. -/
abbrev listM (o : Fin 1 → ℕ) (ho : ∀ a, o a + S128.size a ≤ S8704.size a) : Memref sig .scVector .vmem S128 .i32 :=
  (sV).slice (Rect.unit (s := S8704) o S128.size ho) (fun _ => rfl)
/-- The 128 output rows from `o`. -/
abbrev outM (o : Fin 2 → ℕ) (ho : ∀ a, o a + S128x128.size a ≤ S278528x128.size a) : Memref sig .scVector .hbm S128x128 .f32 :=
  (oV).slice (Rect.unit (s := S278528x128) o S128x128.size ho) (fun _ => rfl)
theorem semInb (b : ℕ) (hb : b < 6) : ∀ a, (![b] : Fin 1 → Nat) a + S1.size a ≤ S6.size a := by
  revert hb; revert b; decide
/-- The semaphore of slot `b`'s gathers, and of its copies out. -/
abbrev semG (b : ℕ) (hb : b < 6) : DmaSem sig :=
  (((cc0_scratch2 : DmaSems sig S6).slice (Rect.unit (s := S6) ![b] S1.size (semInb b hb))).squeeze S_ squeezes_S1_S_).sem
abbrev semS (b : ℕ) (hb : b < 6) : DmaSem sig :=
  (((cc0_scratch3 : DmaSems sig S6).slice (Rect.unit (s := S6) ![b] S1.size (semInb b hb))).squeeze S_ squeezes_S1_S_).sem

/-! ## Their element sets as intervals -/

/-- Output rows `base + 128 lo ≤ r < base + 128 hi`. -/
def oSet (L : grid0.Coords) (lo hi : ℕ) : Finset S278528x128.Idx :=
  Finset.univ.filter fun x => base L + 128 * lo ≤ (x 0).val ∧ (x 0).val < base L + 128 * hi
/-- Slot `b`. -/
def slotSet (b : ℕ) : Finset S6x128x128.Idx := Finset.univ.filter fun x => (x 0).val = b
/-- List words `128 n ≤ r < 128 n + 128`. -/
def listSet (n : ℕ) : Finset S8704.Idx := Finset.univ.filter fun x => 128 * n ≤ (x 0).val ∧ (x 0).val < 128 * n + 128

theorem mem_oSet {L : grid0.Coords} {lo hi : ℕ} {x : S278528x128.Idx} :
    x ∈ oSet L lo hi ↔ base L + 128 * lo ≤ (x 0).val ∧ (x 0).val < base L + 128 * hi := by
  unfold oSet; rw [Finset.mem_filter]; exact and_iff_right (Finset.mem_univ _)
theorem mem_slotSet {b : ℕ} {x : S6x128x128.Idx} : x ∈ slotSet b ↔ (x 0).val = b := by
  unfold slotSet; rw [Finset.mem_filter]; exact and_iff_right (Finset.mem_univ _)
theorem mem_listSet {n : ℕ} {x : S8704.Idx} : x ∈ listSet n ↔ 128 * n ≤ (x 0).val ∧ (x 0).val < 128 * n + 128 := by
  unfold listSet; rw [Finset.mem_filter]; exact and_iff_right (Finset.mem_univ _)

theorem set_slotM (b : ℕ) (hb : b < 6) : (slotM b hb).view.set = slotSet b := by
  show (((rV).view.slice (Rect.unit (s := S6x128x128) ![b, 0, 0] S1x128x128.size (slotInb b hb))).reshape S128x128 squeezes_S1x128x128_S128x128.numel_eq).set = _
  rw [View.set_reshape]
  show ((View.whole (cc0_scratch1 : Ref sig .scVector)).slice _).set = _
  rw [View.set_slice_whole]
  ext x
  rw [mem_slotSet]
  refine (Rect.mem_set_unit (s := S6x128x128)).trans ⟨fun h => ?_, fun h a => ?_⟩
  · have := h 0; simp at this; omega
  · have h1 : (x 1).val < 128 := (x 1).isLt
    have h2 : (x 2).val < 128 := (x 2).isLt
    match a with
    | 0 => simp; omega
    | 1 => simp; exact h1
    | 2 => simp; exact h2

theorem set_listM (o : Fin 1 → ℕ) (ho : ∀ a, o a + S128.size a ≤ S8704.size a) (n : ℕ) (hn : o = ![128 * n]) :
    (listM o ho).view.set = listSet n := by
  subst hn
  show ((View.whole (cc0_scratch0 : Ref sig .scVector)).slice _).set = _
  rw [View.set_slice_whole]
  ext x
  rw [mem_listSet]
  refine (Rect.mem_set_unit (s := S8704)).trans ⟨fun h => ?_, fun h a => ?_⟩
  · have := h 0; simpa using this
  · match a with
    | 0 => simpa using h

theorem set_outM (L : grid0.Coords) (o : Fin 2 → ℕ) (ho : ∀ a, o a + S128x128.size a ≤ S278528x128.size a) (n : ℕ)
    (hn : o = ![base L + 128 * n, 0]) : (outM o ho).view.set = oSet L n (n + 1) := by
  subst hn
  show ((View.whole (main_v2_scv : Ref sig .scVector)).slice _).set = _
  rw [View.set_slice_whole]
  ext x
  rw [mem_oSet]
  refine (Rect.mem_set_unit (s := S278528x128)).trans ⟨fun h => ?_, fun h a => ?_⟩
  · have := h 0; simp at this; omega
  · have h1 : (x 1).val < 128 := (x 1).isLt
    match a with
    | 0 => simp; omega
    | 1 => simp; exact h1

theorem set_tAll : (tAll).view.set = Finset.univ := by
  show ((View.whole (main_v1_scv : Ref sig .scVector)).slice _).set = _
  rw [View.set_slice_whole]
  ext x
  refine (Rect.mem_set_unit (s := S278528x128)).trans ⟨fun _ => Finset.mem_univ _, fun _ a => ?_⟩
  have h0 : (x 0).val < 278528 := (x 0).isLt
  have h1 : (x 1).val < 128 := (x 1).isLt
  match a with
  | 0 => simp; exact h0
  | 1 => simp; exact h1

/-! ## The contents -/

variable (d : Dev nD) (L : grid0.Coords)
variable (tb : Buf (Elt F) (tLoc d)) (ix : Buf (Elt F) (iLoc d))

/-- The table row a list position names (the first row, should the word be out of range). -/
def rowAt (ix : Buf (Elt F) (iLoc d)) (j : ℕ) : Fin 278528 :=
  if h : j < 278528 then
    if h' : (ix (fun | 0 => ⟨j, h⟩) : BitVec 32).toNat < 278528 then ⟨(ix (fun | 0 => ⟨j, h⟩) : BitVec 32).toNat, h'⟩ else ⟨0, by decide⟩
  else ⟨0, by decide⟩

/-- The table's element at a row and a lane. -/
abbrev tAt (r : Fin 278528) (l : Fin 128) : Elt F .f32 := tb (fun | 0 => r | 1 => l)

/-- The output: row `r` is the table's row that the list's word `r` names. -/
def outF : Buf (Elt F) (oLoc d) := fun x => tAt d tb (rowAt d ix (x 0).val) (x 1)
/-- The subcore's part of the list. -/
def lstF : Buf (Elt F) ((sV).view.loc (th d L)) := fun x => ix (fun | 0 => ⟨base L + (x 0).val, by
  have h : (x 0).val < 8704 := (x 0).isLt
  have := base_le L; show _ < 278528; omega⟩)
/-- A slot's contents when it holds chunk `n`. -/
def chunkF (n : ℕ) : Buf (Elt F) ((rV).view.loc (th d L)) :=
  fun x => tAt d tb (rowAt d ix (base L + 128 * n + (x 1).val)) (x 2)

/-- Every word of the list names a row of the table. -/
def IxOK : Prop := ∀ j, (ix j : BitVec 32).toNat < 278528

end Cert.Proof.Tile

end
-- ==== Proof.Tile.Steps.lean ====
/-
  The four steps the subcore's program is made of, each as one rule: start a chunk's gather into a slot, wait for it,
  start the slot's copy to the output, wait for that.
-/
module

public import proofs.«01_k».proof.Proof.Tile.Setup

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (tb : Buf (Elt F) (tLoc d)) (ix : Buf (Elt F) (iLoc d)) (q : PosShare TreeShare)

/-! ## What is held -/

/-- A third of a share. -/
abbrev third (q : PosShare TreeShare) (j : Fin 3) : PosShare TreeShare := pieceOf q 3 (by decide) j

/-- What a chunk's gather, and its copy out, add to their semaphores. -/
abbrev nG : ℕ := (cc0_scratch1 : Ref sig .scVector).dmaCredit S128x128 .f32
abbrev nS : ℕ := (main_v2_scv : Ref sig .scVector).dmaCredit S128x128 .f32

/-- Slot `b` at contents `f`. -/
def slotAt (b : ℕ) (f : Buf (Elt F) ((rV).view.loc (th d L))) : sProp 𝕄 := (rV).view.loc (th d L) ↦[slotSet b]{fullShare} f
/-- Slot `b` at some contents. -/
def slotAny (b : ℕ) : sProp 𝕄 := iprop(∃ f, slotAt (F := F) d L b f)
/-- A third of the subcore's share of the table. -/
def tTok (j : Fin 3) : sProp 𝕄 := (tV).view.loc (th d L) ↦{third q j} tb
/-- A third of the subcore's list. -/
def sTok (j : Fin 3) : sProp 𝕄 := (sV).view.loc (th d L) ↦{third fullShare j} lstF d L ix
/-- Output chunks `lo ≤ n < hi` at contents `f`. -/
def oI (lo hi : ℕ) (f : Buf (Elt F) (oLoc d)) : sProp 𝕄 := (oV).view.loc (th d L) ↦[oSet L lo hi]{fullShare} f
/-- Slot `b`'s gather semaphore at zero, and its copy-out semaphore. -/
def gZ (b : ℕ) (hb : b < 6) : sProp 𝕄 := semVal (th d L, SemLoc.dma (semG b hb)) 0
def sZ (b : ℕ) (hb : b < 6) : sProp 𝕄 := semVal (th d L, SemLoc.dma (semS b hb)) 0

/-- The gather of chunk `n` into slot `b` in flight, with third `j` of the table and the list. -/
def GFl (b : ℕ) (hb : b < 6) (j : Fin 3) (n : ℕ) : sProp 𝕄 :=
  iprop(Transfers.Flight countersEmb (th d L) (.dma (semG b hb)) (default : HIx 1) nG
      iprop(slotAt d L b (chunkF d L tb ix n) ∗ tTok d L tb q j
        ∗ (sV).view.loc (th d L) ↦[listSet n]{third fullShare j} lstF d L ix)
    ∗ (sV).view.loc (th d L) ↦[Finset.univ \ listSet n]{third fullShare j} lstF d L ix)
/-- The copy of chunk `n` out of slot `b` in flight. -/
def SFl (b : ℕ) (hb : b < 6) (n : ℕ) : sProp 𝕄 :=
  Transfers.Flight countersEmb (th d L) (.dma (semS b hb)) (default : HIx 1) nS
      iprop(oI d L n (n + 1) (outF d tb ix) ∗ slotAt d L b (chunkF d L tb ix n))

/-- What the subcore owes, its waits so far being among `W` or of the kind no handshake counts. -/
def owed (O : CellTallies nD τ sig (HIx 1)) (W : Waits sig (HIx 1)) : sProp 𝕄 :=
  iprop(∃ W', ⌜∀ p ∈ W', p ∈ W ∨ p.2 = none⌝ ∗ owes (th d L) O W')

/-! ## Cutting the output -/

theorem oI_cut (lo mid hi : ℕ) (h₁ : lo ≤ mid) (h₂ : mid ≤ hi) (f : Buf (Elt F) (oLoc d)) :
    oI d L lo hi f ⊣⊢ iprop(oI d L lo mid f ∗ oI d L mid hi f) := by
  have hd : Disjoint (oSet L lo mid) (oSet L mid hi) := by
    rw [Finset.disjoint_left]; intro x h h'; rw [mem_oSet] at h h'; omega
  have hu : oSet L lo hi = oSet L lo mid ∪ oSet L mid hi := by
    ext x; rw [Finset.mem_union, mem_oSet, mem_oSet, mem_oSet]; omega
  unfold oI; rw [hu]; exact pointsTo_union hd

/-! ## Elements of the windows -/

theorem emb_slotM (b : ℕ) (hb : b < 6) (y : S128x128.Idx) :
    (((slotM b hb).view.emb y : S6x128x128.Idx) 0).val = b ∧ (((slotM b hb).view.emb y : S6x128x128.Idx) 1).val = (y 0).val
      ∧ (((slotM b hb).view.emb y : S6x128x128.Idx) 2).val = (y 1).val := by
  have h : (slotM b hb).view.emb y = (Rect.unit (s := S6x128x128) ![b, 0, 0] S1x128x128.size (slotInb b hb)).emb
      (Shape.reshapeEquiv squeezes_S1x128x128_S128x128.numel_eq y) := rfl
  have hr : Shape.reshapeEquiv (s := S1x128x128) (s' := S128x128) squeezes_S1x128x128_S128x128.numel_eq y = Fin.cons ⟨0, Nat.one_pos⟩ y :=
    Shape.reshapeEquiv_cons_one _ y
  rw [h, hr]
  refine ⟨?_, ?_, ?_⟩
  · rw [Rect.emb_apply]; simp; rfl
  · rw [Rect.emb_apply]; simp; rfl
  · rw [Rect.emb_apply]; simp; rfl

theorem emb_listM (o : Fin 1 → ℕ) (ho : ∀ a, o a + S128.size a ≤ S8704.size a) (y : S128.Idx) :
    (((listM o ho).view.emb y : S8704.Idx) 0).val = o 0 + (y 0).val := by
  show (((Rect.unit (s := S8704) o S128.size ho).emb y) 0).val = _
  rw [Rect.emb_apply]; simp

theorem emb_outM (o : Fin 2 → ℕ) (ho : ∀ a, o a + S128x128.size a ≤ S278528x128.size a) (y : S128x128.Idx) :
    (((outM o ho).view.emb y : S278528x128.Idx) 0).val = o 0 + (y 0).val
      ∧ (((outM o ho).view.emb y : S278528x128.Idx) 1).val = o 1 + (y 1).val := by
  constructor
  · show (((Rect.unit (s := S278528x128) o S128x128.size ho).emb y) 0).val = _
    rw [Rect.emb_apply]; simp
  · show (((Rect.unit (s := S278528x128) o S128x128.size ho).emb y) 1).val = _
    rw [Rect.emb_apply]; simp

theorem read_tAll (y : S278528x128.Idx) : (tAll).view.read (Elt F) tb y = tb y := by
  rw [View.read_apply]
  have : (tAll).view.emb y = y := by
    show (Rect.unit (s := S278528x128) ![0, 0] S278528x128.size inb_S278528x128_S278528x128_0_0).emb y = y
    funext a; apply Fin.ext; rw [Rect.emb_apply]
    match a with
    | 0 => simp
    | 1 => simp
  rw [this]; rfl

theorem read_listM (o : Fin 1 → ℕ) (ho : ∀ a, o a + S128.size a ≤ S8704.size a) (y : S128.Idx) :
    (listM o ho).view.read (Elt F) (lstF d L ix) y = lstF d L ix ((listM o ho).view.emb y) := by
  rw [View.read_apply]; rfl

theorem lstF_row (hix : IxOK d ix) (x : S8704.Idx) :
    (lstF (F := F) d L ix x : BitVec 32).toNat = (rowAt d ix (base L + (x 0).val)).val := by
  have h : (x 0).val < 8704 := (x 0).isLt
  have hb := base_le L
  unfold rowAt lstF
  rw [dif_pos (show base L + (x 0).val < 278528 by omega), dif_pos (hix _)]

/-! ## What lands -/

theorem gather_lands (hix : IxOK d ix) (b : ℕ) (hb : b < 6) (n : ℕ) (o : Fin 1 → ℕ) (ho : ∀ a, o a + S128.size a ≤ S8704.size a)
    (hn : o = ![128 * n]) (fd : Buf (Elt F) ((rV).view.loc (th d L)))
    (hc : S128.numel = S128x128.size gathers_S278528x128_S128x128.axis')
    (hin : ∀ x, ((listM o ho).view.read (Elt F) (lstF d L ix) x : BitVec 32).toNat < S278528x128.size gathers_S278528x128_S128x128.axis) :
    ∀ x ∈ slotSet b, (slotM b hb).view.write (Elt F) fd
      (SparseCore.gatherPayload gathers_S278528x128_S128x128 ((tAll).view.read (Elt F) tb)
        (SparseCore.rows ((listM o ho).view.read (Elt F) (lstF d L ix)) hc hin)) Finset.univ x = chunkF d L tb ix n x := by
  intro x hx
  rw [← set_slotM b hb] at hx
  obtain ⟨y, -, rfl⟩ := Finset.mem_map.mp hx
  rw [View.write_emb_of_mem _ _ (Finset.mem_univ y)]
  refine (cast_eq _ _).trans ?_
  unfold SparseCore.gatherPayload
  rw [read_tAll]
  obtain ⟨-, e1, e2⟩ := emb_slotM b hb y
  unfold chunkF
  show tb _ = tb _
  congr 1
  funext a
  match a with
  | 0 =>
    refine (Shape.Gathers.idx_axis _ _ _).trans (Fin.ext ?_)
    show ((listM o ho).view.read (Elt F) (lstF d L ix) _ : BitVec 32).toNat = _
    rw [read_listM, lstF_row d L ix hix, emb_listM]
    congr 2
    have hz : ((S128.rowMajor.symm (Fin.cast hc.symm (y gathers_S278528x128_S128x128.axis')) : S128.Idx) 0).val = (y 0).val := by
      have := Shape.rowMajor_val_one (d := ![128]) (S128.rowMajor.symm (Fin.cast hc.symm (y gathers_S278528x128_S128x128.axis')))
      rw [← this]
      show (S128.rowMajor _).val = _
      rw [Equiv.apply_symm_apply]; rfl
    rw [hz, e1, hn]
    simp [Nat.add_assoc]
  | 1 =>
    apply Fin.ext
    refine (Shape.Gathers.idx_of_ne _ _ _ 1 (by decide)).trans ?_
    exact e2.symm

theorem store_lands (b : ℕ) (hb : b < 6) (n : ℕ) (o : Fin 2 → ℕ) (ho : ∀ a, o a + S128x128.size a ≤ S278528x128.size a)
    (hn : o = ![base L + 128 * n, 0]) (fd : Buf (Elt F) (oLoc d)) :
    ∀ x ∈ oSet L n (n + 1), (outM o ho).view.write (Elt F) fd
      ((slotM b hb).view.read (Elt F) (chunkF d L tb ix n)) Finset.univ x = outF d tb ix x := by
  intro x hx
  rw [← set_outM L o ho n hn] at hx
  obtain ⟨y, -, rfl⟩ := Finset.mem_map.mp hx
  rw [View.write_emb_of_mem _ _ (Finset.mem_univ y)]
  refine (cast_eq _ _).trans ?_
  rw [View.read_apply]
  refine (cast_eq _ _).trans ?_
  obtain ⟨-, e1, e2⟩ := emb_slotM b hb y
  obtain ⟨e3, e4⟩ := emb_outM o ho y
  subst hn
  unfold chunkF outF
  show tAt d tb _ _ = tAt d tb _ _
  congr 1
  · rw [e1, e3]; simp
  · apply Fin.ext; rw [e2, e4]; simp

/-! ## The four rules -/

variable [FloatOps F] {α : Type} {Q : α → sProp (MT nD τ sig (HIx 1) (Elt F) ℕ UU ℕ)}

local notation "WP" => wp frame (wpE (defs₀ (F := F)) 𝒱₀ (th d L) none) Set.univ

theorem gather_credit0 :
    ∑ j, ((slotM 0 (by decide)).slice (S128x128.rowRect gathers_S278528x128_S128x128.axis' j)
      (S128x128.stride_rowRect gathers_S278528x128_S128x128.axis' j)).view.dmaCredit = nG := by
  decide

theorem gather_credit (b : ℕ) (hb : b < 6) :
    ∑ j, ((slotM b hb).slice (S128x128.rowRect gathers_S278528x128_S128x128.axis' j)
      (S128x128.stride_rowRect gathers_S278528x128_S128x128.axis' j)).view.dmaCredit = nG :=
  gather_credit0

theorem step_gather (hix : IxOK d ix) (b : ℕ) (hb : b < 6) (j : Fin 3) (n : ℕ) (o : Fin 1 → ℕ) (ho : ∀ a, o a + S128.size a ≤ S8704.size a)
    (hn : o = ![128 * n]) {hp : (th d L).2.kind = .scVector} {hc : S128.numel = S128x128.size gathers_S278528x128_S128x128.axis'}
    {hsrc : (tAll).view.WordExact} {he : (EltTy.f32).bits = 32} {hsp : Space.hbm = .hbm ∨ Space.hbm = .shared} {hr : S278528x128.StreamRows 0}
    {k : PUnit → Prog (TpuEff nD τ sig (Elt F) Λ₀ (th d L).2) α} :
    iprop(slotAny d L b ∗ tTok d L tb q j ∗ sTok d L ix j ∗ gZ d L b hb)
      ⊢ iprop((GFl d L tb ix q b hb j n -∗ WP (k ⟨⟩) Q)
          -∗ WP (SparseCore.enqueueIndirectGather hp (tAll) (slotM b hb) gathers_S278528x128_S128x128 (listM o ho) hc (semG b hb) hsrc he hsp hr >>= k) Q) := by
  have hin : ∀ x, ((listM o ho).view.read (Elt F) (lstF d L ix) x : BitVec 32).toNat < S278528x128.size gathers_S278528x128_S128x128.axis := by
    intro x; rw [read_listM, lstF_row d L ix hix]; exact (rowAt d ix _).isLt
  unfold slotAny slotAt tTok sTok gZ GFl
  iintro ⟨⟨%f, Hb⟩, Ht, Hs, Hz⟩ Hk
  ihave Hs' := (pointsTo_split_subset (q := third fullShare j) (f := lstF d L ix) (S := Finset.univ) (Finset.subset_univ (listSet n))).1 $$ Hs
  icases Hs' with ⟨Hs, Hsr⟩
  iapply (SparseCore.wp_indirectGatherLocal countersEmb 𝒱₀ (th d L) none (hg := gathers_S278528x128_S128x128) (src := tAll) (dst := slotM b hb)
      (offs := listM o ho) (sem := semG b hb) (q := third q j) (qo := third fullShare j) (fs := tb) (fd := f) (fo := lstF d L ix)
      (default : HIx 1) nG (gather_credit b hb) (by decide) hin) $$ [Ht Hb Hs Hz]
  · rw [set_tAll, set_slotM b hb, set_listM o ho n hn]
    isplitl [Ht]; · iexact Ht
    isplitl [Hb]; · iexact Hb
    isplitl [Hs]; · iexact Hs
    iexact Hz
  iintro Hfl
  iapply Hk
  isplitl [Hfl]
  · iapply (Transfers.Flight_mono countersEmb (th d L) ?_) $$ Hfl
    rw [set_tAll, set_slotM b hb, set_listM o ho n hn,
      pointsTo_congr (gather_lands d L tb ix hix b hb n o ho hn f hc hin)]
    unfold slotAt tTok
    iintro ⟨H1, H2, H3⟩
    isplitl [H1]; · iexact H1
    isplitl [H2]; · iexact H2
    iexact H3
  · iexact Hsr

theorem step_gwait (b : ℕ) (hb : b < 6) (j : Fin 3) (n : ℕ) {O : CellTallies nD τ sig (HIx 1)} {W : Waits sig (HIx 1)}
    {hsrc : (tAll).view.WordExact} {hdst : (slotM b hb).view.WordExact}
    {k : PUnit → Prog (TpuEff nD τ sig (Elt F) Λ₀ (th d L).2) α} :
    iprop(GFl d L tb ix q b hb j n ∗ owed d L O W ∗ Transfers.MayWaits (th d L) (default : HIx 1) O)
      ⊢ iprop((iprop(slotAt d L b (chunkF d L tb ix n) ∗ tTok d L tb q j ∗ sTok d L ix j ∗ gZ d L b hb ∗ owed d L O W) -∗ WP (k ⟨⟩) Q)
          -∗ WP (.op (.waitDma2 (semG b hb) (tAll) (slotM b hb) hsrc hdst) k) Q) := by
  unfold GFl owed gZ
  iintro ⟨⟨Hfl, Hsr⟩, ⟨%W', %hW', HO⟩, Hmw⟩ Hk
  iapply (Transfers.wp_waitLocalO countersEmb 𝒱₀ (th d L) none (default : HIx 1) (N := nG) rfl) $$ [Hfl HO Hmw]
  · isplitl [Hfl]; · iexact Hfl
    isplitl [HO]; · iexact HO
    iapply (Transfers.MayWaits.elim (SemLoc.dma (semG b hb))) $$ Hmw
  iintro ⟨⟨Hb, Ht, Hs⟩, Hz, HO⟩
  iapply Hk
  isplitl [Hb]; · iexact Hb
  isplitl [Ht]; · iexact Ht
  isplitl [Hs Hsr]
  · unfold sTok
    iapply (pointsTo_split_subset (q := third fullShare j) (f := lstF d L ix) (S := Finset.univ) (Finset.subset_univ (listSet n))).2
    isplitl [Hs] <;> iassumption
  isplitl [Hz]; · iexact Hz
  iexists _; isplitr
  swap; · iexact HO
  ipureintro; intro p hp
  rcases Finset.mem_insert.mp hp with hp | hp; · exact .inr (hp ▸ rfl)
  exact hW' p hp

theorem step_store (b : ℕ) (hb : b < 6) (n hi : ℕ) (hhi : n < hi) (o : Fin 2 → ℕ) (ho : ∀ a, o a + S128x128.size a ≤ S278528x128.size a)
    (hn : o = ![base L + 128 * n, 0]) (f : Buf (Elt F) (oLoc d))
    {hsrc : (slotM b hb).view.WordExact} {hdst : (DmaTarget.here (outM o ho) : DmaTarget nD τ sig (th d L).2 Space.hbm S128x128 .f32).view.WordExact}
    {hsem : (DmaTarget.here (outM o ho) : DmaTarget nD τ sig (th d L).2 Space.hbm S128x128 .f32).Typed Space.vmem (SemLoc.dma (semS b hb))}
    {k : PUnit → Prog (TpuEff nD τ sig (Elt F) Λ₀ (th d L).2) α} :
    iprop(slotAt d L b (chunkF d L tb ix n) ∗ oI d L n hi f ∗ sZ d L b hb)
      ⊢ iprop((iprop(SFl d L tb ix b hb n ∗ oI d L (n + 1) hi f) -∗ WP (k ⟨⟩) Q)
          -∗ WP (.op (.enqueueDma (slotM b hb) (.here (outM o ho)) (.dma (semS b hb)) hsrc hdst hsem) k) Q) := by
  iintro ⟨Hb, Ho, Hz⟩ Hk
  ihave Ho' := (oI_cut d L n (n + 1) hi (by omega) (by omega) f).1 $$ Ho
  icases Ho' with ⟨Ho, Hor⟩
  unfold slotAt sZ
  ihave Ho1 := (show oI d L n (n + 1) f ⊢ ((oV).view.loc (th d L) ↦[oSet L n (n + 1)]{fullShare} f : sProp 𝕄) from .rfl) $$ Ho
  iapply (Transfers.wp_dmaLocal countersEmb 𝒱₀ (th d L) none (src := slotM b hb) (dst := outM o ho) (via := .same) (q := fullShare) (fs := chunkF d L tb ix n)
      (fd := f) (Sd := oSet L n (n + 1)) (default : HIx 1) nS rfl (View.dmaCredit_pos (outM o ho).view (by decide))
      (by rw [set_outM L o ho n hn])) $$ [Hb Ho1 Hz]
  · rw [set_slotM b hb]
    isplitl [Hb]; · iexact Hb
    isplitl [Ho1]; · iexact Ho1
    iexact Hz
  iintro Hfl
  iapply Hk
  isplitl [Hfl]
  · unfold SFl
    iapply (Transfers.Flight_mono countersEmb (th d L) ?_) $$ Hfl
    rw [set_slotM b hb]
    unfold oI slotAt
    iintro ⟨H1, H2⟩
    isplitl [H1]
    · ihave H1' := (Entails.of_eq (pointsTo_congr (store_lands d L tb ix b hb n o ho hn f))) $$ H1
      iexact H1'
    · iexact H2
  · iexact Hor

theorem step_swait (b : ℕ) (hb : b < 6) (n : ℕ) {O : CellTallies nD τ sig (HIx 1)} {W : Waits sig (HIx 1)}
    (ho : ∀ a, (![0, 0] : Fin 2 → ℕ) a + S128x128.size a ≤ S278528x128.size a)
    {hsrc : (slotM b hb).view.WordExact} {hdst : (outM ![0, 0] ho).view.WordExact}
    {k : PUnit → Prog (TpuEff nD τ sig (Elt F) Λ₀ (th d L).2) α} :
    iprop(SFl d L tb ix b hb n ∗ oI d L 0 n (outF d tb ix) ∗ owed d L O W ∗ Transfers.MayWaits (th d L) (default : HIx 1) O)
      ⊢ iprop((iprop(slotAny d L b ∗ oI d L 0 (n + 1) (outF d tb ix) ∗ sZ d L b hb ∗ owed d L O W) -∗ WP (k ⟨⟩) Q)
          -∗ WP (.op (.waitDma2 (semS b hb) (slotM b hb) (outM ![0, 0] ho) hsrc hdst) k) Q) := by
  unfold SFl owed sZ
  iintro ⟨Hfl, Hod, ⟨%W', %hW', HO⟩, Hmw⟩ Hk
  iapply (Transfers.wp_waitLocalO countersEmb 𝒱₀ (th d L) none (default : HIx 1) (N := nS) rfl) $$ [Hfl HO Hmw]
  · isplitl [Hfl]; · iexact Hfl
    isplitl [HO]; · iexact HO
    iapply (Transfers.MayWaits.elim (SemLoc.dma (semS b hb))) $$ Hmw
  iintro ⟨⟨Ho, Hb⟩, Hz, HO⟩
  iapply Hk
  isplitl [Hb]; · unfold slotAny; iexists _; iexact Hb
  isplitl [Hod Ho]
  · iapply (oI_cut d L 0 n (n + 1) (by omega) (by omega) _).2
    isplitl [Hod] <;> iassumption
  isplitl [Hz]; · iexact Hz
  iexists _; isplitr
  swap; · iexact HO
  ipureintro; intro p hp
  rcases Finset.mem_insert.mp hp with hp | hp; · exact .inr (hp ▸ rfl)
  exact hW' p hp

end Cert.Proof.Tile

end
-- ==== Proof.Tile.Loop.lean ====
/-
  One trip of the subcore's loop: six chunks, each waited for, started on its way out, the slot three chunks older
  drained and refilled.
-/
module

public import proofs.«01_k».proof.Proof.Tile.Steps

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (tb : Buf (Elt F) (tLoc d)) (ix : Buf (Elt F) (iLoc d)) (q : PosShare TreeShare) (f₀ : Buf (Elt F) (oLoc d))
variable (O : CellTallies nD τ sig (HIx 1)) (W : Waits sig (HIx 1))

/-- What holds at the head of trip `g`: chunks `6g+5`, `6g+6`, `6g+7` on their way in, the three before them on their
    way out, everything before those in place. -/
def inv (g : ℕ) : sProp 𝕄 :=
  iprop(GFl d L tb ix q 5 (by decide) 2 (6 * g + 5) ∗ GFl d L tb ix q 0 (by decide) 0 (6 * g + 6) ∗ GFl d L tb ix q 1 (by decide) 1 (6 * g + 7)
    ∗ SFl d L tb ix 2 (by decide) (6 * g + 2) ∗ SFl d L tb ix 3 (by decide) (6 * g + 3) ∗ SFl d L tb ix 4 (by decide) (6 * g + 4)
    ∗ oI d L 0 (6 * g + 2) (outF d tb ix) ∗ oI d L (6 * g + 5) 68 f₀
    ∗ gZ d L 2 (by decide) ∗ gZ d L 3 (by decide) ∗ gZ d L 4 (by decide)
    ∗ sZ d L 5 (by decide) ∗ sZ d L 0 (by decide) ∗ sZ d L 1 (by decide) ∗ owed d L O W)

variable [FloatOps F]

omit [FloatOps F] in
theorem off3_at (t : Fin k0_t1_loop.trips) (r : Fin 6) (n : ℕ) (hn : n = 6 * t.val + 5 + r.val) :
    k0_off3 L t (BitVec.ofNat 32 r.val) = ![base L + 128 * n, 0] := by
  rw [k0_off3_eq]; unfold base; congr 1; omega
omit [FloatOps F] in
theorem off4_at (t : Fin k0_t1_loop.trips) (r : Fin 6) (n : ℕ) (hn : n = 6 * t.val + 8 + r.val) :
    k0_off4 t (BitVec.ofNat 32 r.val) = ![128 * n] := by
  rw [k0_off4_eq]; congr 1; omega

set_option maxHeartbeats 4000000 in
theorem trip (hix : IxOK d ix) (v2 : BitVec 32) (t : Fin k0_t1_loop.trips) :
    iprop(Transfers.MayWaits (th d L) (default : HIx 1) O ∗ inv d L tb ix q f₀ O W t.val)
      ⊢ wp frame (wpE (defs₀ (F := F)) 𝒱₀ (th d L) none) Set.univ
          (k0_t1_body L tV (Memref.isWhole_whole _) iV (Memref.isWhole_whole _) oV (Memref.isWhole_whole _) sV (Memref.isWhole_whole _)
            rV (Memref.isWhole_whole _) cc0_scratch2 cc0_scratch3 cc0_scoped0 v2 t ⟨⟩)
          fun _ => inv d L tb ix q f₀ O W (t.val + 1) := by
  have ht : t.val < 10 := t.isLt
  unfold k0_t1_body
  simp only [k0_part1_eq_skeleton, k0_part2_eq_skeleton, k0_part3_eq_skeleton, k0_part4_eq_skeleton, k0_part5_eq_skeleton, k0_part6_eq_skeleton, k0_part7_eq_skeleton]
  unfold inv
  iintro ⟨#Hmw, G5, G0, G1, S2, S3, S4, Hd, Hr, g2, g3, g4, s5, s0, s1, HO⟩
  sl_exec
  iapply (step_gwait d L tb ix q 5 (by decide) 2 (6 * t.val + 5)) $$ [G5 HO]
  · isplitl [G5]; · iexact G5
    isplitl [HO]; · iexact HO
    iexact Hmw
  iintro ⟨B5, T2, I2, g5, HO⟩
  sl_exec
  iapply (step_store d L tb ix 5 (by decide) (6 * t.val + 5) 68 (by omega) (k0_off3 L t 0#32) (k0_off3_inb L t 0) (off3_at L t 0 _ (by simp) ) f₀) $$ [B5 Hr s5]
  · isplitl [B5]; · iexact B5
    isplitl [Hr]; · iexact Hr
    iexact s5
  iintro ⟨S5, Hr⟩
  sl_exec
  iapply (step_swait d L tb ix 2 (by decide) (6 * t.val + 2) inb_S278528x128_S128x128_0_0) $$ [S2 Hd HO]
  · isplitl [S2]; · iexact S2
    isplitl [Hd]; · iexact Hd
    isplitl [HO]; · iexact HO
    iexact Hmw
  iintro ⟨B2, Hd, s2, HO⟩
  sl_exec
  iapply (step_gather d L tb ix q hix 2 (by decide) 2 (6 * t.val + 8) (k0_off4 t 0#32) (k0_off4_inb t 0) (off4_at t 0 _ (by simp))) $$ [B2 T2 I2 g2]
  · isplitl [B2]; · iexact B2
    isplitl [T2]; · iexact T2
    isplitl [I2]; · iexact I2
    iexact g2
  iintro G2
  sl_exec
  iapply (step_gwait d L tb ix q 0 (by decide) 0 (6 * t.val + 6)) $$ [G0 HO]
  · isplitl [G0]; · iexact G0
    isplitl [HO]; · iexact HO
    iexact Hmw
  iintro ⟨B0, T0, I0, g0, HO⟩
  sl_exec
  iapply (step_store d L tb ix 0 (by decide) (6 * t.val + 6) 68 (by omega) (k0_off3 L t 1#32) (k0_off3_inb L t 1) (off3_at L t 1 _ (by simp) ) f₀) $$ [B0 Hr s0]
  · isplitl [B0]; · iexact B0
    isplitl [Hr]; · iexact Hr
    iexact s0
  iintro ⟨S0, Hr⟩
  sl_exec
  iapply (step_swait d L tb ix 3 (by decide) (6 * t.val + 3) inb_S278528x128_S128x128_0_0) $$ [S3 Hd HO]
  · isplitl [S3]; · iexact S3
    isplitl [Hd]; · iexact Hd
    isplitl [HO]; · iexact HO
    iexact Hmw
  iintro ⟨B3, Hd, s3, HO⟩
  sl_exec
  iapply (step_gather d L tb ix q hix 3 (by decide) 0 (6 * t.val + 9) (k0_off4 t 1#32) (k0_off4_inb t 1) (off4_at t 1 _ (by simp))) $$ [B3 T0 I0 g3]
  · isplitl [B3]; · iexact B3
    isplitl [T0]; · iexact T0
    isplitl [I0]; · iexact I0
    iexact g3
  iintro G3
  sl_exec
  iapply (step_gwait d L tb ix q 1 (by decide) 1 (6 * t.val + 7)) $$ [G1 HO]
  · isplitl [G1]; · iexact G1
    isplitl [HO]; · iexact HO
    iexact Hmw
  iintro ⟨B1, T1, I1, g1, HO⟩
  sl_exec
  iapply (step_store d L tb ix 1 (by decide) (6 * t.val + 7) 68 (by omega) (k0_off3 L t 2#32) (k0_off3_inb L t 2) (off3_at L t 2 _ (by simp) ) f₀) $$ [B1 Hr s1]
  · isplitl [B1]; · iexact B1
    isplitl [Hr]; · iexact Hr
    iexact s1
  iintro ⟨S1, Hr⟩
  sl_exec
  iapply (step_swait d L tb ix 4 (by decide) (6 * t.val + 4) inb_S278528x128_S128x128_0_0) $$ [S4 Hd HO]
  · isplitl [S4]; · iexact S4
    isplitl [Hd]; · iexact Hd
    isplitl [HO]; · iexact HO
    iexact Hmw
  iintro ⟨B4, Hd, s4, HO⟩
  sl_exec
  iapply (step_gather d L tb ix q hix 4 (by decide) 1 (6 * t.val + 10) (k0_off4 t 2#32) (k0_off4_inb t 2) (off4_at t 2 _ (by simp))) $$ [B4 T1 I1 g4]
  · isplitl [B4]; · iexact B4
    isplitl [T1]; · iexact T1
    isplitl [I1]; · iexact I1
    iexact g4
  iintro G4
  sl_exec
  iapply (step_gwait d L tb ix q 2 (by decide) 2 (6 * t.val + 8)) $$ [G2 HO]
  · isplitl [G2]; · iexact G2
    isplitl [HO]; · iexact HO
    iexact Hmw
  iintro ⟨B2, T2, I2, g2, HO⟩
  sl_exec
  iapply (step_store d L tb ix 2 (by decide) (6 * t.val + 8) 68 (by omega) (k0_off3 L t 3#32) (k0_off3_inb L t 3) (off3_at L t 3 _ (by simp) ) f₀) $$ [B2 Hr s2]
  · isplitl [B2]; · iexact B2
    isplitl [Hr]; · iexact Hr
    iexact s2
  iintro ⟨S2, Hr⟩
  sl_exec
  iapply (step_swait d L tb ix 5 (by decide) (6 * t.val + 5) inb_S278528x128_S128x128_0_0) $$ [S5 Hd HO]
  · isplitl [S5]; · iexact S5
    isplitl [Hd]; · iexact Hd
    isplitl [HO]; · iexact HO
    iexact Hmw
  iintro ⟨B5, Hd, s5, HO⟩
  sl_exec
  iapply (step_gather d L tb ix q hix 5 (by decide) 2 (6 * t.val + 11) (k0_off4 t 3#32) (k0_off4_inb t 3) (off4_at t 3 _ (by simp))) $$ [B5 T2 I2 g5]
  · isplitl [B5]; · iexact B5
    isplitl [T2]; · iexact T2
    isplitl [I2]; · iexact I2
    iexact g5
  iintro G5
  sl_exec
  iapply (step_gwait d L tb ix q 3 (by decide) 0 (6 * t.val + 9)) $$ [G3 HO]
  · isplitl [G3]; · iexact G3
    isplitl [HO]; · iexact HO
    iexact Hmw
  iintro ⟨B3, T0, I0, g3, HO⟩
  sl_exec
  iapply (step_store d L tb ix 3 (by decide) (6 * t.val + 9) 68 (by omega) (k0_off3 L t 4#32) (k0_off3_inb L t 4) (off3_at L t 4 _ (by simp) ) f₀) $$ [B3 Hr s3]
  · isplitl [B3]; · iexact B3
    isplitl [Hr]; · iexact Hr
    iexact s3
  iintro ⟨S3, Hr⟩
  sl_exec
  iapply (step_swait d L tb ix 0 (by decide) (6 * t.val + 6) inb_S278528x128_S128x128_0_0) $$ [S0 Hd HO]
  · isplitl [S0]; · iexact S0
    isplitl [Hd]; · iexact Hd
    isplitl [HO]; · iexact HO
    iexact Hmw
  iintro ⟨B0, Hd, s0, HO⟩
  sl_exec
  iapply (step_gather d L tb ix q hix 0 (by decide) 0 (6 * t.val + 12) (k0_off4 t 4#32) (k0_off4_inb t 4) (off4_at t 4 _ (by simp))) $$ [B0 T0 I0 g0]
  · isplitl [B0]; · iexact B0
    isplitl [T0]; · iexact T0
    isplitl [I0]; · iexact I0
    iexact g0
  iintro G0
  sl_exec
  iapply (step_gwait d L tb ix q 4 (by decide) 1 (6 * t.val + 10)) $$ [G4 HO]
  · isplitl [G4]; · iexact G4
    isplitl [HO]; · iexact HO
    iexact Hmw
  iintro ⟨B4, T1, I1, g4, HO⟩
  sl_exec
  iapply (step_store d L tb ix 4 (by decide) (6 * t.val + 10) 68 (by omega) (k0_off3 L t 5#32) (k0_off3_inb L t 5) (off3_at L t 5 _ (by simp) ) f₀) $$ [B4 Hr s4]
  · isplitl [B4]; · iexact B4
    isplitl [Hr]; · iexact Hr
    iexact s4
  iintro ⟨S4, Hr⟩
  iapply (step_swait d L tb ix 1 (by decide) (6 * t.val + 7) inb_S278528x128_S128x128_0_0) $$ [S1 Hd HO]
  · isplitl [S1]; · iexact S1
    isplitl [Hd]; · iexact Hd
    isplitl [HO]; · iexact HO
    iexact Hmw
  iintro ⟨B1, Hd, s1, HO⟩
  simp only [Prog.bind]
  iapply (step_gather d L tb ix q hix 1 (by decide) 1 (6 * t.val + 13) (k0_off4 t 5#32) (k0_off4_inb t 5) (off4_at t 5 _ (by simp))) $$ [B1 T1 I1 g1]
  · isplitl [B1]; · iexact B1
    isplitl [T1]; · iexact T1
    isplitl [I1]; · iexact I1
    iexact g1
  iintro G1
  sl_exec
  have e : 6 * (t.val + 1) = 6 * t.val + 6 := by omega
  rw [e]
  sl_step
  isplitl [G5]; · iexact G5
  isplitl [G0]; · iexact G0
  isplitl [G1]; · iexact G1
  isplitl [S2]; · iexact S2
  isplitl [S3]; · iexact S3
  isplitl [S4]; · iexact S4
  isplitl [Hd]; · iexact Hd
  isplitl [Hr]; · iexact Hr
  isplitl [g2]; · iexact g2
  isplitl [g3]; · iexact g3
  isplitl [g4]; · iexact g4
  isplitl [s5]; · iexact s5
  isplitl [s0]; · iexact s0
  isplitl [s1]; · iexact s1
  iexact HO

end Cert.Proof.Tile
-- ==== Proof.Tile.Body.lean ====
/-
  The subcore's whole program: its list fetched, the pipeline filled, the loop, the pipeline drained.
-/
module

public import proofs.«01_k».proof.Proof.Tile.Loop

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (tb : Buf (Elt F) (tLoc d)) (ix : Buf (Elt F) (iLoc d)) (q : PosShare TreeShare) (f₀ : Buf (Elt F) (oLoc d))
variable (O : CellTallies nD τ sig (HIx 1)) (W : Waits sig (HIx 1))

variable [FloatOps F]

omit [FloatOps F] in
theorem off2_at : ∀ (L : grid0.Coords) (r : Fin 8), k0_off2 L (k0_off2_at r)
    = ![17408 * (L 1).val + 8704 * (L 0).val + 128 * (if r.val < 5 then r.val else r.val + 60), 0] := by decide +kernel

omit [FloatOps F] in
theorem off2_eq (r : Fin 8) (n : ℕ) (hn : n = if r.val < 5 then r.val else r.val + 60) :
    k0_off2 L (k0_off2_at r) = ![base L + 128 * n, 0] := by
  rw [off2_at, hn]; rfl

/-- The subcore's part of the list, as the fetch names it. -/
abbrev iSl : Memref sig .scVector .hbm S8704 .i32 :=
  (iV).slice (Rect.unit (s := S278528) (k0_off1 L) S8704.size (k0_off1_inb L)) (fun _ => rfl)

/-- The list as the fetch leaves it, in thirds. -/
theorem list_thirds (fs : Buf (Elt F) ((sV).view.loc (th d L))) (pay : S8704.Idx → Elt F .i32)
    (hpay : pay = (iSl L).view.read (Elt F) ix) :
    ((sV).view.loc (th d L) ↦{fullShare} View.write (Elt F) (sV).view fs pay Finset.univ : sProp 𝕄)
      = iprop(sTok d L ix 0 ∗ sTok d L ix 1 ∗ sTok d L ix 2) := by
  subst hpay
  have h : View.write (Elt F) (sV).view fs
        ((iSl L).view.read (Elt F) ix) Finset.univ
        = lstF (F := F) d L ix := by
    rw [View.write_whole_univ]
    funext x
    rw [View.read_apply]
    refine (cast_eq _ _).trans ?_
    unfold lstF
    congr 1
    funext a
    match a with
    | 0 =>
      apply Fin.ext
      show (((Rect.unit (s := S278528) (k0_off1 L) S8704.size (k0_off1_inb L)).emb x) 0).val = _
      rw [Rect.emb_apply]
      show k0_off1 L 0 + 1 * (x 0).val = base L + (x 0).val
      rw [k0_off1_eq]
      unfold base; simp
  rw [h]
  unfold sTok
  rw [pointsTo_piecesOf Finset.univ (lstF d L ix) (by decide : 0 < 3) fullShare, bigSep_univ_succ, bigSep_univ_succ, bigSep_univ_of_subsingleton (0 : Fin 1)]
  rfl

theorem trip_keep (hix : IxOK d ix) (v2 : BitVec 32) (t : Fin k0_t1_loop.trips) :
    iprop(Transfers.MayWaits (th d L) (default : HIx 1) O ∗ inv d L tb ix q f₀ O W t.val)
      ⊢ wp frame (wpE (defs₀ (F := F)) 𝒱₀ (th d L) none) Set.univ
          (k0_t1_body L tV (Memref.isWhole_whole _) iV (Memref.isWhole_whole _) oV (Memref.isWhole_whole _) sV (Memref.isWhole_whole _)
            rV (Memref.isWhole_whole _) cc0_scratch2 cc0_scratch3 cc0_scoped0 v2 t ⟨⟩)
          fun _ => iprop(Transfers.MayWaits (th d L) (default : HIx 1) O ∗ inv d L tb ix q f₀ O W (t.val + 1)) := by
  refine BIBase.Entails.trans ?_ (wp_frame_l frame _ _)
  iintro ⟨#Hmw, HI⟩
  isplitr
  · iexact Hmw
  iapply (trip d L tb ix q f₀ O W hix v2 t)
  isplitr
  · iexact Hmw
  · iexact HI

theorem owed_insert (s : DmaSem sig) : owes (th d L) O (insert (SemLoc.dma s, (default : HIx 1)) W) ⊢ owed (F := F) d L O W := by
  unfold owed
  iintro HO
  iexists _; isplitr
  swap; · iexact HO
  ipureintro; intro p hp
  rcases Finset.mem_insert.mp hp with hp | hp
  · exact .inr (hp ▸ rfl)
  · exact .inl hp

set_option maxHeartbeats 16000000 in
theorem core (hix : IxOK d ix) (qi : PosShare TreeShare) (fs : Buf (Elt F) ((sV).view.loc (th d L))) :
    iprop(Transfers.MayWaits (th d L) (default : HIx 1) O
        ∗ ((iSl L).view.loc (th d L) ↦[(iSl L).view.set]{qi} ix) ∗ ((sV).view.loc (th d L) ↦{fullShare} fs)
        ∗ (tTok d L tb q 0 ∗ tTok d L tb q 1 ∗ tTok d L tb q 2)
        ∗ (slotAny d L 0 ∗ slotAny d L 1 ∗ slotAny d L 2 ∗ slotAny d L 3 ∗ slotAny d L 4 ∗ slotAny d L 5)
        ∗ oI d L 0 0 (outF d tb ix) ∗ oI d L 0 68 f₀
        ∗ semVal (th d L, SemLoc.dma cc0_scoped0.sem) 0
        ∗ (gZ d L 0 (by decide) ∗ gZ d L 1 (by decide) ∗ gZ d L 2 (by decide) ∗ gZ d L 3 (by decide) ∗ gZ d L 4 (by decide) ∗ gZ d L 5 (by decide))
        ∗ (sZ d L 0 (by decide) ∗ sZ d L 1 (by decide) ∗ sZ d L 2 (by decide) ∗ sZ d L 3 (by decide) ∗ sZ d L 4 (by decide) ∗ sZ d L 5 (by decide))
        ∗ owes (th d L) O W)
      ⊢ wp frame (wpE (defs₀ (F := F)) 𝒱₀ (th d L) none) Set.univ
          (cc0_gather_k L tV (Memref.isWhole_whole _) iV (Memref.isWhole_whole _) oV (Memref.isWhole_whole _) sV (Memref.isWhole_whole _)
            rV (Memref.isWhole_whole _) cc0_scratch2 cc0_scratch3 cc0_scoped0)
          fun _ => iprop(((iSl L).view.loc (th d L) ↦[(iSl L).view.set]{qi} ix) ∗ (sTok d L ix 0 ∗ sTok d L ix 1 ∗ sTok d L ix 2)
        ∗ (tTok d L tb q 0 ∗ tTok d L tb q 1 ∗ tTok d L tb q 2)
        ∗ (slotAny d L 0 ∗ slotAny d L 1 ∗ slotAny d L 2 ∗ slotAny d L 3 ∗ slotAny d L 4 ∗ slotAny d L 5)
        ∗ oI d L 0 68 (outF d tb ix) ∗ oI d L 68 68 f₀
        ∗ semVal (th d L, SemLoc.dma cc0_scoped0.sem) 0
        ∗ (gZ d L 0 (by decide) ∗ gZ d L 1 (by decide) ∗ gZ d L 2 (by decide) ∗ gZ d L 3 (by decide) ∗ gZ d L 4 (by decide) ∗ gZ d L 5 (by decide))
        ∗ (sZ d L 0 (by decide) ∗ sZ d L 1 (by decide) ∗ sZ d L 2 (by decide) ∗ sZ d L 3 (by decide) ∗ sZ d L 4 (by decide) ∗ sZ d L 5 (by decide))
        ∗ owed d L O W) := by
  simp only [cc0_gather_k_eq_skeleton]; unfold cc0_gather_k_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  iintro ⟨#Hmw, Hi, Hs, ⟨T0, T1, T2⟩, ⟨B0, B1, B2, B3, B4, B5⟩, Hd, Hr, sc, ⟨g0, g1, g2, g3, g4, g5⟩, ⟨s0, s1, s2, s3, s4, s5⟩, HO⟩
  ihave Hs := (Entails.of_eq (show ((th d L).loc cc0_scratch0 ↦{fullShare} fs : sProp 𝕄)
    = ((sV).view.loc (th d L) ↦{fullShare} fs) from rfl)) $$ Hs
  ihave Hi := (Entails.of_eq (show ((th d L).loc main_c_scv ↦[(iSl L).view.set]{qi} ix : sProp 𝕄)
    = ((iSl L).view.loc (th d L) ↦[(iSl L).view.set]{qi} ix) from rfl)) $$ Hi
  sl_exec
  ihave Hs' := (Entails.of_eq (list_thirds d L ix fs (core.sl.dma0 d L ix) rfl)) $$ Hs
  icases Hs' with ⟨I0, I1, I2⟩
  ihave HO := (owed_insert d L O W _) $$ HO
  iapply (step_gather d L tb ix q hix 0 (by decide) 0 (0) (![0]) inb_S8704_S128_0 (rfl)) $$ [B0 T0 I0 g0]
  · isplitl [B0]; · iexact B0
    isplitl [T0]; · iexact T0
    isplitl [I0]; · iexact I0
    iexact g0
  iintro G0
  first | sl_exec | (simp only [Prog.bind])
  iapply (step_gather d L tb ix q hix 1 (by decide) 1 (1) (![128]) inb_S8704_S128_128 (rfl)) $$ [B1 T1 I1 g1]
  · isplitl [B1]; · iexact B1
    isplitl [T1]; · iexact T1
    isplitl [I1]; · iexact I1
    iexact g1
  iintro G1
  first | sl_exec | (simp only [Prog.bind])
  iapply (step_gather d L tb ix q hix 2 (by decide) 2 (2) (![256]) inb_S8704_S128_256 (rfl)) $$ [B2 T2 I2 g2]
  · isplitl [B2]; · iexact B2
    isplitl [T2]; · iexact T2
    isplitl [I2]; · iexact I2
    iexact g2
  iintro G2
  first | sl_exec | (simp only [Prog.bind])
  iapply (step_gwait d L tb ix q 0 (by decide) 0 (0)) $$ [G0 HO]
  · isplitl [G0]; · iexact G0
    isplitl [HO]; · iexact HO
    iexact Hmw
  iintro ⟨B0, T0, I0, g0, HO⟩
  first | sl_exec | (simp only [Prog.bind])
  iapply (step_store d L tb ix 0 (by decide) (0) 68 (by decide) (k0_off2 L 0#32) (k0_off2_inb L 0) (off2_eq L 0 0 rfl) f₀) $$ [B0 Hr s0]
  · isplitl [B0]; · iexact B0
    isplitl [Hr]; · iexact Hr
    iexact s0
  iintro ⟨S0, Hr⟩
  first | sl_exec | (simp only [Prog.bind])
  iapply (step_gather d L tb ix q hix 3 (by decide) 0 (3) (![384]) inb_S8704_S128_384 (rfl)) $$ [B3 T0 I0 g3]
  · isplitl [B3]; · iexact B3
    isplitl [T0]; · iexact T0
    isplitl [I0]; · iexact I0
    iexact g3
  iintro G3
  first | sl_exec | (simp only [Prog.bind])
  iapply (step_gwait d L tb ix q 1 (by decide) 1 (1)) $$ [G1 HO]
  · isplitl [G1]; · iexact G1
    isplitl [HO]; · iexact HO
    iexact Hmw
  iintro ⟨B1, T1, I1, g1, HO⟩
  first | sl_exec | (simp only [Prog.bind])
  iapply (step_store d L tb ix 1 (by decide) (1) 68 (by decide) (k0_off2 L 128#32) (k0_off2_inb L 1) (off2_eq L 1 1 rfl) f₀) $$ [B1 Hr s1]
  · isplitl [B1]; · iexact B1
    isplitl [Hr]; · iexact Hr
    iexact s1
  iintro ⟨S1, Hr⟩
  first | sl_exec | (simp only [Prog.bind])
  iapply (step_gather d L tb ix q hix 4 (by decide) 1 (4) (![512]) inb_S8704_S128_512 (rfl)) $$ [B4 T1 I1 g4]
  · isplitl [B4]; · iexact B4
    isplitl [T1]; · iexact T1
    isplitl [I1]; · iexact I1
    iexact g4
  iintro G4
  first | sl_exec | (simp only [Prog.bind])
  iapply (step_gwait d L tb ix q 2 (by decide) 2 (2)) $$ [G2 HO]
  · isplitl [G2]; · iexact G2
    isplitl [HO]; · iexact HO
    iexact Hmw
  iintro ⟨B2, T2, I2, g2, HO⟩
  first | sl_exec | (simp only [Prog.bind])
  iapply (step_store d L tb ix 2 (by decide) (2) 68 (by decide) (k0_off2 L 256#32) (k0_off2_inb L 2) (off2_eq L 2 2 rfl) f₀) $$ [B2 Hr s2]
  · isplitl [B2]; · iexact B2
    isplitl [Hr]; · iexact Hr
    iexact s2
  iintro ⟨S2, Hr⟩
  first | sl_exec | (simp only [Prog.bind])
  iapply (step_gather d L tb ix q hix 5 (by decide) 2 (5) (![640]) inb_S8704_S128_640 (rfl)) $$ [B5 T2 I2 g5]
  · isplitl [B5]; · iexact B5
    isplitl [T2]; · iexact T2
    isplitl [I2]; · iexact I2
    iexact g5
  iintro G5
  first | sl_exec | (simp only [Prog.bind])
  iapply (step_gwait d L tb ix q 3 (by decide) 0 (3)) $$ [G3 HO]
  · isplitl [G3]; · iexact G3
    isplitl [HO]; · iexact HO
    iexact Hmw
  iintro ⟨B3, T0, I0, g3, HO⟩
  first | sl_exec | (simp only [Prog.bind])
  iapply (step_store d L tb ix 3 (by decide) (3) 68 (by decide) (k0_off2 L 384#32) (k0_off2_inb L 3) (off2_eq L 3 3 rfl) f₀) $$ [B3 Hr s3]
  · isplitl [B3]; · iexact B3
    isplitl [Hr]; · iexact Hr
    iexact s3
  iintro ⟨S3, Hr⟩
  first | sl_exec | (simp only [Prog.bind])
  iapply (step_swait d L tb ix 0 (by decide) (0) inb_S278528x128_S128x128_0_0) $$ [S0 Hd HO]
  · isplitl [S0]; · iexact S0
    isplitl [Hd]; · iexact Hd
    isplitl [HO]; · iexact HO
    iexact Hmw
  iintro ⟨B0, Hd, s0, HO⟩
  first | sl_exec | (simp only [Prog.bind])
  iapply (step_gather d L tb ix q hix 0 (by decide) 0 (6) (![768]) inb_S8704_S128_768 (rfl)) $$ [B0 T0 I0 g0]
  · isplitl [B0]; · iexact B0
    isplitl [T0]; · iexact T0
    isplitl [I0]; · iexact I0
    iexact g0
  iintro G0
  first | sl_exec | (simp only [Prog.bind])
  iapply (step_gwait d L tb ix q 4 (by decide) 1 (4)) $$ [G4 HO]
  · isplitl [G4]; · iexact G4
    isplitl [HO]; · iexact HO
    iexact Hmw
  iintro ⟨B4, T1, I1, g4, HO⟩
  first | sl_exec | (simp only [Prog.bind])
  iapply (step_store d L tb ix 4 (by decide) (4) 68 (by decide) (k0_off2 L 512#32) (k0_off2_inb L 4) (off2_eq L 4 4 rfl) f₀) $$ [B4 Hr s4]
  · isplitl [B4]; · iexact B4
    isplitl [Hr]; · iexact Hr
    iexact s4
  iintro ⟨S4, Hr⟩
  first | sl_exec | (simp only [Prog.bind])
  iapply (step_swait d L tb ix 1 (by decide) (1) inb_S278528x128_S128x128_0_0) $$ [S1 Hd HO]
  · isplitl [S1]; · iexact S1
    isplitl [Hd]; · iexact Hd
    isplitl [HO]; · iexact HO
    iexact Hmw
  iintro ⟨B1, Hd, s1, HO⟩
  first | sl_exec | (simp only [Prog.bind])
  iapply (step_gather d L tb ix q hix 1 (by decide) 1 (7) (![896]) inb_S8704_S128_896 (rfl)) $$ [B1 T1 I1 g1]
  · isplitl [B1]; · iexact B1
    isplitl [T1]; · iexact T1
    isplitl [I1]; · iexact I1
    iexact g1
  iintro G1
  first | sl_exec | (simp only [Prog.bind])
  sl_for (fun g _ => iprop(Transfers.MayWaits (th d L) (default : HIx 1) O ∗ inv d L tb ix q f₀ O W g)) $$ [Hmw G5 G0 G1 S2 S3 S4 Hd Hr g2 g3 g4 s5 s0 s1 HO]
  case region =>
    intro k _
    exact trip_keep d L tb ix q f₀ O W hix _ k
  · unfold inv
    isplitr; · iexact Hmw
    isplitl [G5]; · iexact G5
    isplitl [G0]; · iexact G0
    isplitl [G1]; · iexact G1
    isplitl [S2]; · iexact S2
    isplitl [S3]; · iexact S3
    isplitl [S4]; · iexact S4
    isplitl [Hd]; · iexact Hd
    isplitl [Hr]; · iexact Hr
    isplitl [g2]; · iexact g2
    isplitl [g3]; · iexact g3
    isplitl [g4]; · iexact g4
    isplitl [s5]; · iexact s5
    isplitl [s0]; · iexact s0
    isplitl [s1]; · iexact s1
    iexact HO
  iintro %_ HI
  have htr : k0_t1_loop.trips = 10 := rfl
  simp only [htr]
  unfold inv
  icases HI with ⟨-, G5, G0, G1, S2, S3, S4, Hd, Hr, g2, g3, g4, s5, s0, s1, HO⟩
  sl_exec
  iapply (step_gwait d L tb ix q 5 (by decide) 2 (65)) $$ [G5 HO]
  · isplitl [G5]; · iexact G5
    isplitl [HO]; · iexact HO
    iexact Hmw
  iintro ⟨B5, T2, I2, g5, HO⟩
  first | sl_exec | (simp only [Prog.bind])
  iapply (step_store d L tb ix 5 (by decide) (65) 68 (by decide) (k0_off2 L 8320#32) (k0_off2_inb L 5) (off2_eq L 5 65 rfl) f₀) $$ [B5 Hr s5]
  · isplitl [B5]; · iexact B5
    isplitl [Hr]; · iexact Hr
    iexact s5
  iintro ⟨S5, Hr⟩
  first | sl_exec | (simp only [Prog.bind])
  iapply (step_swait d L tb ix 2 (by decide) (62) inb_S278528x128_S128x128_0_0) $$ [S2 Hd HO]
  · isplitl [S2]; · iexact S2
    isplitl [Hd]; · iexact Hd
    isplitl [HO]; · iexact HO
    iexact Hmw
  iintro ⟨B2, Hd, s2, HO⟩
  first | sl_exec | (simp only [Prog.bind])
  iapply (step_gwait d L tb ix q 0 (by decide) 0 (66)) $$ [G0 HO]
  · isplitl [G0]; · iexact G0
    isplitl [HO]; · iexact HO
    iexact Hmw
  iintro ⟨B0, T0, I0, g0, HO⟩
  first | sl_exec | (simp only [Prog.bind])
  iapply (step_store d L tb ix 0 (by decide) (66) 68 (by decide) (k0_off2 L 8448#32) (k0_off2_inb L 6) (off2_eq L 6 66 rfl) f₀) $$ [B0 Hr s0]
  · isplitl [B0]; · iexact B0
    isplitl [Hr]; · iexact Hr
    iexact s0
  iintro ⟨S0, Hr⟩
  first | sl_exec | (simp only [Prog.bind])
  iapply (step_swait d L tb ix 3 (by decide) (63) inb_S278528x128_S128x128_0_0) $$ [S3 Hd HO]
  · isplitl [S3]; · iexact S3
    isplitl [Hd]; · iexact Hd
    isplitl [HO]; · iexact HO
    iexact Hmw
  iintro ⟨B3, Hd, s3, HO⟩
  first | sl_exec | (simp only [Prog.bind])
  iapply (step_gwait d L tb ix q 1 (by decide) 1 (67)) $$ [G1 HO]
  · isplitl [G1]; · iexact G1
    isplitl [HO]; · iexact HO
    iexact Hmw
  iintro ⟨B1, T1, I1, g1, HO⟩
  first | sl_exec | (simp only [Prog.bind])
  iapply (step_store d L tb ix 1 (by decide) (67) 68 (by decide) (k0_off2 L 8576#32) (k0_off2_inb L 7) (off2_eq L 7 67 rfl) f₀) $$ [B1 Hr s1]
  · isplitl [B1]; · iexact B1
    isplitl [Hr]; · iexact Hr
    iexact s1
  iintro ⟨S1, Hr⟩
  first | sl_exec | (simp only [Prog.bind])
  iapply (step_swait d L tb ix 4 (by decide) (64) inb_S278528x128_S128x128_0_0) $$ [S4 Hd HO]
  · isplitl [S4]; · iexact S4
    isplitl [Hd]; · iexact Hd
    isplitl [HO]; · iexact HO
    iexact Hmw
  iintro ⟨B4, Hd, s4, HO⟩
  first | sl_exec | (simp only [Prog.bind])
  iapply (step_swait d L tb ix 5 (by decide) (65) inb_S278528x128_S128x128_0_0) $$ [S5 Hd HO]
  · isplitl [S5]; · iexact S5
    isplitl [Hd]; · iexact Hd
    isplitl [HO]; · iexact HO
    iexact Hmw
  iintro ⟨B5, Hd, s5, HO⟩
  first | sl_exec | (simp only [Prog.bind])
  iapply (step_swait d L tb ix 0 (by decide) (66) inb_S278528x128_S128x128_0_0) $$ [S0 Hd HO]
  · isplitl [S0]; · iexact S0
    isplitl [Hd]; · iexact Hd
    isplitl [HO]; · iexact HO
    iexact Hmw
  iintro ⟨B0, Hd, s0, HO⟩
  first | sl_exec | (simp only [Prog.bind])
  iapply (step_swait d L tb ix 1 (by decide) (67) inb_S278528x128_S128x128_0_0) $$ [S1 Hd HO]
  · isplitl [S1]; · iexact S1
    isplitl [Hd]; · iexact Hd
    isplitl [HO]; · iexact HO
    iexact Hmw
  iintro ⟨B1, Hd, s1, HO⟩
  first | sl_exec | (simp only [Prog.bind])
  sl_step
  isplitl [Hi]; · iexact Hi
  isplitl [I0 I1 I2]
  · isplitl [I0]; · iexact I0
    isplitl [I1]; · iexact I1
    iexact I2
  isplitl [T0 T1 T2]
  · isplitl [T0]; · iexact T0
    isplitl [T1]; · iexact T1
    iexact T2
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [Hd]; · iexact Hd
  isplitl [Hr]; · iexact Hr
  isplitl [sc]; · iexact sc
  isplitl [g0 g1 g2 g3 g4 g5]
  · isplitl [g0]; · iexact g0
    isplitl [g1]; · iexact g1
    isplitl [g2]; · iexact g2
    isplitl [g3]; · iexact g3
    isplitl [g4]; · iexact g4
    iexact g5
  isplitl [s0 s1 s2 s3 s4 s5]
  · isplitl [s0]; · iexact s0
    isplitl [s1]; · iexact s1
    isplitl [s2]; · iexact s2
    isplitl [s3]; · iexact s3
    isplitl [s4]; · iexact s4
    iexact s5
  iexact HO

end Cert.Proof.Tile
-- ==== Proof.Tile.Task.lean ====
/-
  The subcore's task as the call hands it out: a share of the table and of the list, its rows of the output, its own
  scratch and semaphores; back come the same, the rows gathered.
-/
module

public import proofs.«01_k».proof.Proof.Tile.Body

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (tb : Buf (Elt F) (tLoc d)) (ix : Buf (Elt F) (iLoc d)) (q : PosShare TreeShare) (f₀ : Buf (Elt F) (oLoc d))
variable (O : CellTallies nD τ sig (HIx 1)) (W : Waits sig (HIx 1))

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The subcore's semaphores and buffers -/

/-- The subcore's `n`-th transfer semaphore: the gathers', the copies', the list fetch's. -/
def cellAt (n : Fin 13) : GSem nD τ sig := (th d L, .dma n)

/-- The subcore's semaphores at zero: the thirteen the program uses, and the rest. -/
theorem ownSems0_V :
    (ownSems0 (th d L) : sProp 𝕄)
      = iprop((bigSep Finset.univ fun n : Fin 13 => semVal (cellAt d L n) 0)
          ∗ bigSep (ownCells (th d L) \ Finset.univ.image (cellAt d L)) fun g => semVal g 0) := by
  unfold SparseCore.Cfg.ownSems0
  have hsub : Finset.univ.image (cellAt d L) ⊆ ownCells (th d L) := by
    intro g hg
    obtain ⟨n, -, rfl⟩ := Finset.mem_image.mp hg
    refine mem_ownCells.mpr ⟨rfl, ?_⟩
    show (SemLoc.dma n : SemLoc sig).isScoped .scVector = true
    clear hg
    revert n; decide
  have hinj : Set.InjOn (cellAt d L) (Finset.univ : Finset (Fin 13)) := fun a _ b _ h => SemLoc.dma.inj (Prod.mk.inj h).2
  rw [SparseCore.bigSep_sdiff_split' hsub, SparseCore.bigSep_image_of_injOn hinj]

/-- The thirteen, by what they serve. -/
theorem cells_split :
    (bigSep Finset.univ fun n : Fin 13 => semVal (cellAt d L n) 0 : sProp 𝕄)
      = iprop(gZ d L 0 (by decide) ∗ gZ d L 1 (by decide) ∗ gZ d L 2 (by decide) ∗ gZ d L 3 (by decide) ∗ gZ d L 4 (by decide) ∗ gZ d L 5 (by decide)
        ∗ sZ d L 0 (by decide) ∗ sZ d L 1 (by decide) ∗ sZ d L 2 (by decide) ∗ sZ d L 3 (by decide) ∗ sZ d L 4 (by decide) ∗ sZ d L 5 (by decide)
        ∗ semVal (th d L, SemLoc.dma cc0_scoped0.sem) 0) := by
  iterate 12 rw [bigSep_univ_succ]
  rw [bigSep_univ_of_subsingleton (0 : Fin 1)]
  rfl

/-- The two scratch buffers are among the subcore's own: they are them, at some contents, and the rest. -/
theorem ownBufs_V :
    (ownBufs (th d L) : sProp 𝕄)
      = iprop((∃ f, (sV).view.loc (th d L) ↦{fullShare} f) ∗ (∃ f, (rV).view.loc (th d L) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The row buffer in slots -/

theorem slots_disjoint : ∀ b ∈ (Finset.univ : Finset (Fin 6)), ∀ b' ∈ (Finset.univ : Finset (Fin 6)), b ≠ b' → Disjoint (slotSet b.val) (slotSet b'.val) := by
  intro b _ b' _ h
  rw [Finset.disjoint_left]; intro x hx hx'
  rw [mem_slotSet] at hx hx'
  exact h (Fin.ext (hx.symm.trans hx'))
theorem slots_cover : (Finset.univ : Finset (Fin 6)).biUnion (fun b => slotSet b.val) = Finset.univ := by
  ext x
  simp only [Finset.mem_biUnion, Finset.mem_univ, true_and, iff_true]
  exact ⟨⟨(x 0).val, (x 0).isLt⟩, mem_slotSet.mpr rfl⟩

/-- The six slots, each at some contents. -/
theorem slots_six : (bigSep Finset.univ fun b : Fin 6 => slotAny (F := F) d L b.val : sProp 𝕄)
    = iprop(slotAny d L 0 ∗ slotAny d L 1 ∗ slotAny d L 2 ∗ slotAny d L 3 ∗ slotAny d L 4 ∗ slotAny d L 5) := by
  iterate 5 rw [bigSep_univ_succ]
  rw [bigSep_univ_of_subsingleton (0 : Fin 1)]
  rfl

theorem slots_cut (f : Buf (Elt F) ((rV).view.loc (th d L))) :
    ((rV).view.loc (th d L) ↦{fullShare} f : sProp 𝕄)
      ⊢ bigSep Finset.univ fun b : Fin 6 => slotAny (F := F) d L b.val := by
  rw [← slots_cover, pointsTo_biUnion (ℓ := (rV).view.loc (th d L)) Finset.univ (fun b : Fin 6 => slotSet b.val) slots_disjoint]
  refine bigSep_mono fun b _ => ?_
  unfold slotAny slotAt
  show ((rV).view.loc (th d L) ↦[slotSet b.val]{fullShare} f : sProp 𝕄) ⊢ _
  iintro H; iexists f; iexact H

include tb ix in
theorem slots_join :
    (bigSep Finset.univ fun b : Fin 6 => slotAny (F := F) d L b.val : sProp 𝕄)
      ⊢ iprop(∃ f, (rV).view.loc (th d L) ↦{fullShare} f) := by
  unfold slotAny slotAt
  have : Nonempty (Buf (Elt F) ((rV).view.loc (th d L))) := ⟨chunkF d L tb ix 0⟩
  refine (bigSep_exists_pi Finset.univ (fun (b : Fin 6) (f : Buf (Elt F) ((rV).view.loc (th d L))) => ((rV).view.loc (th d L) ↦[slotSet b.val]{fullShare} f : sProp 𝕄))).trans ?_
  iintro ⟨%fs, H⟩
  ihave H' := (pointsTo_biUnion_join (ℓ := (rV).view.loc (th d L)) (q := fullShare) (Val := Elt F) Finset.univ (fun b : Fin 6 => slotSet b.val) fs (fs 0) slots_disjoint) $$ H
  icases H' with ⟨%g, -, Hg⟩
  rw [slots_cover]
  iexists g; iexact Hg

/-- Nothing of the output, at whatever contents. -/
theorem oI_nil (n : ℕ) (f g : Buf (Elt F) (oLoc d)) : oI d L n n f = oI d L n n g := by
  unfold oI
  exact pointsTo_congr fun x hx => by rw [mem_oSet] at hx; omega

theorem thirds_t : ((tV).view.loc (th d L) ↦{q} tb : sProp 𝕄) = iprop(tTok d L tb q 0 ∗ tTok d L tb q 1 ∗ tTok d L tb q 2) := by
  unfold tTok
  rw [pointsTo_piecesOf Finset.univ tb (by decide : 0 < 3) q, bigSep_univ_succ, bigSep_univ_succ, bigSep_univ_of_subsingleton (0 : Fin 1)]
  rfl
theorem thirds_s : (iprop(sTok d L ix 0 ∗ sTok d L ix 1 ∗ sTok d L ix 2) : sProp 𝕄) = ((sV).view.loc (th d L) ↦{fullShare} lstF d L ix) := by
  unfold sTok
  rw [pointsTo_piecesOf Finset.univ (lstF d L ix) (by decide : 0 < 3) fullShare, bigSep_univ_succ, bigSep_univ_succ, bigSep_univ_of_subsingleton (0 : Fin 1)]
  rfl

/-- The list: the subcore's part and the rest. -/
theorem list_cut : (iLoc d ↦{q} ix : sProp 𝕄)
    ⊣⊢ iprop(((iSl L).view.loc (th d L) ↦[(iSl L).view.set]{q} ix) ∗ (iLoc d ↦[Finset.univ \ (iSl L).view.set]{q} ix)) :=
  pointsTo_split_subset (Finset.subset_univ _)

variable [FloatOps F]

set_option maxHeartbeats 4000000 in
/-- The task on one vector subcore: from its share of the table and of the list and its rows of the output, at `f₀`, to
    the same with the rows at what the list names. -/
theorem tile_body (hF : (K (F := F)).Facts) (hix : IxOK d ix) (hO : ∀ g, O g none = 0) :
    (iprop(levAts (K (F := F)).L (K (F := F)).lev ∗ emp
        ∗ ((tLoc d ↦{q} tb) ∗ (iLoc d ↦{q} ix) ∗ (oLoc d ↦[oSet L 0 68]{fullShare} f₀))
        ∗ scopedBufs (th d L) ∗ scopedSems0 (th d L) ∗ owes (th d L) O W) : sProp 𝕄)
      ⊢ wp frame (wpE (defs₀ (F := F)) 𝒱₀ (th d L) none) Set.univ
          (cc0_gather_k L tV (Memref.isWhole_whole _) iV (Memref.isWhole_whole _) oV (Memref.isWhole_whole _) sV (Memref.isWhole_whole _)
            rV (Memref.isWhole_whole _) cc0_scratch2 cc0_scratch3 cc0_scoped0)
          fun _ => iprop(((tLoc d ↦{q} tb) ∗ (iLoc d ↦{q} ix) ∗ (oLoc d ↦[oSet L 0 68]{fullShare} outF d tb ix))
            ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), ownSems0_V, ownBufs_V, cells_split]
  iintro ⟨#Hlv, -, ⟨Ht, Hi, Ho⟩, ⟨⟨%fs, Hs⟩, ⟨%fr, Hr⟩, Hbufs⟩, ⟨⟨g0, g1, g2, g3, g4, g5, s0, s1, s2, s3, s4, s5, sc⟩, Hsems⟩, HO⟩
  ihave Hmw := (show levAts (K (F := F)).L (K (F := F)).lev ⊢ Transfers.MayWaits (th d L) (default : HIx 1) O from
    (K (F := F)).mayWaits_none (thr := th d L) hO) $$ Hlv
  ihave Ht' := (Entails.of_eq (thirds_t d L tb q)) $$ Ht
  ihave Hi' := (list_cut d L ix q).1 $$ Hi
  icases Hi' with ⟨Hi, Hir⟩
  ihave Hr' := (slots_cut d L fr) $$ Hr
  ihave Hr' := (Entails.of_eq (slots_six (F := F) d L)) $$ Hr'
  ihave Ho := (Entails.of_eq (show (oLoc d ↦[oSet L 0 68]{fullShare} f₀ : sProp 𝕄) = oI d L 0 68 f₀ from rfl)) $$ Ho
  ihave Ho' := (oI_cut d L 0 0 68 (le_refl _) (by decide) f₀).1 $$ Ho
  icases Ho' with ⟨Hd, Ho⟩
  ihave Hd := (Entails.of_eq (oI_nil d L 0 f₀ (outF d tb ix))) $$ Hd
  iapply (wp_wand (M := 𝕄) frame (wpE (defs₀ (F := F)) 𝒱₀ (th d L) none) Set.univ) $$ [Hmw Hi Hs Ht' Hr' Hd Ho sc g0 g1 g2 g3 g4 g5 s0 s1 s2 s3 s4 s5 HO]
  · iapply (core d L tb ix q f₀ O W hix q fs)
    isplitl [Hmw]; · iexact Hmw
    isplitl [Hi]; · iexact Hi
    isplitl [Hs]; · iexact Hs
    isplitl [Ht']; · iexact Ht'
    isplitl [Hr']; · iexact Hr'
    isplitl [Hd]; · iexact Hd
    isplitl [Ho]; · iexact Ho
    isplitl [sc]; · iexact sc
    isplitl [g0 g1 g2 g3 g4 g5]
    · isplitl [g0]; · iexact g0
      isplitl [g1]; · iexact g1
      isplitl [g2]; · iexact g2
      isplitl [g3]; · iexact g3
      isplitl [g4]; · iexact g4
      iexact g5
    isplitl [s0 s1 s2 s3 s4 s5]
    · isplitl [s0]; · iexact s0
      isplitl [s1]; · iexact s1
      isplitl [s2]; · iexact s2
      isplitl [s3]; · iexact s3
      isplitl [s4]; · iexact s4
      iexact s5
    iexact HO
  iintro %_ ⟨Hi, Hs, Ht, Hr, Ho, -, sc, ⟨g0, g1, g2, g3, g4, g5⟩, ⟨s0, s1, s2, s3, s4, s5⟩, HO⟩
  isplitl [Ht Hi Hir Ho]
  · isplitl [Ht]; · iapply (Entails.of_eq (thirds_t d L tb q).symm); iexact Ht
    isplitl [Hi Hir]
    · iapply (list_cut d L ix q).2
      isplitl [Hi] <;> iassumption
    iapply (Entails.of_eq (show oI d L 0 68 (outF d tb ix) = (oLoc d ↦[oSet L 0 68]{fullShare} outF d tb ix : sProp 𝕄) from rfl)); iexact Ho
  isplitl [Hs Hr Hbufs]
  · isplitl [Hs]
    · iexists _; iapply (Entails.of_eq (thirds_s d L ix)); iexact Hs
    isplitl [Hr]
    · iapply (slots_join d L tb ix)
      iapply (Entails.of_eq (slots_six (F := F) d L).symm); iexact Hr
    iexact Hbufs
  isplitr [HO]
  · isplitr [Hsems]
    · isplitl [g0]; · iexact g0
      isplitl [g1]; · iexact g1
      isplitl [g2]; · iexact g2
      isplitl [g3]; · iexact g3
      isplitl [g4]; · iexact g4
      isplitl [g5]; · iexact g5
      isplitl [s0]; · iexact s0
      isplitl [s1]; · iexact s1
      isplitl [s2]; · iexact s2
      isplitl [s3]; · iexact s3
      isplitl [s4]; · iexact s4
      isplitl [s5]; · iexact s5
      iexact sc
    iexact Hsems
  unfold owed
  iexact HO

end Cert.Proof.Tile

end
-- ==== Proof.Tile.Launch.lean ====
/-
  The whole program on a device: the list constant, the two layout changes before the call, the call on the two
  SparseCores, and the two layout changes after it.

  A core owns the output rows its sixteen subcores own, and a share of the table and of the list.
-/
module

public import proofs.«01_k».proof.Proof.Tile.Task

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within held_sdiff_result)
open Idealize.ShloMosaic.Rounds
open Idealize.ShloMosaic.Tactic

variable {F : FTy → Type}

local notation "𝕄" => MT nD τ sig (HIx 1) (Elt F) ℕ UU ℕ

/-! ## Cutting the output and the shares -/

theorem nCore_zero : (K (F := F)).nCore 0 = 2 := rfl
theorem nSub_zero : (K (F := F)).nSub 0 = 16 := rfl

/-- The grid position of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

def coV (c : Fin 2) (i : Fin 16) : grid0.Coords := coordsV c i

theorem base_coV (c : Fin 2) (s : Fin 16) : base (coV c s) = 17408 * s.val + 8704 * c.val := rfl

/-- The output rows of core `c`. -/
def coreSet (c : Fin 2) : Finset S278528x128.Idx := Finset.univ.filter fun x => ((x 0).val / 8704) % 2 = c.val

theorem mem_coreSet {c : Fin 2} {x : S278528x128.Idx} : x ∈ coreSet c ↔ ((x 0).val / 8704) % 2 = c.val := by
  unfold coreSet; rw [Finset.mem_filter]; exact and_iff_right (Finset.mem_univ _)

theorem tiles_disjoint (c : Fin 2) : ∀ i ∈ (Finset.univ : Finset (Fin 16)), ∀ j ∈ (Finset.univ : Finset (Fin 16)), i ≠ j →
    Disjoint (oSet (coV c i) 0 68) (oSet (coV c j) 0 68) := by
  intro i _ j _ h
  rw [Finset.disjoint_left]
  intro x hx hy
  rw [mem_oSet, base_coV] at hx hy
  exact h (Fin.ext (by omega))

theorem tiles_cover (c : Fin 2) : (Finset.univ : Finset (Fin 16)).biUnion (fun i => oSet (coV c i) 0 68) = coreSet c := by
  ext x
  have hx : (x 0).val < 278528 := (x 0).isLt
  have hc := c.isLt
  rw [Finset.mem_biUnion, mem_coreSet]
  constructor
  · rintro ⟨i, -, h⟩
    rw [mem_oSet, base_coV] at h
    omega
  · intro h
    refine ⟨⟨(x 0).val / 17408, by omega⟩, Finset.mem_univ _, ?_⟩
    rw [mem_oSet, base_coV]
    show 17408 * ((x 0).val / 17408) + 8704 * c.val + 128 * 0 ≤ (x 0).val ∧ (x 0).val < 17408 * ((x 0).val / 17408) + 8704 * c.val + 128 * 68
    omega

theorem cores_disjoint : ∀ i ∈ (Finset.univ : Finset (Fin 2)), ∀ j ∈ (Finset.univ : Finset (Fin 2)), i ≠ j →
    Disjoint (coreSet i) (coreSet j) := by
  intro i _ j _ h
  rw [Finset.disjoint_left]
  intro x hx hy
  rw [mem_coreSet] at hx hy
  exact h (Fin.ext (hx.symm.trans hy))

theorem cores_cover : (Finset.univ : Finset (Fin 2)).biUnion coreSet = Finset.univ := by
  ext x
  rw [Finset.mem_biUnion]
  exact ⟨fun _ => Finset.mem_univ _, fun _ => ⟨⟨((x 0).val / 8704) % 2, Nat.mod_lt _ (by decide)⟩, Finset.mem_univ _, mem_coreSet.mpr rfl⟩⟩

/-- A core's share of an array every subcore reads, and a subcore's. -/
abbrev shC (c : Fin 2) : PosShare TreeShare := pieceOf fullShare 2 (by decide) c
abbrev shT (c : Fin 2) (i : Fin 16) : PosShare TreeShare := pieceOf (shC c) 16 (by decide) i

/-! ## What the launch hands over -/

section Pay
variable (tb : (d : Dev nD) → Buf (Elt F) (tLoc d)) (ix : (d : Dev nD) → Buf (Elt F) (iLoc d)) (f₀ : (d : Dev nD) → Buf (Elt F) (oLoc d))

/-- A core's part of the call: its shares of the table and of the list, its rows of the output at `f`. -/
abbrev corePts (d : Dev nD) (c : Fin 2) (f : Buf (Elt F) (oLoc d)) : sProp 𝕄 :=
  iprop((tLoc d ↦{shC c} tb d) ∗ (iLoc d ↦{shC c} ix d) ∗ oLoc d ↦[coreSet c]{fullShare} f)
/-- A subcore's part. -/
abbrev tilePts (d : Dev nD) (c : Fin 2) (i : Fin 16) (f : Buf (Elt F) (oLoc d)) : sProp 𝕄 :=
  iprop((tLoc d ↦{shT c i} tb d) ∗ (iLoc d ↦{shT c i} ix d) ∗ oLoc d ↦[oSet (coV c i) 0 68]{fullShare} f)

/-- The output after the call. -/
abbrev outD (d : Dev nD) : Buf (Elt F) (oLoc d) := outF d (tb d) (ix d)

def P : (K (F := F)).Pay (nD := nD) (Val := Elt F) (Name := ℕ) (U := UU) where
  st := fun q d c => match q with | 0 => corePts tb ix d (Fin.cast nCore_zero c) (f₀ d)
  dn := fun q d c => match q with | 0 => corePts tb ix d (Fin.cast nCore_zero c) (outD tb ix d)
  go := fun q d c i => match q with | 0 => tilePts tb ix d (Fin.cast nCore_zero c) (Fin.cast nSub_zero i) (f₀ d)
  td := fun q d c i => match q with | 0 => tilePts tb ix d (Fin.cast nCore_zero c) (Fin.cast nSub_zero i) (outD tb ix d)
  x := fun _ _ => iprop(emp)

instance P_storable : (P (F := F) tb ix f₀).IsStorable where
  st q d c := match q with
    | 0 => (inferInstance : BI.Storable (upEmb : UEmb _ 𝕄) (corePts tb ix d (Fin.cast nCore_zero c) (f₀ d)))
  dn q d c := match q with
    | 0 => (inferInstance : BI.Storable (upEmb : UEmb _ 𝕄) (corePts tb ix d (Fin.cast nCore_zero c) (outD tb ix d)))
  go q d c i := match q with
    | 0 => (inferInstance : BI.Storable (upEmb : UEmb _ 𝕄) (tilePts tb ix d (Fin.cast nCore_zero c) (Fin.cast nSub_zero i) (f₀ d)))
  td q d c i := match q with
    | 0 => (inferInstance : BI.Storable (upEmb : UEmb _ 𝕄) (tilePts tb ix d (Fin.cast nCore_zero c) (Fin.cast nSub_zero i) (outD tb ix d)))

theorem tiles_eq (d : Dev nD) (c : Fin 2) (f : Buf (Elt F) (oLoc d)) :
    corePts tb ix d c f = bigSep Finset.univ fun i : Fin 16 => tilePts tb ix d c i f := by
  rw [bigSep_sep', bigSep_sep']
  unfold corePts
  rw [pointsTo_piecesOf Finset.univ (tb d) (show 0 < 16 by decide) (shC c),
    pointsTo_piecesOf Finset.univ (ix d) (show 0 < 16 by decide) (shC c),
    ← pointsTo_biUnion Finset.univ (ℓ := oLoc d) (fun i => oSet (coV c i) 0 68) (tiles_disjoint c), tiles_cover]

theorem cores_eq (d : Dev nD) (f : Buf (Elt F) (oLoc d)) :
    (iprop((tLoc d ↦{fullShare} tb d) ∗ (iLoc d ↦{fullShare} ix d) ∗ oLoc d ↦{fullShare} f) : sProp 𝕄)
      = bigSep Finset.univ fun c : Fin 2 => corePts tb ix d c f := by
  rw [bigSep_sep', bigSep_sep',
    pointsTo_piecesOf Finset.univ (tb d) (show 0 < 2 by decide) fullShare,
    pointsTo_piecesOf Finset.univ (ix d) (show 0 < 2 by decide) fullShare,
    ← pointsTo_biUnion Finset.univ (ℓ := oLoc d) coreSet cores_disjoint, cores_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P tb ix f₀) 0 := by
  intro d c
  show corePts tb ix d (Fin.cast nCore_zero c) (f₀ d) ⊢ |={Set.univ}=> iprop(
      (bigSep Finset.univ fun i : Fin ((K (F := F)).nSub 0) => tilePts tb ix d (Fin.cast nCore_zero c) (Fin.cast nSub_zero i) (f₀ d))
      ∗ ((bigSep Finset.univ fun i : Fin ((K (F := F)).nSub 0) => tilePts tb ix d (Fin.cast nCore_zero c) (Fin.cast nSub_zero i) (outD tb ix d))
          -∗ corePts tb ix d (Fin.cast nCore_zero c) (outD tb ix d)))
  rw [bigSep_tasks (F := F) (fun i => tilePts tb ix d (Fin.cast nCore_zero c) i (f₀ d)),
    bigSep_tasks (F := F) (fun i => tilePts tb ix d (Fin.cast nCore_zero c) i (outD tb ix d)), ← tiles_eq, ← tiles_eq]
  iintro H; imodintro
  isplitl [H]; · iexact H
  iintro H; iexact H

theorem st0_eq (d : Dev nD) : (bigSep Finset.univ fun c : Fin ((K (F := F)).nCore 0) => (P tb ix f₀).st 0 d c)
    = iprop((tLoc d ↦{fullShare} tb d) ∗ (iLoc d ↦{fullShare} ix d) ∗ oLoc d ↦{fullShare} f₀ d) := by
  rw [cores_eq tb ix d (f₀ d)]
  exact bigSep_cores (F := F) (fun c => corePts tb ix d c (f₀ d))
theorem dn0_eq (d : Dev nD) : (bigSep Finset.univ fun c : Fin ((K (F := F)).nCore 0) => (P tb ix f₀).dn 0 d c)
    = iprop((tLoc d ↦{fullShare} tb d) ∗ (iLoc d ↦{fullShare} ix d) ∗ oLoc d ↦{fullShare} outD tb ix d) := by
  rw [cores_eq tb ix d (outD tb ix d)]
  exact bigSep_cores (F := F) (fun c => corePts tb ix d c (outD tb ix d))

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb ix f₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tb ix f₀).x q thr) = bigSep Finset.univ fun _ => iprop(emp) from
    bigSep_congr fun _ _ => bigSep_univ_of_subsingleton (0 : Fin 1), bigSep_emp']
  iempintro

end Pay

variable [FloatOps F]

/-! ## A subcore's obligation -/

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) iV (Memref.isWhole_whole _) oV (Memref.isWhole_whole _)
          sV (Memref.isWhole_whole _) rV (Memref.isWhole_whole _) cc0_scratch2 cc0_scratch3 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (tb : (d : Dev nD) → Buf (Elt F) (tLoc d)) (ix : (d : Dev nD) → Buf (Elt F) (iLoc d)) (f₀ : (d : Dev nD) → Buf (Elt F) (oLoc d))
    (hF : (K (F := F)).Facts) (hix : ∀ d, IxOK d (ix d)) : (K (F := F)).TileObl (D (F := F)) 𝒱 (P tb ix f₀) v₀ 0 := by
  intro d c i O W hO _ _
  simp only [show (P tb ix f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tb d) (ix d) (shT ⟨_, hci.1⟩ ⟨_, hci.2⟩) (f₀ d) O W hF (hix d) hO).trans
    (wp_mono frame _ _ fun _ => obl_post)

/-! ## @main on the TensorCore -/

variable (m : (ℓ : Loc nD τ sig) → Buf (Elt F) ℓ) (ρ : Dev nD → PrngReg)

abbrev x' : DevRef τ sig := Proc.devRef .tc (main_arg0 : Ref sig .tc)
abbrev c' : DevRef τ sig := Proc.devRef .tc (main_c : Ref sig .tc)
abbrev v0' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev v3' : DevRef τ sig := Proc.devRef .tc (main_v3 : Ref sig .tc)
abbrev r' : DevRef τ sig := Proc.devRef .tc (main_v4 : Ref sig .tc)

abbrev opC : HloOp τ sig (Elt F) := StableHlo.nullary main_c (fun i => lit0 (S278528.rowMajor i))
abbrev opT : HloOp τ sig (Elt F) := StableHlo.unary main_arg0 main_v0 ((transpose S17x16384x128 [1, 0, 2] · transposes_S16384x17x128_S17x16384x128_1_0_2) : (⟨S16384x17x128, .f32⟩ : BufTy).Contents (Elt F) → (⟨S17x16384x128, .f32⟩ : BufTy).Contents (Elt F))
abbrev opR : HloOp τ sig (Elt F) := StableHlo.reshape main_v0 main_v1 (rfl : (.f32 : EltTy) = .f32) shapeCasts_S17x16384x128_S278528x128
abbrev opR' : HloOp τ sig (Elt F) := StableHlo.reshape main_v2 main_v3 (rfl : (.f32 : EltTy) = .f32) shapeCasts_S278528x128_S17x16384x128
abbrev opT' : HloOp τ sig (Elt F) := StableHlo.unary main_v3 main_v4 ((transpose S16384x17x128 [1, 0, 2] · transposes_S17x16384x128_S16384x17x128_1_0_2) : (⟨S17x16384x128, .f32⟩ : BufTy).Contents (Elt F) → (⟨S16384x17x128, .f32⟩ : BufTy).Contents (Elt F))

abbrev xLoc (d : Dev nD) : Loc nD τ sig := (SparseCore.T d).loc main_arg0
abbrev rLoc (d : Dev nD) : Loc nD τ sig := (SparseCore.T d).loc main_v4

/-- The table the call reads, the list it reads, and the result. -/
def tbM (d : Dev nD) : Buf (Elt F) (tLoc d) :=
  shapeCast S278528x128 (transpose S17x16384x128 [1, 0, 2] (m (xLoc d)) transposes_S16384x17x128_S17x16384x128_1_0_2) shapeCasts_S17x16384x128_S278528x128
def ixM (d : Dev nD) : Buf (Elt F) (iLoc d) := fun i => lit0 (S278528.rowMajor i)
def outM' (d : Dev nD) : Buf (Elt F) (oLoc d) := outF d (tbM m d) (ixM d)
def resM (d : Dev nD) : Buf (Elt F) (rLoc d) :=
  transpose S16384x17x128 [1, 0, 2] (shapeCast S17x16384x128 (outM' m d) shapeCasts_S278528x128_S17x16384x128) transposes_S17x16384x128_S16384x17x128_1_0_2

/-- The TensorCore's arrays. -/
abbrev S7 : Finset (DevRef τ sig) := {x', c', v0', t', o', v3', r'}

theorem held_S7 (d : Dev nD) (W : Valuation τ sig (Elt F)) :
    (held (T d) S7 W : sProp 𝕄)
      = iprop((xLoc d ↦{fullShare} W x') ∗ (iLoc d ↦{fullShare} W c') ∗ ((SparseCore.T d).loc main_v0 ↦{fullShare} W v0')
          ∗ (tLoc d ↦{fullShare} W t') ∗ (oLoc d ↦{fullShare} W o') ∗ ((SparseCore.T d).loc main_v3 ↦{fullShare} W v3') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (iLoc d ↦{fullShare} W main_c) ∗ ((SparseCore.T d).loc main_v0 ↦{fullShare} W main_v0)
          ∗ (tLoc d ↦{fullShare} W main_v1) ∗ (oLoc d ↦{fullShare} W main_v2) ∗ ((SparseCore.T d).loc main_v3 ↦{fullShare} W main_v3) ∗ rLoc d ↦{fullShare} W main_v4) := by
  unfold unscopedBufs
  rw [show (Finset.univ.filter fun b : Ref sig .tc => ¬ b.isScoped) = {main_arg0, main_c, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, the one before the call, and the one after it. -/
def V0 (d : Dev nD) : Valuation τ sig (Elt F) := fun b => m (d, b)
def V1 (d : Dev nD) : Valuation τ sig (Elt F) := (opC (F := F)).result (V0 m d)
def V2 (d : Dev nD) : Valuation τ sig (Elt F) := (opT (F := F)).result (V1 m d)
def V3 (d : Dev nD) : Valuation τ sig (Elt F) := (opR (F := F)).result (V2 m d)
def V4 (d : Dev nD) : Valuation τ sig (Elt F) := Function.update (V3 m d) o' (outM' m d)
def V5 (d : Dev nD) : Valuation τ sig (Elt F) := (opR' (F := F)).result (V4 m d)
def V6 (d : Dev nD) : Valuation τ sig (Elt F) := (opT' (F := F)).result (V5 m d)

theorem unscoped_held (d : Dev nD) : (unscopedBufs d (fun b => m ((SparseCore.T d).loc b)) : sProp 𝕄) = held (T d) S7 (V0 m d) := by
  rw [unscopedBufs_eq, held_S7]; rfl

theorem V1_ne (d : Dev nD) {b : DevRef τ sig} (h : b ∉ ({c'} : Finset (DevRef τ sig))) : V1 m d b = V0 m d b := (opC (F := F)).result_of_not_mem _ h
theorem V2_ne (d : Dev nD) {b : DevRef τ sig} (h : b ∉ ({v0'} : Finset (DevRef τ sig))) : V2 m d b = V1 m d b := (opT (F := F)).result_of_not_mem _ h
theorem V3_ne (d : Dev nD) {b : DevRef τ sig} (h : b ∉ ({t'} : Finset (DevRef τ sig))) : V3 m d b = V2 m d b := (opR (F := F)).result_of_not_mem _ h
theorem V5_ne (d : Dev nD) {b : DevRef τ sig} (h : b ∉ ({v3'} : Finset (DevRef τ sig))) : V5 m d b = V4 m d b := (opR' (F := F)).result_of_not_mem _ h
theorem V6_ne (d : Dev nD) {b : DevRef τ sig} (h : b ∉ ({r'} : Finset (DevRef τ sig))) : V6 m d b = V5 m d b := (opT' (F := F)).result_of_not_mem _ h

theorem V3_x (d : Dev nD) : V3 m d x' = m (xLoc d) :=
  (V3_ne m d (by decide)).trans ((V2_ne m d (by decide)).trans (V1_ne m d (by decide)))
theorem V3_o (d : Dev nD) : V3 m d o' = m (oLoc d) :=
  (V3_ne m d (by decide)).trans ((V2_ne m d (by decide)).trans (V1_ne m d (by decide)))
theorem V3_c (d : Dev nD) : V3 m d c' = ixM d :=
  (V3_ne m d (by decide)).trans ((V2_ne m d (by decide)).trans (StableHlo.nullary_result _ _ _ _))
theorem V1_x (d : Dev nD) : V1 m d x' = m (xLoc d) := V1_ne m d (by decide)
theorem V2_v0 (d : Dev nD) : V2 m d v0' = transpose S17x16384x128 [1, 0, 2] (m (xLoc d)) transposes_S16384x17x128_S17x16384x128_1_0_2 :=
  (StableHlo.unary_result _ _ _ _ _ _).trans (congrArg (fun a => transpose S17x16384x128 [1, 0, 2] a transposes_S16384x17x128_S17x16384x128_1_0_2) (V1_x m d))
theorem V3_t (d : Dev nD) : V3 m d t' = tbM m d :=
  (StableHlo.reshape_result _ _ _ _ _ _ _).trans (congrArg (fun a => shapeCast S278528x128 a shapeCasts_S17x16384x128_S278528x128) (V2_v0 m d))
theorem V4_o (d : Dev nD) : V4 m d o' = outM' m d := Function.update_self _ _ _
theorem V4_ne (d : Dev nD) {b : DevRef τ sig} (h : b ≠ o') : V4 m d b = V3 m d b := Function.update_of_ne h _ _
theorem V5_v3 (d : Dev nD) : V5 m d v3' = shapeCast S17x16384x128 (outM' m d) shapeCasts_S278528x128_S17x16384x128 :=
  (StableHlo.reshape_result _ _ _ _ _ _ _).trans (congrArg (fun a => shapeCast S17x16384x128 a shapeCasts_S278528x128_S17x16384x128) (V4_o m d))
theorem V6_r (d : Dev nD) : V6 m d r' = resM m d :=
  (StableHlo.unary_result _ _ _ _ _ _).trans (congrArg (fun a => transpose S16384x17x128 [1, 0, 2] a transposes_S17x16384x128_S16384x17x128_1_0_2) (V5_v3 m d))
theorem V6_x (d : Dev nD) : V6 m d x' = m (xLoc d) :=
  (V6_ne m d (by decide)).trans ((V5_ne m d (by decide)).trans ((V4_ne m d (by decide)).trans (V3_x m d)))

theorem held_V3 (d : Dev nD) :
    (held (T d) S7 (V3 m d) : sProp 𝕄)
      = iprop((xLoc d ↦{fullShare} m (xLoc d)) ∗ (iLoc d ↦{fullShare} ixM d) ∗ ((SparseCore.T d).loc main_v0 ↦{fullShare} V3 m d v0')
          ∗ (tLoc d ↦{fullShare} tbM m d) ∗ (oLoc d ↦{fullShare} m (oLoc d)) ∗ ((SparseCore.T d).loc main_v3 ↦{fullShare} V3 m d v3')
          ∗ rLoc d ↦{fullShare} V3 m d r') := by
  rw [held_S7, V3_x, V3_c, V3_t, V3_o]
theorem held_V4 (d : Dev nD) :
    (held (T d) S7 (V4 m d) : sProp 𝕄)
      = iprop((xLoc d ↦{fullShare} m (xLoc d)) ∗ (iLoc d ↦{fullShare} ixM d) ∗ ((SparseCore.T d).loc main_v0 ↦{fullShare} V3 m d v0')
          ∗ (tLoc d ↦{fullShare} tbM m d) ∗ (oLoc d ↦{fullShare} outM' m d) ∗ ((SparseCore.T d).loc main_v3 ↦{fullShare} V3 m d v3')
          ∗ rLoc d ↦{fullShare} V3 m d r') := by
  rw [held_S7, V4_o, V4_ne m d (b := x') (by decide), V4_ne m d (b := c') (by decide), V4_ne m d (b := v0') (by decide),
    V4_ne m d (b := t') (by decide), V4_ne m d (b := v3') (by decide), V4_ne m d (b := r') (by decide), V3_x, V3_c, V3_t]
theorem held_V6 (d : Dev nD) :
    (held (T d) S7 (V6 m d) : sProp 𝕄)
      = iprop((xLoc d ↦{fullShare} m (xLoc d)) ∗ (iLoc d ↦{fullShare} V6 m d c') ∗ ((SparseCore.T d).loc main_v0 ↦{fullShare} V6 m d v0')
          ∗ (tLoc d ↦{fullShare} V6 m d t') ∗ (oLoc d ↦{fullShare} V6 m d o') ∗ ((SparseCore.T d).loc main_v3 ↦{fullShare} V6 m d v3')
          ∗ rLoc d ↦{fullShare} resM m d) := by
  rw [held_S7, V6_x, V6_r]

theorem hC : (opC (F := F)).bufs ⊆ S7 := show ({c'} : Finset (DevRef τ sig)) ⊆ S7 by decide
theorem hT : (opT (F := F)).bufs ⊆ S7 := show ({x', v0'} : Finset (DevRef τ sig)) ⊆ S7 by decide
theorem hR : (opR (F := F)).bufs ⊆ S7 := show ({v0', t'} : Finset (DevRef τ sig)) ⊆ S7 by decide
theorem hR' : (opR' (F := F)).bufs ⊆ S7 := show ({o', v3'} : Finset (DevRef τ sig)) ⊆ S7 by decide
theorem hT' : (opT' (F := F)).bufs ⊆ S7 := show ({v3', r'} : Finset (DevRef τ sig)) ⊆ S7 by decide

/-- What @main leaves: the input at its launch contents, the result. -/
abbrev FIN (d : Dev nD) : sProp 𝕄 := iprop((xLoc d ↦{fullShare} m (xLoc d)) ∗ rLoc d ↦{fullShare} resM m d)

/-- The launch's payloads. -/
abbrev PM : (K (F := F)).Pay (nD := nD) (Val := Elt F) (Name := ℕ) (U := UU) := P (fun d => tbM m d) (fun d => ixM d) (fun d => m (oLoc d))

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opC) (S := S7) hC (V := V0 m d)) $$ [Hb Hheld]
  · isplitl [Hb] <;> iassumption
  iintro ⟨Hb, Hheld⟩
  ihave Hheld := (Entails.of_eq (show (held (T d) S7 ((opC (F := F)).result (V0 m d)) : sProp 𝕄) = held (T d) S7 (V1 m d) from rfl)) $$ Hheld
  rw [wp_ret]; imodintro
  iapply (wp_hlo_within 𝒱 (SparseCore.T d) none Set.univ (op := opT) (S := S7) hT (V := V1 m d)) $$ [Hb Hheld]
  · isplitl [Hb] <;> iassumption
  iintro ⟨Hb, Hheld⟩
  ihave Hheld := (Entails.of_eq (show (held (T d) S7 ((opT (F := F)).result (V1 m d)) : sProp 𝕄) = held (T d) S7 (V2 m d) from rfl)) $$ Hheld
  rw [wp_ret]; imodintro
  iapply (wp_hlo_within 𝒱 (SparseCore.T d) none Set.univ (op := opR) (S := S7) hR (V := V2 m d)) $$ [Hb Hheld]
  · isplitl [Hb] <;> iassumption
  iintro ⟨Hb, Hheld⟩
  ihave Hheld := (Entails.of_eq (show (held (T d) S7 ((opR (F := F)).result (V2 m d)) : sProp 𝕄) = held (T d) S7 (V3 m d) from rfl)) $$ Hheld
  rw [wp_ret]; imodintro
  ihave Hh := (Entails.of_eq (held_V3 (F := F) m d)) $$ Hheld
  icases Hh with ⟨Hx, Hi, Hv0, Ht, Ho, Hv3, Hr⟩
  iapply ((K (F := F)).wp_run (D (F := F)) 𝒱 (EH := EH) (P := PM m) κ d 0) $$ [Hst Hx Ho Hb Hi Hv0 Ht Hv3 Hr Hts]
  isplitr; · iexact Hctx
  isplitl [Hst]; · iexact Hst
  isplitl [Hi Ht Ho]
  · rw [st0_eq]
    isplitl [Ht]; · iexact Ht
    isplitl [Hi]; · iexact Hi
    iexact Ho
  iintro ⟨Hst, Hdn⟩
  ihave Hdn' := (Entails.of_eq (dn0_eq (fun d => tbM m d) (fun d => ixM d) (fun d => m (oLoc d)) d)) $$ Hdn
  icases Hdn' with ⟨Ht, Hi, Ho⟩
  iapply (wp_hlo_within 𝒱 (SparseCore.T d) none Set.univ (op := opR') (S := S7) hR' (V := V4 m d)) $$ [Hb Hx Hi Hv0 Ht Ho Hv3 Hr]
  · isplitl [Hb]; · iexact Hb
    rw [held_V4]
    isplitl [Hx]; · iexact Hx
    isplitl [Hi]; · iexact Hi
    isplitl [Hv0]; · iexact Hv0
    isplitl [Ht]; · iexact Ht
    isplitl [Ho]; · iexact Ho
    isplitl [Hv3]; · iexact Hv3
    iexact Hr
  iintro ⟨Hb, Hheld⟩
  ihave Hheld := (Entails.of_eq (show (held (T d) S7 ((opR' (F := F)).result (V4 m d)) : sProp 𝕄) = held (T d) S7 (V5 m d) from rfl)) $$ Hheld
  rw [wp_ret]; imodintro
  iapply (wp_hlo_within 𝒱 (SparseCore.T d) none Set.univ (op := opT') (S := S7) hT' (V := V5 m d)) $$ [Hb Hheld]
  · isplitl [Hb] <;> iassumption
  iintro ⟨Hb, Hheld⟩
  ihave Hheld := (Entails.of_eq (show (held (T d) S7 ((opT' (F := F)).result (V5 m d)) : sProp 𝕄) = held (T d) S7 (V6 m d) from rfl)) $$ Hheld
  ihave Hh := (Entails.of_eq (held_V6 (F := F) m d)) $$ Hheld
  icases Hh with ⟨Hx, -, -, -, -, -, Hr⟩
  rw [wp_ret]; imodintro; imodintro
  isplitl [Hst]; · iexact Hst
  isplitr [Hb Hts]
  · isplitl [Hx]; · iexact Hx
    iexact Hr
  isplitl [Hb] <;> iassumption

/-- What the claims read of the final state. -/
def fq (d : Dev nD) (s' : Phys nD τ sig (Elt F)) : Prop := s'.mem.mem (rLoc d) = resM m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := resM m d)) $$ [HSI Hr]
  · isplitl [HSI] <;> iassumption
  icases H with %hr
  ipureintro; exact ⟨funext fun i => hr i (Finset.mem_univ i), funext fun i => hx i (Finset.mem_univ i)⟩

/-- The final states: the result, the input unchanged, every semaphore at zero. -/
def QC : PUnit × MemSt nD τ sig (Elt F) → Prop :=
  fun r => (∀ c : Dev nD, r.2.mem (rLoc c) = resM m c ∧ r.2.mem (xLoc c) = m (xLoc c)) ∧ r.2.sem = fun _ => 0

/-- The whole program's runs, the list's words being rows of the table. -/
theorem run_main [∀ e, Nonempty (Elt F e)] (hix : ∀ d, IxOK (F := F) d (ixM d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (fun d => tbM m d) (fun d => ixM d) (fun d => m (oLoc d)) facts hix)
    (fun q _ => match q with | 0 => SparseCore.Cfg.VecSplit.of_plain (vecSplit (fun d => tbM m d) (fun d => ixM d) (fun d => m (oLoc d))))
    m ρ main (fun _ => iprop(emp)) (FIN m) (u₀ (F := F)) (sep_elim_left.trans (hu₀ (fun d => tbM m d) (fun d => ixM d) (fun d => m (oLoc d))))
    (hmain m ρ) (fq m) (hfin m) (QC m) (fun _ h hz => ⟨h, hz⟩)

end Cert.Proof.Tile

end
-- ==== Proof.Lit.Defs.lean ====
/-
  The row permutations as jax computes them: the counter-based hash behind `jax.random` (threefry, twenty rounds), once
  for any carrier with addition, exclusive or and rotation. At single words it is what the reference computes; at
  numbers holding one word every 64 bits it evaluates many rows at once.
-/
module

public import proofs.«01_k».proof.KernelIdeal

@[expose] public section

noncomputable section

namespace Cert.Proof.Lit

/-! ## The hash -/

/-- What the hash asks of its carrier. -/
structure Ops (α : Type) where
  add : α → α → α
  xor : α → α → α
  rot : ℕ → α → α
  cst : ℕ → α

section Hash
variable {α : Type} (O : Ops α)

/-- One round. -/
def rnd (r : ℕ) (p : α × α) : α × α := (O.add p.1 p.2, O.xor (O.add p.1 p.2) (O.rot r p.2))
/-- The key added after every fourth round. -/
def inj (ka kb : α) (n : ℕ) (p : α × α) : α × α := (O.add p.1 ka, O.add (O.add p.2 kb) (O.cst n))
def four (a b c d : ℕ) (p : α × α) : α × α := rnd O d (rnd O c (rnd O b (rnd O a p)))
/-- The key's third word. -/
def key2 (k0 k1 : α) : α := O.xor (O.xor k0 k1) (O.cst 466688986)

/-- Threefry: the two words of key `(k0, k1)` at counter `(c0, c1)`. -/
def tf (k0 k1 c0 c1 : α) : α × α :=
  inj O (key2 O k0 k1) k0 5 (four O 13 15 26 6 (inj O k1 (key2 O k0 k1) 4 (four O 17 29 16 24 (inj O k0 k1 3 (four O 13 15 26 6
    (inj O (key2 O k0 k1) k0 2 (four O 17 29 16 24 (inj O k1 (key2 O k0 k1) 1 (four O 13 15 26 6 (O.add c0 k0, O.add c1 k1))))))))))

/-- Row `b`'s key: `b` hashed under the seed's key. -/
def rowKey (b : α) : α × α := tf O (O.cst 0) (O.cst 1234) (O.cst 0) b
/-- The second key a row's key splits into. -/
def subKey (k : α × α) : α × α := tf O k.1 k.2 (O.cst 0) (O.cst 1)
/-- The word a key sorts position `c` by. -/
def bitsAt (k : α × α) (c : α) : α := O.xor (tf O k.1 k.2 (O.cst 0) c).1 (tf O k.1 k.2 (O.cst 0) c).2

end Hash

/-- Single words. -/
def wordOps : Ops (BitVec 32) where
  add := (· + ·)
  xor := (· ^^^ ·)
  rot r x := (x <<< r) ||| (x >>> (32 - r))
  cst := BitVec.ofNat 32

/-- The word row `b` sorts position `c` by. -/
def sortKey (b c : ℕ) : BitVec 32 := bitsAt wordOps (subKey wordOps (rowKey wordOps (BitVec.ofNat 32 b))) (BitVec.ofNat 32 c)

/-! ## Many words in one number -/

/-- `2 ^ d` numbers in one, 64 bits apart: `f s, f (s + 1), …`. -/
def pack : ℕ → (ℕ → ℕ) → ℕ → ℕ
  | 0, f, s => f s
  | d + 1, f, s => pack d f s + pack d f (s + 2 ^ d) * 2 ^ (64 * 2 ^ d)

/-- A one in every place. -/
def ones : ℕ → ℕ
  | 0 => 1
  | d + 1 => ones d * (1 + 2 ^ (64 * 2 ^ d))

/-- Words in every place. -/
def packOps (d : ℕ) : Ops ℕ where
  add x y := (x + y) &&& (4294967295 * ones d)
  xor x y := x ^^^ y
  rot r x := ((x * 2 ^ r) &&& (4294967295 * ones d)) ||| ((x / 2 ^ (32 - r)) &&& ((2 ^ r - 1) * ones d))
  cst v := v * ones d

/-- In every place the first number is at least the second (both below 2 ^ 40). -/
def geAll (d x y : ℕ) : Bool := Nat.beq ((x + 1099511627776 * ones d - y) &&& (1099511627776 * ones d)) (1099511627776 * ones d)

/-! ## The check of the list -/

/-- The positions the words name. -/
def posOf (d w : ℕ) : ℕ := (w / 2 ^ 14) &&& (31 * ones d)
/-- What the rows sort those positions by: the word, then the position. -/
def ordOf (d : ℕ) (k : ℕ × ℕ) (c : ℕ) : ℕ := bitsAt (packOps d) k c * 32 + c

/-- One output position's check, of words `w` against rows `i`: every word is `c * 16384 + b` with `c < 17`, and what `c`
    sorts by is at least `o`. The check goes on with one more than what it sorts by. -/
def checkAt (d i : ℕ) (k : ℕ × ℕ) (w o : ℕ) (rest : ℕ → Bool) : Bool :=
  Nat.beq (posOf d w * 2 ^ 14 + i) w && (geAll d (16 * ones d) (posOf d w) && (geAll d (ordOf d k (posOf d w)) o
    && rest (ordOf d k (posOf d w) + ones d)))

/-- The check of the output positions whose words are `ws`, in order. -/
def checkFrom (d i : ℕ) (k : ℕ × ℕ) : List ℕ → ℕ → Bool
  | [], _ => true
  | w :: ws, o => checkAt d i k w o (checkFrom d i k ws)

/-- The whole check of rows `0` to `2 ^ d`, whose words at each output position are `ws`. -/
def check (d : ℕ) (ws : List ℕ) : Bool :=
  checkFrom d (pack d (fun b => b) 0) (subKey (packOps d) (rowKey (packOps d) (pack d (fun b => b) 0))) ws 0

end Cert.Proof.Lit

end
-- ==== Proof.Lit.Table.lean ====
/-
  The list of the table's rows is written in the program as a tree of tables of 128 entries each. Here 128 entries at a
  time are read off a table, and 128 tables off the table above, as one number each, without looking any entry up.
-/
module

public import proofs.«01_k».proof.Proof.Lit.Defs
public import Mathlib.Tactic.IntervalCases
public import Mathlib.Tactic.Ring

@[expose] public section

noncomputable section

namespace Cert.Proof.Lit

open Cert.KernelIdeal

/-- `n` numbers from `f s` on in one, 64 bits apart. -/
def run : ℕ → (ℕ → ℕ) → ℕ → ℕ
  | 0, _, _ => 0
  | n + 1, f, s => f s + run n f (s + 1) * 2 ^ 64

theorem run_add (m n : ℕ) (f : ℕ → ℕ) (s : ℕ) : run (m + n) f s = run m f s + run n f (s + m) * 2 ^ (64 * m) := by
  induction m generalizing s with
  | zero => simp [run]
  | succ m ih =>
    rw [show m + 1 + n = (m + n) + 1 by omega, run, ih, run, show s + 1 + m = s + (m + 1) by omega,
      show 64 * (m + 1) = 64 * m + 64 by omega, pow_add]
    ring

theorem pack_eq_run (d : ℕ) (f : ℕ → ℕ) (s : ℕ) : pack d f s = run (2 ^ d) f s := by
  induction d generalizing s with
  | zero => simp [pack, run]
  | succ d ih => rw [pack, ih, ih, show 2 ^ (d + 1) = 2 ^ d + 2 ^ d by ring, run_add]

theorem run_congr {n : ℕ} {f g : ℕ → ℕ} {s : ℕ} (h : ∀ i, i < n → f (s + i) = g (s + i)) : run n f s = run n g s := by
  induction n generalizing s with
  | zero => rfl
  | succ n ih =>
    rw [run, run, show f s = g s from h 0 (by omega), ih fun i hi => ?_]
    rw [show s + 1 + i = s + (i + 1) by omega]; exact h (i + 1) (by omega)

/-- The words of a list in one number. -/
def ofWords : List (BitVec 32) → ℕ
  | [] => 0
  | a :: l => a.toNat + ofWords l * 2 ^ 64
/-- The tables of a list in one number, 128 words each. -/
def ofTables : List ℕ → ℕ
  | [] => 0
  | v :: l => v + ofTables l * 2 ^ (64 * 128)

theorem run_ofWords (f : ℕ → BitVec 32) (l : List (BitVec 32)) (s : ℕ) (h : ∀ i, i < l.length → f (s + i) = l.getD i 0) :
    run l.length (fun b => (f b).toNat) s = ofWords l := by
  induction l generalizing s with
  | nil => rfl
  | cons a l ih =>
    rw [List.length_cons, run, ofWords, ih (s + 1) fun i hi => ?_]
    · have := h 0 (by simp)
      rw [Nat.add_zero] at this
      rw [this]; rfl
    · have := h (i + 1) (by simpa using hi)
      rw [show s + 1 + i = s + (i + 1) by omega, this]; rfl

theorem run_ofTables (f : ℕ → ℕ) (l : List ℕ) (s : ℕ) (h : ∀ q, q < l.length → run 128 f (s + 128 * q) = l.getD q 0) :
    run (128 * l.length) f s = ofTables l := by
  induction l generalizing s with
  | nil => rfl
  | cons a l ih =>
    rw [List.length_cons, show 128 * (l.length + 1) = 128 + 128 * l.length by ring, run_add, ofTables, ih (s + 128) fun q hq => ?_]
    · have := h 0 (by simp)
      rw [Nat.mul_zero, Nat.add_zero] at this
      rw [this]; rfl
    · have := h (q + 1) (by simpa using hq)
      rw [show s + 128 + 128 * q = s + 128 * (q + 1) by ring, this]; rfl

/-- `f` on a block of 128 is `v`. -/
def IsLeaf (f : ℕ → BitVec 32) (v : ℕ) : Prop := ∀ s, s % 128 = 0 → run 128 (fun b => (f b).toNat) s = v
/-- `f` on a block of 16384 is `v`. -/
def IsNode (f : ℕ → BitVec 32) (v : ℕ) : Prop := ∀ s, s % 16384 = 0 → run 16384 (fun b => (f b).toNat) s = v

/-- A way of choosing one of 128 by number. -/
abbrev Choice : Type := ℕ →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (Unit → BitVec 32) → (Unit → BitVec 32) → (Unit → BitVec 32) → (Unit → BitVec 32) →
    (Unit → BitVec 32) → (Unit → BitVec 32) → (ℕ → BitVec 32) → BitVec 32

/-- It chooses the one so numbered. -/
def Chooses (m : Choice) : Prop := ∀ (h : ℕ → Unit → BitVec 32) (e : ℕ → BitVec 32) (x : ℕ), x < 128 → m x
    (h 0) (h 1) (h 2) (h 3) (h 4) (h 5) (h 6) (h 7) (h 8) (h 9) (h 10) (h 11) (h 12) (h 13) (h 14) (h 15) (h 16) (h 17) (h 18) (h 19) (h 20) (h 21)
    (h 22) (h 23) (h 24) (h 25) (h 26) (h 27) (h 28) (h 29) (h 30) (h 31) (h 32) (h 33) (h 34) (h 35) (h 36) (h 37) (h 38) (h 39) (h 40) (h 41)
    (h 42) (h 43) (h 44) (h 45) (h 46) (h 47) (h 48) (h 49) (h 50) (h 51) (h 52) (h 53) (h 54) (h 55) (h 56) (h 57) (h 58) (h 59) (h 60) (h 61)
    (h 62) (h 63) (h 64) (h 65) (h 66) (h 67) (h 68) (h 69) (h 70) (h 71) (h 72) (h 73) (h 74) (h 75) (h 76) (h 77) (h 78) (h 79) (h 80) (h 81)
    (h 82) (h 83) (h 84) (h 85) (h 86) (h 87) (h 88) (h 89) (h 90) (h 91) (h 92) (h 93) (h 94) (h 95) (h 96) (h 97) (h 98) (h 99) (h 100) (h 101)
    (h 102) (h 103) (h 104) (h 105) (h 106) (h 107) (h 108) (h 109) (h 110) (h 111) (h 112) (h 113) (h 114) (h 115) (h 116) (h 117) (h 118) (h 119)
    (h 120) (h 121) (h 122) (h 123) (h 124) (h 125) (h 126) (h 127) e = h x ()

section
variable {a0 a1 a2 a3 a4 a5 a6 a7 a8 a9 a10 a11 a12 a13 a14 a15 a16 a17 a18 a19 a20 a21 a22 a23 a24 a25 a26 a27 a28 a29 a30 a31 a32 a33 a34 a35 a36 a37 a38
    a39 a40 a41 a42 a43 a44 a45 a46 a47 a48 a49 a50 a51 a52 a53 a54 a55 a56 a57 a58 a59 a60 a61 a62 a63 a64 a65 a66 a67 a68 a69 a70 a71 a72 a73 a74
    a75 a76 a77 a78 a79 a80 a81 a82 a83 a84 a85 a86 a87 a88 a89 a90 a91 a92 a93 a94 a95 a96 a97 a98 a99 a100 a101 a102 a103 a104 a105 a106 a107 a108
    a109 a110 a111 a112 a113 a114 a115 a116 a117 a118 a119 a120 a121 a122 a123 a124 a125 a126 a127 : BitVec 32} {e : ℕ → BitVec 32}

set_option maxRecDepth 20000 in
/-- A table of 128 words, read off as one number. -/
theorem leaf_mk (m : Choice) (hm : Chooses m) : IsLeaf (fun i => m (i % 128)
    (fun _ => a0) (fun _ => a1) (fun _ => a2) (fun _ => a3) (fun _ => a4) (fun _ => a5) (fun _ => a6) (fun _ => a7) (fun _ => a8) (fun _ => a9)
    (fun _ => a10) (fun _ => a11) (fun _ => a12) (fun _ => a13) (fun _ => a14) (fun _ => a15) (fun _ => a16) (fun _ => a17) (fun _ => a18)
    (fun _ => a19) (fun _ => a20) (fun _ => a21) (fun _ => a22) (fun _ => a23) (fun _ => a24) (fun _ => a25) (fun _ => a26) (fun _ => a27)
    (fun _ => a28) (fun _ => a29) (fun _ => a30) (fun _ => a31) (fun _ => a32) (fun _ => a33) (fun _ => a34) (fun _ => a35) (fun _ => a36)
    (fun _ => a37) (fun _ => a38) (fun _ => a39) (fun _ => a40) (fun _ => a41) (fun _ => a42) (fun _ => a43) (fun _ => a44) (fun _ => a45)
    (fun _ => a46) (fun _ => a47) (fun _ => a48) (fun _ => a49) (fun _ => a50) (fun _ => a51) (fun _ => a52) (fun _ => a53) (fun _ => a54)
    (fun _ => a55) (fun _ => a56) (fun _ => a57) (fun _ => a58) (fun _ => a59) (fun _ => a60) (fun _ => a61) (fun _ => a62) (fun _ => a63)
    (fun _ => a64) (fun _ => a65) (fun _ => a66) (fun _ => a67) (fun _ => a68) (fun _ => a69) (fun _ => a70) (fun _ => a71) (fun _ => a72)
    (fun _ => a73) (fun _ => a74) (fun _ => a75) (fun _ => a76) (fun _ => a77) (fun _ => a78) (fun _ => a79) (fun _ => a80) (fun _ => a81)
    (fun _ => a82) (fun _ => a83) (fun _ => a84) (fun _ => a85) (fun _ => a86) (fun _ => a87) (fun _ => a88) (fun _ => a89) (fun _ => a90)
    (fun _ => a91) (fun _ => a92) (fun _ => a93) (fun _ => a94) (fun _ => a95) (fun _ => a96) (fun _ => a97) (fun _ => a98) (fun _ => a99)
    (fun _ => a100) (fun _ => a101) (fun _ => a102) (fun _ => a103) (fun _ => a104) (fun _ => a105) (fun _ => a106) (fun _ => a107) (fun _ => a108)
    (fun _ => a109) (fun _ => a110) (fun _ => a111) (fun _ => a112) (fun _ => a113) (fun _ => a114) (fun _ => a115) (fun _ => a116) (fun _ => a117)
    (fun _ => a118) (fun _ => a119) (fun _ => a120) (fun _ => a121) (fun _ => a122) (fun _ => a123) (fun _ => a124) (fun _ => a125) (fun _ => a126)
    (fun _ => a127) e)
    (ofWords (
    a0 :: a1 :: a2 :: a3 :: a4 :: a5 :: a6 :: a7 :: a8 :: a9 :: a10 :: a11 :: a12 :: a13 :: a14 :: a15 :: a16 :: a17 :: a18 :: a19 :: a20 :: a21 ::
    a22 :: a23 :: a24 :: a25 :: a26 :: a27 :: a28 :: a29 :: a30 :: a31 :: a32 :: a33 :: a34 :: a35 :: a36 :: a37 :: a38 :: a39 :: a40 :: a41 ::
    a42 :: a43 :: a44 :: a45 :: a46 :: a47 :: a48 :: a49 :: a50 :: a51 :: a52 :: a53 :: a54 :: a55 :: a56 :: a57 :: a58 :: a59 :: a60 :: a61 ::
    a62 :: a63 :: a64 :: a65 :: a66 :: a67 :: a68 :: a69 :: a70 :: a71 :: a72 :: a73 :: a74 :: a75 :: a76 :: a77 :: a78 :: a79 :: a80 :: a81 ::
    a82 :: a83 :: a84 :: a85 :: a86 :: a87 :: a88 :: a89 :: a90 :: a91 :: a92 :: a93 :: a94 :: a95 :: a96 :: a97 :: a98 :: a99 :: a100 :: a101 ::
    a102 :: a103 :: a104 :: a105 :: a106 :: a107 :: a108 :: a109 :: a110 :: a111 :: a112 :: a113 :: a114 :: a115 :: a116 :: a117 :: a118 :: a119 ::
    a120 :: a121 :: a122 :: a123 :: a124 :: a125 :: a126 :: a127 :: [])) := by
  intro s hs
  refine run_ofWords _ (
    a0 :: a1 :: a2 :: a3 :: a4 :: a5 :: a6 :: a7 :: a8 :: a9 :: a10 :: a11 :: a12 :: a13 :: a14 :: a15 :: a16 :: a17 :: a18 :: a19 :: a20 :: a21 ::
    a22 :: a23 :: a24 :: a25 :: a26 :: a27 :: a28 :: a29 :: a30 :: a31 :: a32 :: a33 :: a34 :: a35 :: a36 :: a37 :: a38 :: a39 :: a40 :: a41 ::
    a42 :: a43 :: a44 :: a45 :: a46 :: a47 :: a48 :: a49 :: a50 :: a51 :: a52 :: a53 :: a54 :: a55 :: a56 :: a57 :: a58 :: a59 :: a60 :: a61 ::
    a62 :: a63 :: a64 :: a65 :: a66 :: a67 :: a68 :: a69 :: a70 :: a71 :: a72 :: a73 :: a74 :: a75 :: a76 :: a77 :: a78 :: a79 :: a80 :: a81 ::
    a82 :: a83 :: a84 :: a85 :: a86 :: a87 :: a88 :: a89 :: a90 :: a91 :: a92 :: a93 :: a94 :: a95 :: a96 :: a97 :: a98 :: a99 :: a100 :: a101 ::
    a102 :: a103 :: a104 :: a105 :: a106 :: a107 :: a108 :: a109 :: a110 :: a111 :: a112 :: a113 :: a114 :: a115 :: a116 :: a117 :: a118 :: a119 ::
    a120 :: a121 :: a122 :: a123 :: a124 :: a125 :: a126 :: a127 :: []) s fun i hi => ?_
  have hi : i < 128 := hi
  beta_reduce
  rw [show (s + i) % 128 = i by omega]
  exact hm (fun n _ => List.getD (
    a0 :: a1 :: a2 :: a3 :: a4 :: a5 :: a6 :: a7 :: a8 :: a9 :: a10 :: a11 :: a12 :: a13 :: a14 :: a15 :: a16 :: a17 :: a18 :: a19 :: a20 :: a21 ::
    a22 :: a23 :: a24 :: a25 :: a26 :: a27 :: a28 :: a29 :: a30 :: a31 :: a32 :: a33 :: a34 :: a35 :: a36 :: a37 :: a38 :: a39 :: a40 :: a41 ::
    a42 :: a43 :: a44 :: a45 :: a46 :: a47 :: a48 :: a49 :: a50 :: a51 :: a52 :: a53 :: a54 :: a55 :: a56 :: a57 :: a58 :: a59 :: a60 :: a61 ::
    a62 :: a63 :: a64 :: a65 :: a66 :: a67 :: a68 :: a69 :: a70 :: a71 :: a72 :: a73 :: a74 :: a75 :: a76 :: a77 :: a78 :: a79 :: a80 :: a81 ::
    a82 :: a83 :: a84 :: a85 :: a86 :: a87 :: a88 :: a89 :: a90 :: a91 :: a92 :: a93 :: a94 :: a95 :: a96 :: a97 :: a98 :: a99 :: a100 :: a101 ::
    a102 :: a103 :: a104 :: a105 :: a106 :: a107 :: a108 :: a109 :: a110 :: a111 :: a112 :: a113 :: a114 :: a115 :: a116 :: a117 :: a118 :: a119 ::
    a120 :: a121 :: a122 :: a123 :: a124 :: a125 :: a126 :: a127 :: []) n 0) e i hi
end

section
variable {f0 f1 f2 f3 f4 f5 f6 f7 f8 f9 f10 f11 f12 f13 f14 f15 f16 f17 f18 f19 f20 f21 f22 f23 f24 f25 f26 f27 f28 f29 f30 f31 f32 f33 f34 f35 f36 f37 f38
    f39 f40 f41 f42 f43 f44 f45 f46 f47 f48 f49 f50 f51 f52 f53 f54 f55 f56 f57 f58 f59 f60 f61 f62 f63 f64 f65 f66 f67 f68 f69 f70 f71 f72 f73 f74
    f75 f76 f77 f78 f79 f80 f81 f82 f83 f84 f85 f86 f87 f88 f89 f90 f91 f92 f93 f94 f95 f96 f97 f98 f99 f100 f101 f102 f103 f104 f105 f106 f107 f108
    f109 f110 f111 f112 f113 f114 f115 f116 f117 f118 f119 f120 f121 f122 f123 f124 f125 f126 f127 : ℕ → BitVec 32} {e : ℕ → BitVec 32}
variable {v0 v1 v2 v3 v4 v5 v6 v7 v8 v9 v10 v11 v12 v13 v14 v15 v16 v17 v18 v19 v20 v21 v22 v23 v24 v25 v26 v27 v28 v29 v30 v31 v32 v33 v34 v35 v36 v37 v38
    v39 v40 v41 v42 v43 v44 v45 v46 v47 v48 v49 v50 v51 v52 v53 v54 v55 v56 v57 v58 v59 v60 v61 v62 v63 v64 v65 v66 v67 v68 v69 v70 v71 v72 v73 v74
    v75 v76 v77 v78 v79 v80 v81 v82 v83 v84 v85 v86 v87 v88 v89 v90 v91 v92 v93 v94 v95 v96 v97 v98 v99 v100 v101 v102 v103 v104 v105 v106 v107 v108
    v109 v110 v111 v112 v113 v114 v115 v116 v117 v118 v119 v120 v121 v122 v123 v124 v125 v126 v127 : ℕ}

set_option maxRecDepth 20000 in
/-- 128 tables of 128 words, read off as one number. -/
theorem node_mk (m : Choice) (hm : Chooses m)
    (h0 : IsLeaf f0 v0) (h1 : IsLeaf f1 v1) (h2 : IsLeaf f2 v2) (h3 : IsLeaf f3 v3) (h4 : IsLeaf f4 v4) (h5 : IsLeaf f5 v5) (h6 : IsLeaf f6 v6)
    (h7 : IsLeaf f7 v7) (h8 : IsLeaf f8 v8) (h9 : IsLeaf f9 v9) (h10 : IsLeaf f10 v10) (h11 : IsLeaf f11 v11) (h12 : IsLeaf f12 v12)
    (h13 : IsLeaf f13 v13) (h14 : IsLeaf f14 v14) (h15 : IsLeaf f15 v15) (h16 : IsLeaf f16 v16) (h17 : IsLeaf f17 v17) (h18 : IsLeaf f18 v18)
    (h19 : IsLeaf f19 v19) (h20 : IsLeaf f20 v20) (h21 : IsLeaf f21 v21) (h22 : IsLeaf f22 v22) (h23 : IsLeaf f23 v23) (h24 : IsLeaf f24 v24)
    (h25 : IsLeaf f25 v25) (h26 : IsLeaf f26 v26) (h27 : IsLeaf f27 v27) (h28 : IsLeaf f28 v28) (h29 : IsLeaf f29 v29) (h30 : IsLeaf f30 v30)
    (h31 : IsLeaf f31 v31) (h32 : IsLeaf f32 v32) (h33 : IsLeaf f33 v33) (h34 : IsLeaf f34 v34) (h35 : IsLeaf f35 v35) (h36 : IsLeaf f36 v36)
    (h37 : IsLeaf f37 v37) (h38 : IsLeaf f38 v38) (h39 : IsLeaf f39 v39) (h40 : IsLeaf f40 v40) (h41 : IsLeaf f41 v41) (h42 : IsLeaf f42 v42)
    (h43 : IsLeaf f43 v43) (h44 : IsLeaf f44 v44) (h45 : IsLeaf f45 v45) (h46 : IsLeaf f46 v46) (h47 : IsLeaf f47 v47) (h48 : IsLeaf f48 v48)
    (h49 : IsLeaf f49 v49) (h50 : IsLeaf f50 v50) (h51 : IsLeaf f51 v51) (h52 : IsLeaf f52 v52) (h53 : IsLeaf f53 v53) (h54 : IsLeaf f54 v54)
    (h55 : IsLeaf f55 v55) (h56 : IsLeaf f56 v56) (h57 : IsLeaf f57 v57) (h58 : IsLeaf f58 v58) (h59 : IsLeaf f59 v59) (h60 : IsLeaf f60 v60)
    (h61 : IsLeaf f61 v61) (h62 : IsLeaf f62 v62) (h63 : IsLeaf f63 v63) (h64 : IsLeaf f64 v64) (h65 : IsLeaf f65 v65) (h66 : IsLeaf f66 v66)
    (h67 : IsLeaf f67 v67) (h68 : IsLeaf f68 v68) (h69 : IsLeaf f69 v69) (h70 : IsLeaf f70 v70) (h71 : IsLeaf f71 v71) (h72 : IsLeaf f72 v72)
    (h73 : IsLeaf f73 v73) (h74 : IsLeaf f74 v74) (h75 : IsLeaf f75 v75) (h76 : IsLeaf f76 v76) (h77 : IsLeaf f77 v77) (h78 : IsLeaf f78 v78)
    (h79 : IsLeaf f79 v79) (h80 : IsLeaf f80 v80) (h81 : IsLeaf f81 v81) (h82 : IsLeaf f82 v82) (h83 : IsLeaf f83 v83) (h84 : IsLeaf f84 v84)
    (h85 : IsLeaf f85 v85) (h86 : IsLeaf f86 v86) (h87 : IsLeaf f87 v87) (h88 : IsLeaf f88 v88) (h89 : IsLeaf f89 v89) (h90 : IsLeaf f90 v90)
    (h91 : IsLeaf f91 v91) (h92 : IsLeaf f92 v92) (h93 : IsLeaf f93 v93) (h94 : IsLeaf f94 v94) (h95 : IsLeaf f95 v95) (h96 : IsLeaf f96 v96)
    (h97 : IsLeaf f97 v97) (h98 : IsLeaf f98 v98) (h99 : IsLeaf f99 v99) (h100 : IsLeaf f100 v100) (h101 : IsLeaf f101 v101)
    (h102 : IsLeaf f102 v102) (h103 : IsLeaf f103 v103) (h104 : IsLeaf f104 v104) (h105 : IsLeaf f105 v105) (h106 : IsLeaf f106 v106)
    (h107 : IsLeaf f107 v107) (h108 : IsLeaf f108 v108) (h109 : IsLeaf f109 v109) (h110 : IsLeaf f110 v110) (h111 : IsLeaf f111 v111)
    (h112 : IsLeaf f112 v112) (h113 : IsLeaf f113 v113) (h114 : IsLeaf f114 v114) (h115 : IsLeaf f115 v115) (h116 : IsLeaf f116 v116)
    (h117 : IsLeaf f117 v117) (h118 : IsLeaf f118 v118) (h119 : IsLeaf f119 v119) (h120 : IsLeaf f120 v120) (h121 : IsLeaf f121 v121)
    (h122 : IsLeaf f122 v122) (h123 : IsLeaf f123 v123) (h124 : IsLeaf f124 v124) (h125 : IsLeaf f125 v125) (h126 : IsLeaf f126 v126)
    (h127 : IsLeaf f127 v127) :
    IsNode (fun i => m (i / 128 % 128)
    (fun _ => f0 i) (fun _ => f1 i) (fun _ => f2 i) (fun _ => f3 i) (fun _ => f4 i) (fun _ => f5 i) (fun _ => f6 i) (fun _ => f7 i) (fun _ => f8 i)
    (fun _ => f9 i) (fun _ => f10 i) (fun _ => f11 i) (fun _ => f12 i) (fun _ => f13 i) (fun _ => f14 i) (fun _ => f15 i) (fun _ => f16 i)
    (fun _ => f17 i) (fun _ => f18 i) (fun _ => f19 i) (fun _ => f20 i) (fun _ => f21 i) (fun _ => f22 i) (fun _ => f23 i) (fun _ => f24 i)
    (fun _ => f25 i) (fun _ => f26 i) (fun _ => f27 i) (fun _ => f28 i) (fun _ => f29 i) (fun _ => f30 i) (fun _ => f31 i) (fun _ => f32 i)
    (fun _ => f33 i) (fun _ => f34 i) (fun _ => f35 i) (fun _ => f36 i) (fun _ => f37 i) (fun _ => f38 i) (fun _ => f39 i) (fun _ => f40 i)
    (fun _ => f41 i) (fun _ => f42 i) (fun _ => f43 i) (fun _ => f44 i) (fun _ => f45 i) (fun _ => f46 i) (fun _ => f47 i) (fun _ => f48 i)
    (fun _ => f49 i) (fun _ => f50 i) (fun _ => f51 i) (fun _ => f52 i) (fun _ => f53 i) (fun _ => f54 i) (fun _ => f55 i) (fun _ => f56 i)
    (fun _ => f57 i) (fun _ => f58 i) (fun _ => f59 i) (fun _ => f60 i) (fun _ => f61 i) (fun _ => f62 i) (fun _ => f63 i) (fun _ => f64 i)
    (fun _ => f65 i) (fun _ => f66 i) (fun _ => f67 i) (fun _ => f68 i) (fun _ => f69 i) (fun _ => f70 i) (fun _ => f71 i) (fun _ => f72 i)
    (fun _ => f73 i) (fun _ => f74 i) (fun _ => f75 i) (fun _ => f76 i) (fun _ => f77 i) (fun _ => f78 i) (fun _ => f79 i) (fun _ => f80 i)
    (fun _ => f81 i) (fun _ => f82 i) (fun _ => f83 i) (fun _ => f84 i) (fun _ => f85 i) (fun _ => f86 i) (fun _ => f87 i) (fun _ => f88 i)
    (fun _ => f89 i) (fun _ => f90 i) (fun _ => f91 i) (fun _ => f92 i) (fun _ => f93 i) (fun _ => f94 i) (fun _ => f95 i) (fun _ => f96 i)
    (fun _ => f97 i) (fun _ => f98 i) (fun _ => f99 i) (fun _ => f100 i) (fun _ => f101 i) (fun _ => f102 i) (fun _ => f103 i) (fun _ => f104 i)
    (fun _ => f105 i) (fun _ => f106 i) (fun _ => f107 i) (fun _ => f108 i) (fun _ => f109 i) (fun _ => f110 i) (fun _ => f111 i) (fun _ => f112 i)
    (fun _ => f113 i) (fun _ => f114 i) (fun _ => f115 i) (fun _ => f116 i) (fun _ => f117 i) (fun _ => f118 i) (fun _ => f119 i) (fun _ => f120 i)
    (fun _ => f121 i) (fun _ => f122 i) (fun _ => f123 i) (fun _ => f124 i) (fun _ => f125 i) (fun _ => f126 i) (fun _ => f127 i) e)
    (ofTables (
    v0 :: v1 :: v2 :: v3 :: v4 :: v5 :: v6 :: v7 :: v8 :: v9 :: v10 :: v11 :: v12 :: v13 :: v14 :: v15 :: v16 :: v17 :: v18 :: v19 :: v20 :: v21 ::
    v22 :: v23 :: v24 :: v25 :: v26 :: v27 :: v28 :: v29 :: v30 :: v31 :: v32 :: v33 :: v34 :: v35 :: v36 :: v37 :: v38 :: v39 :: v40 :: v41 ::
    v42 :: v43 :: v44 :: v45 :: v46 :: v47 :: v48 :: v49 :: v50 :: v51 :: v52 :: v53 :: v54 :: v55 :: v56 :: v57 :: v58 :: v59 :: v60 :: v61 ::
    v62 :: v63 :: v64 :: v65 :: v66 :: v67 :: v68 :: v69 :: v70 :: v71 :: v72 :: v73 :: v74 :: v75 :: v76 :: v77 :: v78 :: v79 :: v80 :: v81 ::
    v82 :: v83 :: v84 :: v85 :: v86 :: v87 :: v88 :: v89 :: v90 :: v91 :: v92 :: v93 :: v94 :: v95 :: v96 :: v97 :: v98 :: v99 :: v100 :: v101 ::
    v102 :: v103 :: v104 :: v105 :: v106 :: v107 :: v108 :: v109 :: v110 :: v111 :: v112 :: v113 :: v114 :: v115 :: v116 :: v117 :: v118 :: v119 ::
    v120 :: v121 :: v122 :: v123 :: v124 :: v125 :: v126 :: v127 :: [])) := by
  intro s hs
  refine run_ofTables _ (
    v0 :: v1 :: v2 :: v3 :: v4 :: v5 :: v6 :: v7 :: v8 :: v9 :: v10 :: v11 :: v12 :: v13 :: v14 :: v15 :: v16 :: v17 :: v18 :: v19 :: v20 :: v21 ::
    v22 :: v23 :: v24 :: v25 :: v26 :: v27 :: v28 :: v29 :: v30 :: v31 :: v32 :: v33 :: v34 :: v35 :: v36 :: v37 :: v38 :: v39 :: v40 :: v41 ::
    v42 :: v43 :: v44 :: v45 :: v46 :: v47 :: v48 :: v49 :: v50 :: v51 :: v52 :: v53 :: v54 :: v55 :: v56 :: v57 :: v58 :: v59 :: v60 :: v61 ::
    v62 :: v63 :: v64 :: v65 :: v66 :: v67 :: v68 :: v69 :: v70 :: v71 :: v72 :: v73 :: v74 :: v75 :: v76 :: v77 :: v78 :: v79 :: v80 :: v81 ::
    v82 :: v83 :: v84 :: v85 :: v86 :: v87 :: v88 :: v89 :: v90 :: v91 :: v92 :: v93 :: v94 :: v95 :: v96 :: v97 :: v98 :: v99 :: v100 :: v101 ::
    v102 :: v103 :: v104 :: v105 :: v106 :: v107 :: v108 :: v109 :: v110 :: v111 :: v112 :: v113 :: v114 :: v115 :: v116 :: v117 :: v118 :: v119 ::
    v120 :: v121 :: v122 :: v123 :: v124 :: v125 :: v126 :: v127 :: []) s fun q hq => ?_
  have hq : q < 128 := hq
  have key : ∀ j, j < 128 → IsLeaf (List.getD (
    f0 :: f1 :: f2 :: f3 :: f4 :: f5 :: f6 :: f7 :: f8 :: f9 :: f10 :: f11 :: f12 :: f13 :: f14 :: f15 :: f16 :: f17 :: f18 :: f19 :: f20 :: f21 ::
    f22 :: f23 :: f24 :: f25 :: f26 :: f27 :: f28 :: f29 :: f30 :: f31 :: f32 :: f33 :: f34 :: f35 :: f36 :: f37 :: f38 :: f39 :: f40 :: f41 ::
    f42 :: f43 :: f44 :: f45 :: f46 :: f47 :: f48 :: f49 :: f50 :: f51 :: f52 :: f53 :: f54 :: f55 :: f56 :: f57 :: f58 :: f59 :: f60 :: f61 ::
    f62 :: f63 :: f64 :: f65 :: f66 :: f67 :: f68 :: f69 :: f70 :: f71 :: f72 :: f73 :: f74 :: f75 :: f76 :: f77 :: f78 :: f79 :: f80 :: f81 ::
    f82 :: f83 :: f84 :: f85 :: f86 :: f87 :: f88 :: f89 :: f90 :: f91 :: f92 :: f93 :: f94 :: f95 :: f96 :: f97 :: f98 :: f99 :: f100 :: f101 ::
    f102 :: f103 :: f104 :: f105 :: f106 :: f107 :: f108 :: f109 :: f110 :: f111 :: f112 :: f113 :: f114 :: f115 :: f116 :: f117 :: f118 :: f119 ::
    f120 :: f121 :: f122 :: f123 :: f124 :: f125 :: f126 :: f127 :: []) j (fun _ => 0)) (List.getD (
    v0 :: v1 :: v2 :: v3 :: v4 :: v5 :: v6 :: v7 :: v8 :: v9 :: v10 :: v11 :: v12 :: v13 :: v14 :: v15 :: v16 :: v17 :: v18 :: v19 :: v20 :: v21 ::
    v22 :: v23 :: v24 :: v25 :: v26 :: v27 :: v28 :: v29 :: v30 :: v31 :: v32 :: v33 :: v34 :: v35 :: v36 :: v37 :: v38 :: v39 :: v40 :: v41 ::
    v42 :: v43 :: v44 :: v45 :: v46 :: v47 :: v48 :: v49 :: v50 :: v51 :: v52 :: v53 :: v54 :: v55 :: v56 :: v57 :: v58 :: v59 :: v60 :: v61 ::
    v62 :: v63 :: v64 :: v65 :: v66 :: v67 :: v68 :: v69 :: v70 :: v71 :: v72 :: v73 :: v74 :: v75 :: v76 :: v77 :: v78 :: v79 :: v80 :: v81 ::
    v82 :: v83 :: v84 :: v85 :: v86 :: v87 :: v88 :: v89 :: v90 :: v91 :: v92 :: v93 :: v94 :: v95 :: v96 :: v97 :: v98 :: v99 :: v100 :: v101 ::
    v102 :: v103 :: v104 :: v105 :: v106 :: v107 :: v108 :: v109 :: v110 :: v111 :: v112 :: v113 :: v114 :: v115 :: v116 :: v117 :: v118 :: v119 ::
    v120 :: v121 :: v122 :: v123 :: v124 :: v125 :: v126 :: v127 :: []) j 0) := by
    intro j hj
    interval_cases j
    exacts [
      h0, h1, h2, h3, h4, h5, h6, h7, h8, h9, h10, h11, h12, h13, h14, h15, h16, h17, h18, h19, h20, h21, h22, h23, h24, h25, h26, h27, h28, h29,
      h30, h31, h32, h33, h34, h35, h36, h37, h38, h39, h40, h41, h42, h43, h44, h45, h46, h47, h48, h49, h50, h51, h52, h53, h54, h55, h56, h57,
      h58, h59, h60, h61, h62, h63, h64, h65, h66, h67, h68, h69, h70, h71, h72, h73, h74, h75, h76, h77, h78, h79, h80, h81, h82, h83, h84, h85,
      h86, h87, h88, h89, h90, h91, h92, h93, h94, h95, h96, h97, h98, h99, h100, h101, h102, h103, h104, h105, h106, h107, h108, h109, h110, h111,
      h112, h113, h114, h115, h116, h117, h118, h119, h120, h121, h122, h123, h124, h125, h126, h127]
  rw [← key q hq (s + 128 * q) (by omega)]
  refine run_congr fun r hr => congrArg BitVec.toNat ?_
  beta_reduce
  rw [show (s + 128 * q + r) / 128 % 128 = q by omega]
  exact hm (fun n _ => List.getD (
    f0 :: f1 :: f2 :: f3 :: f4 :: f5 :: f6 :: f7 :: f8 :: f9 :: f10 :: f11 :: f12 :: f13 :: f14 :: f15 :: f16 :: f17 :: f18 :: f19 :: f20 :: f21 ::
    f22 :: f23 :: f24 :: f25 :: f26 :: f27 :: f28 :: f29 :: f30 :: f31 :: f32 :: f33 :: f34 :: f35 :: f36 :: f37 :: f38 :: f39 :: f40 :: f41 ::
    f42 :: f43 :: f44 :: f45 :: f46 :: f47 :: f48 :: f49 :: f50 :: f51 :: f52 :: f53 :: f54 :: f55 :: f56 :: f57 :: f58 :: f59 :: f60 :: f61 ::
    f62 :: f63 :: f64 :: f65 :: f66 :: f67 :: f68 :: f69 :: f70 :: f71 :: f72 :: f73 :: f74 :: f75 :: f76 :: f77 :: f78 :: f79 :: f80 :: f81 ::
    f82 :: f83 :: f84 :: f85 :: f86 :: f87 :: f88 :: f89 :: f90 :: f91 :: f92 :: f93 :: f94 :: f95 :: f96 :: f97 :: f98 :: f99 :: f100 :: f101 ::
    f102 :: f103 :: f104 :: f105 :: f106 :: f107 :: f108 :: f109 :: f110 :: f111 :: f112 :: f113 :: f114 :: f115 :: f116 :: f117 :: f118 :: f119 ::
    f120 :: f121 :: f122 :: f123 :: f124 :: f125 :: f126 :: f127 :: []) n (fun _ => 0) (s + 128 * q + r)) e q hq
end

/-! ## The program's own choices -/

theorem chooses0 : Chooses (lit0t0_0.match_1 fun _ => BitVec 32) := by intro h e x hx; interval_cases x <;> rfl
theorem chooses1 : Chooses (lit0t0_174.match_1 fun _ => BitVec 32) := by intro h e x hx; interval_cases x <;> rfl
theorem chooses2 : Chooses (lit0t0_371.match_1 fun _ => BitVec 32) := by intro h e x hx; interval_cases x <;> rfl
theorem chooses3 : Chooses (lit0t0_568.match_1 fun _ => BitVec 32) := by intro h e x hx; interval_cases x <;> rfl
theorem chooses4 : Chooses (lit0t0_765.match_1 fun _ => BitVec 32) := by intro h e x hx; interval_cases x <;> rfl
theorem chooses5 : Chooses (lit0t0_960.match_1 fun _ => BitVec 32) := by intro h e x hx; interval_cases x <;> rfl
theorem chooses6 : Chooses (lit0t0_1155.match_1 fun _ => BitVec 32) := by intro h e x hx; interval_cases x <;> rfl
theorem chooses7 : Chooses (lit0t0_1350.match_1 fun _ => BitVec 32) := by intro h e x hx; interval_cases x <;> rfl
theorem chooses8 : Chooses (lit0t0_1545.match_1 fun _ => BitVec 32) := by intro h e x hx; interval_cases x <;> rfl
theorem chooses9 : Chooses (lit0t0_1740.match_1 fun _ => BitVec 32) := by intro h e x hx; interval_cases x <;> rfl
theorem chooses10 : Chooses (lit0t0_1935.match_1 fun _ => BitVec 32) := by intro h e x hx; interval_cases x <;> rfl
theorem chooses11 : Chooses (lit0t0_2130.match_1 fun _ => BitVec 32) := by intro h e x hx; interval_cases x <;> rfl

end Cert.Proof.Lit

end
-- ==== Proof.Lit.Pack.lean ====
/-
  Numbers holding many words each: the operations on them act on every word, so the hash on them is the hash on every
  word.
-/
module

public import proofs.«01_k».proof.Proof.Lit.Table
public import Mathlib.Tactic.Ring

@[expose] public section

noncomputable section

namespace Cert.Proof.Lit

/-! ## What is linear -/

theorem pack_add (d : ℕ) (f g : ℕ → ℕ) (s : ℕ) : pack d f s + pack d g s = pack d (fun i => f i + g i) s := by
  induction d generalizing s with
  | zero => rfl
  | succ d ih => simp only [pack, ← ih]; ring

theorem pack_mul (d : ℕ) (f : ℕ → ℕ) (c s : ℕ) : pack d f s * c = pack d (fun i => f i * c) s := by
  induction d generalizing s with
  | zero => rfl
  | succ d ih => simp only [pack, ← ih]; ring

theorem mul_ones (d v s : ℕ) : v * ones d = pack d (fun _ => v) s := by
  induction d generalizing s with
  | zero => simp [ones, pack]
  | succ d ih => simp only [ones, pack, ← ih]; ring

theorem pack_congr {d : ℕ} {f g : ℕ → ℕ} {s : ℕ} (h : ∀ i, i < 2 ^ d → f (s + i) = g (s + i)) : pack d f s = pack d g s := by
  rw [pack_eq_run, pack_eq_run, run_congr h]

theorem pack_sub (d : ℕ) (f g : ℕ → ℕ) (s : ℕ) (h : ∀ i, g i ≤ f i) : pack d f s - pack d g s = pack d (fun i => f i - g i) s := by
  have : pack d f s = pack d (fun i => f i - g i) s + pack d g s := by
    rw [pack_add]; exact pack_congr fun i _ => (Nat.sub_add_cancel (h _)).symm
  omega

/-! ## Bits -/

theorem pack_lt (d : ℕ) (f : ℕ → ℕ) (s : ℕ) (h : ∀ i, f i < 2 ^ 64) : pack d f s < 2 ^ (64 * 2 ^ d) := by
  induction d generalizing s with
  | zero => simpa [pack] using h s
  | succ d ih =>
    have h1 := ih s
    have h2 := ih (s + 2 ^ d)
    have e : 2 ^ (64 * 2 ^ (d + 1)) = 2 ^ (64 * 2 ^ d) * 2 ^ (64 * 2 ^ d) := by rw [← pow_add]; congr 1; ring
    rw [pack, e]
    generalize 2 ^ (64 * 2 ^ d) = K at *
    calc _ < K + pack d f (s + 2 ^ d) * K := by omega
      _ = (pack d f (s + 2 ^ d) + 1) * K := by ring
      _ ≤ K * K := Nat.mul_le_mul_right _ h2

theorem testBit_pack (d : ℕ) (f : ℕ → ℕ) (s p : ℕ) (h : ∀ i, f i < 2 ^ 64) :
    (pack d f s).testBit p = (decide (p < 64 * 2 ^ d) && (f (s + p / 64)).testBit (p % 64)) := by
  induction d generalizing s p with
  | zero =>
    by_cases hp : p < 64
    · simp [pack, hp, Nat.div_eq_of_lt hp, Nat.mod_eq_of_lt hp]
    · rw [pack, Nat.testBit_lt_two_pow (lt_of_lt_of_le (h s) (Nat.pow_le_pow_right (by omega) (by omega)))]
      simp [hp]
  | succ d ih =>
    rw [pack, Nat.add_comm, Nat.mul_comm, Nat.testBit_two_pow_mul_add _ (pack_lt d f s h)]
    have e : 2 ^ (d + 1) = 2 * 2 ^ d := by ring
    split
    · next hp => rw [ih, e]; simp [hp]; intro; omega
    · next hp =>
      rw [ih, show s + 2 ^ d + (p - 64 * 2 ^ d) / 64 = s + p / 64 by omega, show (p - 64 * 2 ^ d) % 64 = p % 64 by omega]
      congr 1
      rw [e]; simp only [decide_eq_decide]; omega

theorem pack_inj {d : ℕ} {f g : ℕ → ℕ} {s : ℕ} (hf : ∀ i, f i < 2 ^ 64) (hg : ∀ i, g i < 2 ^ 64) (h : pack d f s = pack d g s)
    (i : ℕ) (hi : i < 2 ^ d) : f (s + i) = g (s + i) := by
  refine Nat.eq_of_testBit_eq fun q => ?_
  by_cases hq : q < 64
  · have h1 := testBit_pack d f s (64 * i + q) hf
    have h2 := testBit_pack d g s (64 * i + q) hg
    rw [h, h2, show (64 * i + q) / 64 = i by omega, show (64 * i + q) % 64 = q by omega] at h1
    have : 64 * i + q < 64 * 2 ^ d := by omega
    simpa [this] using h1.symm
  · have hq : 2 ^ 64 ≤ 2 ^ q := Nat.pow_le_pow_right (by omega) (by omega)
    rw [Nat.testBit_lt_two_pow (lt_of_lt_of_le (hf _) hq), Nat.testBit_lt_two_pow (lt_of_lt_of_le (hg _) hq)]

section Bitwise
variable (d : ℕ) (f g : ℕ → ℕ) (s : ℕ) (hf : ∀ i, f i < 2 ^ 64) (hg : ∀ i, g i < 2 ^ 64)
include hf hg

theorem pack_and : pack d f s &&& pack d g s = pack d (fun i => f i &&& g i) s := by
  refine Nat.eq_of_testBit_eq fun q => ?_
  rw [Nat.testBit_and, testBit_pack d f s q hf, testBit_pack d g s q hg, testBit_pack d _ s q fun i => Nat.and_lt_two_pow _ (hg i),
    Nat.testBit_and]
  cases decide (q < 64 * 2 ^ d) <;> simp

theorem pack_or : pack d f s ||| pack d g s = pack d (fun i => f i ||| g i) s := by
  refine Nat.eq_of_testBit_eq fun q => ?_
  rw [Nat.testBit_or, testBit_pack d f s q hf, testBit_pack d g s q hg, testBit_pack d _ s q fun i => Nat.or_lt_two_pow (hf i) (hg i),
    Nat.testBit_or]
  cases decide (q < 64 * 2 ^ d) <;> simp

theorem pack_xor : pack d f s ^^^ pack d g s = pack d (fun i => f i ^^^ g i) s := by
  refine Nat.eq_of_testBit_eq fun q => ?_
  rw [Nat.testBit_xor, testBit_pack d f s q hf, testBit_pack d g s q hg, testBit_pack d _ s q fun i => Nat.xor_lt_two_pow (hf i) (hg i),
    Nat.testBit_xor]
  cases decide (q < 64 * 2 ^ d) <;> simp

end Bitwise

/-- Each number shifted down and cut to a mask short enough to drop what the next number shifts in. -/
theorem pack_shr_and (d : ℕ) (f : ℕ → ℕ) (r m s : ℕ) (hf : ∀ i, f i < 2 ^ 64) (hr : r ≤ 64) (hm : m < 2 ^ (64 - r)) :
    (pack d f s / 2 ^ r) &&& (m * ones d) = pack d (fun i => (f i / 2 ^ r) &&& m) s := by
  have hm' : m < 2 ^ 64 := lt_of_lt_of_le hm (Nat.pow_le_pow_right (by omega) (by omega))
  refine Nat.eq_of_testBit_eq fun q => ?_
  rw [mul_ones d m s, Nat.testBit_and, Nat.testBit_div_two_pow, testBit_pack d f s _ hf, testBit_pack d _ s q fun _ => hm',
    testBit_pack d _ s q fun i => Nat.and_lt_two_pow _ hm', Nat.testBit_and, Nat.testBit_div_two_pow]
  by_cases hq : m.testBit (q % 64)
  · have : q % 64 < 64 - r := by
      by_contra hc
      rw [Nat.testBit_lt_two_pow (lt_of_lt_of_le hm (Nat.pow_le_pow_right (by omega) (by omega)))] at hq
      simp at hq
    rw [show (q + r) / 64 = q / 64 by omega, show (q + r) % 64 = q % 64 + r by omega]
    have e : (q + r < 64 * 2 ^ d) ↔ (q < 64 * 2 ^ d) := by omega
    simp only [e, hq]
    cases decide (q < 64 * 2 ^ d) <;> simp
  · simp [hq]

/-! ## Words -/

/-- The words `f 0, f 1, …` in one number. -/
def P (d : ℕ) (f : ℕ → BitVec 32) : ℕ := pack d (fun i => (f i).toNat) 0

theorem word_lt (x : BitVec 32) : x.toNat < 2 ^ 64 := lt_trans x.isLt (by norm_num)

variable {d : ℕ}

theorem add_P (f g : ℕ → BitVec 32) : (packOps d).add (P d f) (P d g) = P d (fun i => f i + g i) := by
  show (P d f + P d g) &&& (4294967295 * ones d) = _
  rw [P, P, pack_add, mul_ones d _ 0, pack_and d _ _ 0 (fun i => by have := (f i).isLt; have := (g i).isLt; omega) (fun _ => by norm_num), P]
  refine pack_congr fun i _ => ?_
  show ((f (0 + i)).toNat + (g (0 + i)).toNat) &&& (2 ^ 32 - 1) = _
  rw [Nat.and_two_pow_sub_one_eq_mod]; simp [BitVec.toNat_add]

theorem xor_P (f g : ℕ → BitVec 32) : (packOps d).xor (P d f) (P d g) = P d (fun i => f i ^^^ g i) := by
  show P d f ^^^ P d g = _
  rw [P, P, pack_xor d _ _ 0 (fun i => word_lt _) (fun _ => word_lt _), P]
  refine pack_congr fun i _ => ?_
  simp

theorem rot_P (r : ℕ) (hr : r < 32) (f : ℕ → BitVec 32) : (packOps d).rot r (P d f) = P d (fun i => wordOps.rot r (f i)) := by
  show ((P d f * 2 ^ r) &&& (4294967295 * ones d)) ||| ((P d f / 2 ^ (32 - r)) &&& ((2 ^ r - 1) * ones d)) = _
  have h2 : 2 ^ r ≤ 2 ^ 31 := Nat.pow_le_pow_right (by omega) (by omega)
  have hlt : ∀ x : BitVec 32, x.toNat * 2 ^ r < 2 ^ 64 := fun x => by
    have := x.isLt
    calc _ ≤ x.toNat * 2 ^ 31 := Nat.mul_le_mul_left _ h2
      _ < 2 ^ 64 := by omega
  rw [P, pack_mul, mul_ones d 4294967295 0, pack_and d _ _ 0 (fun i => hlt _) (fun _ => by norm_num),
    pack_shr_and d _ _ _ 0 (fun _ => word_lt _) (by omega)
      (lt_of_lt_of_le (b := 2 ^ r) (Nat.sub_lt (by positivity) (by norm_num)) (Nat.pow_le_pow_right (by omega) (by omega))),
    pack_or d _ _ 0 (fun i => Nat.and_lt_two_pow _ (by norm_num)) (fun i => Nat.and_lt_two_pow _ (by omega)), P]
  refine pack_congr fun i _ => ?_
  generalize f (0 + i) = x
  show ((x.toNat * 2 ^ r) &&& (2 ^ 32 - 1)) ||| ((x.toNat / 2 ^ (32 - r)) &&& (2 ^ r - 1)) = ((x <<< r) ||| (x >>> (32 - r))).toNat
  rw [Nat.and_two_pow_sub_one_eq_mod, Nat.and_two_pow_sub_one_eq_mod, BitVec.toNat_or, BitVec.toNat_shiftLeft, BitVec.toNat_ushiftRight,
    Nat.shiftLeft_eq, Nat.shiftRight_eq_div_pow, Nat.mod_eq_of_lt (a := x.toNat / 2 ^ (32 - r))]
  rw [Nat.div_lt_iff_lt_mul (by positivity), ← pow_add, show r + (32 - r) = 32 by omega]
  exact x.isLt

theorem cst_P (v : ℕ) (hv : v < 2 ^ 32) : (packOps d).cst v = P d (fun _ => wordOps.cst v) := by
  show v * ones d = _
  rw [mul_ones d v 0, P]
  refine pack_congr fun i _ => ?_
  show v = (BitVec.ofNat 32 v).toNat
  rw [BitVec.toNat_ofNat, Nat.mod_eq_of_lt hv]

/-! ## The hash -/

/-- The words `f 0, f 1, …` and `g 0, g 1, …` of pairs. -/
def PP (d : ℕ) (f : ℕ → BitVec 32 × BitVec 32) : ℕ × ℕ := (P d fun i => (f i).1, P d fun i => (f i).2)

theorem rnd_P (r : ℕ) (hr : r < 32) (f : ℕ → BitVec 32 × BitVec 32) : rnd (packOps d) r (PP d f) = PP d fun i => rnd wordOps r (f i) := by
  simp only [rnd, PP, add_P, rot_P r hr, xor_P]; rfl

theorem inj_P (n : ℕ) (hn : n < 2 ^ 32) (a b : ℕ → BitVec 32) (f : ℕ → BitVec 32 × BitVec 32) :
    inj (packOps d) (P d a) (P d b) n (PP d f) = PP d fun i => inj wordOps (a i) (b i) n (f i) := by
  simp only [inj, PP, cst_P n hn, add_P]; rfl

theorem four_P (a b c e : ℕ) (ha : a < 32) (hb : b < 32) (hc : c < 32) (he : e < 32) (f : ℕ → BitVec 32 × BitVec 32) :
    four (packOps d) a b c e (PP d f) = PP d fun i => four wordOps a b c e (f i) := by
  simp only [four, rnd_P _ ha, rnd_P _ hb, rnd_P _ hc, rnd_P _ he]

theorem key2_P (a b : ℕ → BitVec 32) : key2 (packOps d) (P d a) (P d b) = P d fun i => key2 wordOps (a i) (b i) := by
  simp only [key2, xor_P, cst_P 466688986 (by norm_num)]; rfl

theorem tf_P (k0 k1 c0 c1 : ℕ → BitVec 32) :
    tf (packOps d) (P d k0) (P d k1) (P d c0) (P d c1) = PP d fun i => tf wordOps (k0 i) (k1 i) (c0 i) (c1 i) := by
  have e : ((packOps d).add (P d c0) (P d k0), (packOps d).add (P d c1) (P d k1))
      = PP d fun i => (wordOps.add (c0 i) (k0 i), wordOps.add (c1 i) (k1 i)) := by simp only [add_P]; rfl
  unfold tf
  rw [e]
  simp only [key2_P]
  rw [four_P _ _ _ _ (by norm_num) (by norm_num) (by norm_num) (by norm_num), inj_P _ (by norm_num),
    four_P _ _ _ _ (by norm_num) (by norm_num) (by norm_num) (by norm_num), inj_P _ (by norm_num),
    four_P _ _ _ _ (by norm_num) (by norm_num) (by norm_num) (by norm_num), inj_P _ (by norm_num),
    four_P _ _ _ _ (by norm_num) (by norm_num) (by norm_num) (by norm_num), inj_P _ (by norm_num),
    four_P _ _ _ _ (by norm_num) (by norm_num) (by norm_num) (by norm_num), inj_P _ (by norm_num)]

theorem rowKey_P (b : ℕ → BitVec 32) : rowKey (packOps d) (P d b) = PP d fun i => rowKey wordOps (b i) := by
  unfold rowKey; rw [cst_P 0 (by norm_num), cst_P 1234 (by norm_num), tf_P]

theorem subKey_P (k : ℕ → BitVec 32 × BitVec 32) : subKey (packOps d) (PP d k) = PP d fun i => subKey wordOps (k i) := by
  unfold subKey; rw [cst_P 0 (by norm_num), cst_P 1 (by norm_num)]; exact tf_P _ _ _ _

theorem bitsAt_P (k : ℕ → BitVec 32 × BitVec 32) (c : ℕ → BitVec 32) :
    bitsAt (packOps d) (PP d k) (P d c) = P d fun i => bitsAt wordOps (k i) (c i) := by
  unfold bitsAt; rw [cst_P 0 (by norm_num), show (PP d k).1 = P d fun i => (k i).1 from rfl, show (PP d k).2 = P d fun i => (k i).2 from rfl, tf_P]
  exact xor_P _ _

/-! ## The check -/

theorem geAll_pack (u v : ℕ → ℕ) (hu : ∀ i, u i < 2 ^ 40) (hv : ∀ i, v i < 2 ^ 40) (h : geAll d (pack d u 0) (pack d v 0) = true)
    (i : ℕ) (hi : i < 2 ^ d) : v i ≤ u i := by
  have h := Nat.eq_of_beq_eq_true h
  rw [mul_ones d _ 0, pack_add, pack_sub d _ _ 0 fun i => by have := hv i; omega,
    pack_and d _ _ 0 (fun i => by have := hu i; omega) (fun _ => by norm_num)] at h
  have := pack_inj (fun i => Nat.and_lt_two_pow _ (by norm_num)) (fun _ => by norm_num) h i hi
  simp only [Nat.zero_add] at this
  have h2 := Nat.and_le_left (n := u i + 1099511627776 - v i) (m := 1099511627776)
  have := hu i
  have := hv i
  omega

/-- The word row `b` sorts position `c` by, with the position under it. -/
def ord (b c : ℕ) : ℕ := (sortKey b c).toNat * 32 + c

theorem ord_lt (b c : ℕ) (hc : c < 32) : ord b c < 2 ^ 37 := by
  have := (sortKey b c).isLt; unfold ord; omega

/-- The position a word names. -/
def posIn (w : ℕ) : ℕ := (w / 2 ^ 14) &&& 31

theorem posIn_lt (w : ℕ) : posIn w < 32 := Nat.and_lt_two_pow (n := 5) _ (by norm_num)

theorem posOf_pack (w : ℕ → ℕ) (hw : ∀ i, w i < 2 ^ 64) : posOf d (pack d w 0) = pack d (fun i => posIn (w i)) 0 :=
  pack_shr_and d _ _ _ 0 hw (by norm_num) (by norm_num)

theorem ordOf_pack (c : ℕ → ℕ) (hc : ∀ i, c i < 32) :
    ordOf d (PP d fun i => subKey wordOps (rowKey wordOps (BitVec.ofNat 32 i))) (pack d c 0) = pack d (fun i => ord i (c i)) 0 := by
  have e : pack d c 0 = P d fun i => BitVec.ofNat 32 (c i) := pack_congr fun i _ => by
    rw [BitVec.toNat_ofNat, Nat.mod_eq_of_lt (by have := hc (0 + i); omega)]
  rw [ordOf, show bitsAt _ _ (pack d c 0) = _ by rw [e, bitsAt_P], P, pack_mul, pack_add]
  rfl

theorem checkFrom_facts (hd : d ≤ 32) (W : ℕ → ℕ → ℕ) (hW : ∀ j i, W j i < 2 ^ 64) (n j : ℕ) (u : ℕ → ℕ) (hu : ∀ i, u i < 2 ^ 40)
    (h : checkFrom d (pack d (fun b => b) 0) (PP d fun i => subKey wordOps (rowKey wordOps (BitVec.ofNat 32 i)))
      ((List.range' j n).map fun j => pack d (W j) 0) (pack d u 0) = true) (b : ℕ) (hb : b < 2 ^ d) :
    ∀ t, j ≤ t → t < j + n → (posIn (W t b) * 2 ^ 14 + b = W t b ∧ posIn (W t b) < 17) ∧ u b ≤ ord b (posIn (W t b))
      ∧ ∀ t', t < t' → t' < j + n → ord b (posIn (W t b)) < ord b (posIn (W t' b)) := by
  induction n generalizing j u with
  | zero => intro t h1 h2; omega
  | succ n ih =>
    rw [List.range'_succ, List.map_cons, checkFrom, checkAt] at h
    simp only [Bool.and_eq_true] at h
    obtain ⟨h1, h2, h3, h4⟩ := h
    rw [posOf_pack _ (hW j)] at h1 h2 h3 h4
    rw [ordOf_pack _ fun i => posIn_lt _] at h3 h4
    have e1 : posIn (W j b) * 2 ^ 14 + b = W j b := by
      have := Nat.eq_of_beq_eq_true h1
      rw [pack_mul, show pack d (fun b => b) 0 = P d (BitVec.ofNat 32) from pack_congr fun i hi => by
        rw [BitVec.toNat_ofNat, Nat.mod_eq_of_lt]
        have : 2 ^ d ≤ 2 ^ 32 := Nat.pow_le_pow_right (by omega) hd
        omega, P, pack_add] at this
      have := pack_inj (fun i => by have := posIn_lt (W j i); have := (BitVec.ofNat 32 i).isLt; omega) (hW j) this b hb
      simp only [Nat.zero_add, BitVec.toNat_ofNat] at this
      rwa [Nat.mod_eq_of_lt (a := b) (lt_of_lt_of_le hb (Nat.pow_le_pow_right (by omega) hd))] at this
    have e2 : posIn (W j b) ≤ 16 := by
      rw [mul_ones d _ 0] at h2
      exact geAll_pack (fun _ => 16) _ (fun _ => by norm_num) (fun i => by have := posIn_lt (W j i); omega) h2 b hb
    have hord : ∀ i, ord i (posIn (W j i)) + 1 < 2 ^ 40 := fun i => by have := ord_lt i _ (posIn_lt (W j i)); omega
    have e3 : u b ≤ ord b (posIn (W j b)) := geAll_pack _ _ (fun i => by have := hord i; omega) hu h3 b hb
    rw [show ones d = pack d (fun _ => 1) 0 by rw [← mul_ones d 1 0, Nat.one_mul], pack_add] at h4
    have h5 := ih (j + 1) _ hord h4
    intro t ht1 ht2
    rcases Nat.eq_or_lt_of_le ht1 with rfl | ht
    · refine ⟨⟨e1, by omega⟩, e3, fun t' ht' ht'' => ?_⟩
      exact (h5 t' (by omega) (by omega)).2.1
    · obtain ⟨g1, g2, g3⟩ := h5 t (by omega) (by omega)
      exact ⟨g1, by have := g2; omega, fun t' ht' ht'' => g3 t' ht' (by omega)⟩

theorem check_facts (hd : d ≤ 32) (W : ℕ → ℕ → ℕ) (hW : ∀ j i, W j i < 2 ^ 64) (n : ℕ)
    (h : check d ((List.range' 0 n).map fun j => pack d (W j) 0) = true) (b : ℕ) (hb : b < 2 ^ d) (t : ℕ) (ht : t < n) :
    (posIn (W t b) * 2 ^ 14 + b = W t b ∧ posIn (W t b) < 17)
      ∧ ∀ t', t < t' → t' < n → ord b (posIn (W t b)) < ord b (posIn (W t' b)) := by
  have e : pack d (fun b => b) 0 = P d (BitVec.ofNat 32) := pack_congr fun i hi => by
    rw [BitVec.toNat_ofNat, Nat.mod_eq_of_lt]
    have : 2 ^ d ≤ 2 ^ 32 := Nat.pow_le_pow_right (by omega) hd
    omega
  unfold check at h
  rw [show subKey _ _ = _ by rw [e, rowKey_P, subKey_P]] at h
  have h0 : (0 : ℕ) = pack d (fun _ => 0) 0 := by rw [← mul_ones d 0 0, Nat.zero_mul]
  obtain ⟨h1, h2, h3⟩ := checkFrom_facts hd W hW n 0 (fun _ => 0) (fun _ => by norm_num) (by rw [← h0]; exact h) b hb t (by omega) (by omega)
  exact ⟨h1, fun t' a c => h3 t' a (by omega)⟩

end Cert.Proof.Lit

end
-- ==== Proof.Lit.Nodes0.lean ====
/-
  The list's entries of output positions 0 to 4, 16384 rows each, as one number per position.
-/
module

public import proofs.«01_k».proof.Proof.Lit.Table

@[expose] public section

set_option maxRecDepth 20000
set_option maxHeartbeats 0

noncomputable section

namespace Cert.Proof.Lit

open Cert.KernelIdeal

def node0 : {v // IsNode lit0t1_0 v} := by
  apply Subtype.mk
  apply node_mk _ (by with_reducible exact chooses11)
  all_goals exact leaf_mk _ (by with_reducible exact chooses0)

def node1 : {v // IsNode lit0t1_1 v} := by
  apply Subtype.mk
  apply node_mk _ (by with_reducible exact chooses11)
  all_goals first | exact leaf_mk _ (by with_reducible exact chooses0) | exact leaf_mk _ (by with_reducible exact chooses1)

def node2 : {v // IsNode lit0t1_2 v} := by
  apply Subtype.mk
  apply node_mk _ (by with_reducible exact chooses11)
  all_goals first | exact leaf_mk _ (by with_reducible exact chooses1) | exact leaf_mk _ (by with_reducible exact chooses2)

def node3 : {v // IsNode lit0t1_3 v} := by
  apply Subtype.mk
  apply node_mk _ (by with_reducible exact chooses11)
  all_goals exact leaf_mk _ (by with_reducible exact chooses2)

def node4 : {v // IsNode lit0t1_4 v} := by
  apply Subtype.mk
  apply node_mk _ (by with_reducible exact chooses11)
  all_goals first | exact leaf_mk _ (by with_reducible exact chooses2) | exact leaf_mk _ (by with_reducible exact chooses3)

end Cert.Proof.Lit

end
-- ==== Proof.Lit.Nodes1.lean ====
/-
  The list's entries of output positions 5 to 8, 16384 rows each, as one number per position.
-/
module

public import proofs.«01_k».proof.Proof.Lit.Table

@[expose] public section

set_option maxRecDepth 20000
set_option maxHeartbeats 0

noncomputable section

namespace Cert.Proof.Lit

open Cert.KernelIdeal

def node5 : {v // IsNode lit0t1_5 v} := by
  apply Subtype.mk
  apply node_mk _ (by with_reducible exact chooses11)
  all_goals first | exact leaf_mk _ (by with_reducible exact chooses3) | exact leaf_mk _ (by with_reducible exact chooses4)

def node6 : {v // IsNode lit0t1_6 v} := by
  apply Subtype.mk
  apply node_mk _ (by with_reducible exact chooses11)
  all_goals exact leaf_mk _ (by with_reducible exact chooses4)

def node7 : {v // IsNode lit0t1_7 v} := by
  apply Subtype.mk
  apply node_mk _ (by with_reducible exact chooses11)
  all_goals first | exact leaf_mk _ (by with_reducible exact chooses4) | exact leaf_mk _ (by with_reducible exact chooses5)

def node8 : {v // IsNode lit0t1_8 v} := by
  apply Subtype.mk
  apply node_mk _ (by with_reducible exact chooses11)
  all_goals exact leaf_mk _ (by with_reducible exact chooses5)

end Cert.Proof.Lit

end
-- ==== Proof.Lit.Nodes2.lean ====
/-
  The list's entries of output positions 9 to 12, 16384 rows each, as one number per position.
-/
module

public import proofs.«01_k».proof.Proof.Lit.Table

@[expose] public section

set_option maxRecDepth 20000
set_option maxHeartbeats 0

noncomputable section

namespace Cert.Proof.Lit

open Cert.KernelIdeal

def node9 : {v // IsNode lit0t1_9 v} := by
  apply Subtype.mk
  apply node_mk _ (by with_reducible exact chooses11)
  all_goals first | exact leaf_mk _ (by with_reducible exact chooses5) | exact leaf_mk _ (by with_reducible exact chooses6)

def node10 : {v // IsNode lit0t1_10 v} := by
  apply Subtype.mk
  apply node_mk _ (by with_reducible exact chooses11)
  all_goals first | exact leaf_mk _ (by with_reducible exact chooses6) | exact leaf_mk _ (by with_reducible exact chooses7)

def node11 : {v // IsNode lit0t1_11 v} := by
  apply Subtype.mk
  apply node_mk _ (by with_reducible exact chooses11)
  all_goals exact leaf_mk _ (by with_reducible exact chooses7)

def node12 : {v // IsNode lit0t1_12 v} := by
  apply Subtype.mk
  apply node_mk _ (by with_reducible exact chooses11)
  all_goals first | exact leaf_mk _ (by with_reducible exact chooses7) | exact leaf_mk _ (by with_reducible exact chooses8)

end Cert.Proof.Lit

end
-- ==== Proof.Lit.Nodes3.lean ====
/-
  The list's entries of output positions 13 to 16, 16384 rows each, as one number per position.
-/
module

public import proofs.«01_k».proof.Proof.Lit.Table

@[expose] public section

set_option maxRecDepth 20000
set_option maxHeartbeats 0

noncomputable section

namespace Cert.Proof.Lit

open Cert.KernelIdeal

def node13 : {v // IsNode lit0t1_13 v} := by
  apply Subtype.mk
  apply node_mk _ (by with_reducible exact chooses11)
  all_goals first | exact leaf_mk _ (by with_reducible exact chooses8) | exact leaf_mk _ (by with_reducible exact chooses9)

def node14 : {v // IsNode lit0t1_14 v} := by
  apply Subtype.mk
  apply node_mk _ (by with_reducible exact chooses11)
  all_goals exact leaf_mk _ (by with_reducible exact chooses9)

def node15 : {v // IsNode lit0t1_15 v} := by
  apply Subtype.mk
  apply node_mk _ (by with_reducible exact chooses11)
  all_goals first | exact leaf_mk _ (by with_reducible exact chooses9) | exact leaf_mk _ (by with_reducible exact chooses10)

def node16 : {v // IsNode lit0t1_16 v} := by
  apply Subtype.mk
  apply node_mk _ (by with_reducible exact chooses11)
  all_goals first | exact leaf_mk _ (by with_reducible exact chooses10) | exact leaf_mk _ (by with_reducible exact chooses11)

end Cert.Proof.Lit

end
-- ==== Proof.Lit.Check.lean ====
/-
  The check of the whole list, evaluated.
-/
module

public import proofs.«01_k».proof.Proof.Lit.Nodes0
public import proofs.«01_k».proof.Proof.Lit.Nodes1
public import proofs.«01_k».proof.Proof.Lit.Nodes2
public import proofs.«01_k».proof.Proof.Lit.Nodes3

@[expose] public section

set_option maxRecDepth 20000
set_option maxHeartbeats 0

noncomputable section

namespace Cert.Proof.Lit

/-- The list's words by output position. -/
def nodes : List ℕ :=
  [node0.1, node1.1, node2.1, node3.1, node4.1, node5.1, node6.1, node7.1, node8.1, node9.1, node10.1, node11.1, node12.1, node13.1, node14.1, node15.1, node16.1]

theorem check_nodes : check 14 nodes = true := by
  decide +kernel

end Cert.Proof.Lit

end
-- ==== Proof.Lit.Facts.lean ====
/-
  What the list of the table's rows holds: at output position `j` of row `b` the table's row of the position the shuffle
  puts there, the positions in the order of the words they are sorted by.
-/
module

public import proofs.«01_k».proof.Proof.Lit.Pack
public import proofs.«01_k».proof.Proof.Lit.Check

@[expose] public section

set_option maxRecDepth 4000

noncomputable section

namespace Cert.Proof.Lit

open Cert.KernelIdeal

/-- The list's word at output position `j` of row `b`. -/
def wordAt (j b : ℕ) : ℕ := (lit0t (16384 * j + b)).toNat

theorem node_pack (j : ℕ) (f : ℕ → BitVec 32) (v : ℕ) (h : IsNode f v) (hf : ∀ b, b < 16384 → lit0t (16384 * j + b) = f (16384 * j + b)) :
    v = pack 14 (wordAt j) 0 := by
  rw [← h (16384 * j) (by omega), pack_eq_run]
  show run 16384 _ _ = run 16384 _ _
  have shift : ∀ (n : ℕ) (g : ℕ → ℕ) (s t : ℕ), run n g (s + t) = run n (fun b => g (s + b)) t := by
    intro n g
    induction n with
    | zero => intro s t; rfl
    | succ n ih => intro s t; rw [run, run, show s + t + 1 = s + (t + 1) by omega, ih]
  rw [show 16384 * j = 16384 * j + 0 from rfl, shift]
  refine run_congr fun i hi => ?_
  rw [Nat.zero_add, wordAt, hf i hi]

theorem lit0t_digit (j b : ℕ) (hb : b < 16384) : (16384 * j + b) / 16384 = j := by omega

theorem nodes_eq : nodes = (List.range' 0 17).map fun j => pack 14 (wordAt j) 0 := by
  have h : ∀ (j : ℕ) (f : ℕ → BitVec 32) (v : {v // IsNode f v}), (∀ b, b < 16384 → lit0t (16384 * j + b) = f (16384 * j + b)) →
      v.1 = pack 14 (wordAt j) 0 := fun j f v hf => node_pack j f v.1 v.2 hf
  have e0 := h 0 _ node0 fun b hb => by unfold lit0t; rw [lit0t_digit 0 b hb]; try rfl
  have e1 := h 1 _ node1 fun b hb => by unfold lit0t; rw [lit0t_digit 1 b hb]; try rfl
  have e2 := h 2 _ node2 fun b hb => by unfold lit0t; rw [lit0t_digit 2 b hb]; try rfl
  have e3 := h 3 _ node3 fun b hb => by unfold lit0t; rw [lit0t_digit 3 b hb]; try rfl
  have e4 := h 4 _ node4 fun b hb => by unfold lit0t; rw [lit0t_digit 4 b hb]; try rfl
  have e5 := h 5 _ node5 fun b hb => by unfold lit0t; rw [lit0t_digit 5 b hb]; try rfl
  have e6 := h 6 _ node6 fun b hb => by unfold lit0t; rw [lit0t_digit 6 b hb]; try rfl
  have e7 := h 7 _ node7 fun b hb => by unfold lit0t; rw [lit0t_digit 7 b hb]; try rfl
  have e8 := h 8 _ node8 fun b hb => by unfold lit0t; rw [lit0t_digit 8 b hb]; try rfl
  have e9 := h 9 _ node9 fun b hb => by unfold lit0t; rw [lit0t_digit 9 b hb]; try rfl
  have e10 := h 10 _ node10 fun b hb => by unfold lit0t; rw [lit0t_digit 10 b hb]; try rfl
  have e11 := h 11 _ node11 fun b hb => by unfold lit0t; rw [lit0t_digit 11 b hb]; try rfl
  have e12 := h 12 _ node12 fun b hb => by unfold lit0t; rw [lit0t_digit 12 b hb]; try rfl
  have e13 := h 13 _ node13 fun b hb => by unfold lit0t; rw [lit0t_digit 13 b hb]; try rfl
  have e14 := h 14 _ node14 fun b hb => by unfold lit0t; rw [lit0t_digit 14 b hb]; try rfl
  have e15 := h 15 _ node15 fun b hb => by unfold lit0t; rw [lit0t_digit 15 b hb]; try rfl
  have e16 := h 16 _ node16 fun b hb => by unfold lit0t; rw [lit0t_digit 16 b hb]; try rfl
  rw [nodes, e0, e1, e2, e3, e4, e5, e6, e7, e8, e9, e10, e11, e12, e13, e14, e15, e16]
  rfl

/-- The position the list names at output position `j` of row `b`. -/
def pos (b j : ℕ) : ℕ := posIn (wordAt j b)

theorem facts (b : ℕ) (hb : b < 16384) (j : ℕ) (hj : j < 17) :
    (pos b j * 16384 + b = wordAt j b ∧ pos b j < 17) ∧ ∀ j', j < j' → j' < 17 → ord b (pos b j) < ord b (pos b j') :=
  check_facts (d := 14) (by norm_num) wordAt (fun _ _ => word_lt _) 17 (by rw [← nodes_eq]; exact check_nodes) b hb j hj

/-- The table's row at output position `j` of row `b`. -/
theorem lit_word (b : ℕ) (hb : b < 16384) (j : ℕ) (hj : j < 17) : (lit0t (16384 * j + b)).toNat = pos b j * 16384 + b :=
  (facts b hb j hj).1.1.symm

theorem lit_lt (i : ℕ) (hi : i < 278528) : (lit0t i).toNat < 278528 := by
  have h := facts (i % 16384) (Nat.mod_lt _ (by norm_num)) (i / 16384) (by omega)
  have e := lit_word (i % 16384) (Nat.mod_lt _ (by norm_num)) (i / 16384) (by omega)
  rw [Nat.div_add_mod] at e
  have := h.1.2
  omega

end Cert.Proof.Lit

end
-- ==== Proof.Tile.Frames.lean ====
/-
  The program runs from any memory: its list's words are rows of the table.
-/
module

public import proofs.«01_k».proof.Proof.Tile.Launch
public import proofs.«01_k».proof.Proof.Lit.Facts
public import proofs.«01_k».proof.Defs
public import proofs.«01_k».proof.Proof.Gen.KernelIdeal

@[expose] public section

noncomputable section

namespace Cert.Proof.Tile

open Idealize.ShloMosaic Idealize.SL.Sem

section
open Cert.KernelIdeal

/-- Every word of the list is a row of the table. -/
theorem lit0_lt : ∀ x : Fin 278528, (lit0 x).toNat < 278528 := fun ⟨i, hi⟩ => Lit.lit_lt i hi

/-- So is every word of the list's buffer. -/
theorem ixM_ok {F : FTy → Type} [FloatOps F] (d : Dev nD) : IxOK (F := F) d (ixM d) := fun j =>
  lit0_lt (S278528.rowMajor j)

/-- The ideal kernel's frame. -/
theorem frame_kernelIdeal : Cert.quiescent_KernelIdeal := fun m ρ _ =>
  (θ_run _ _ _).mono (fun _ h => ⟨fun c => (h.1 c).2, h.2⟩) (run_main (F := Ideal) m ρ ixM_ok)

end

end Cert.Proof.Tile

end
-- ==== Proof.Ref.Line.lean ====
/-
  Straight lines of host operations, each writing a buffer of its own after those it reads: such a line runs, and the
  memory it ends with satisfies every operation's equation.
-/
module

public import Idealize.ShloMosaic.Lib.StableHlo.Run
public import Idealize.ShloMosaic.Lib.StableHlo.RunHlo

@[expose] public section

noncomputable section

namespace Cert.Proof.Ref

open Idealize.ShloMosaic Idealize.SL.Sem Idealize.ShloMosaic.StableHlo

variable {nD : Nat} {τ : Topo} {sig : RefSig} {Val : EltTy → Type} {Λ : Labels}

/-! ## A memory that satisfies a program's operations -/

/-- What a step asks of the memory `V` and of its answer. -/
def Holds (V : Valuation τ sig Val) : {p : Proc τ} → {β : Type} → TpuEff nD τ sig Val Λ p β → β → Prop
  | _, _, .hloBegin _ op, _ => op.result V = V
  | _, _, .hloEnd _ _, _ => True
  | _, _, _, _ => False

/-- `V` satisfies every operation of the program. -/
def Sat (V : Valuation τ sig Val) {p : Proc τ} {α : Type} : Prog (TpuEff nD τ sig Val Λ p) α → Prop
  | .ret _ => True
  | .op e k => ∃ x, Holds V e x ∧ Sat V (k x)

theorem sat_ret (V : Valuation τ sig Val) (x : PUnit) : Sat V (.ret x : Prog (TpuEff nD τ sig Val Λ .tc) PUnit) ↔ True := Iff.rfl

theorem sat_pure (V : Valuation τ sig Val) (x : PUnit) : Sat V (pure x : Prog (TpuEff nD τ sig Val Λ .tc) PUnit) ↔ True := Iff.rfl

theorem sat_bind (V : Valuation τ sig Val) {p : Proc τ} (a : Prog (TpuEff nD τ sig Val Λ p) PUnit) (k : PUnit → Prog (TpuEff nD τ sig Val Λ p) PUnit) :
    Sat V (a >>= k) ↔ Sat V a ∧ Sat V (k ⟨⟩) := by
  suffices h : ∀ {α : Type} (a : Prog (TpuEff nD τ sig Val Λ p) α) (q : Prog (TpuEff nD τ sig Val Λ p) PUnit),
      Sat V (a >>= fun _ => q) ↔ Sat V a ∧ Sat V q from h a (k ⟨⟩)
  intro α a q
  induction a with
  | ret a => exact (true_and _).symm.to_iff
  | op e c ih =>
    show (∃ x, Holds V e x ∧ Sat V (c x >>= fun _ => q)) ↔ (∃ x, Holds V e x ∧ Sat V (c x)) ∧ Sat V q
    simp only [ih, ← and_assoc, exists_and_right]

theorem sat_hlo (V : Valuation τ sig Val) (hp : (Proc.tc : Proc τ).kind.runsHlo = (Proc.tc : Proc τ).kind.runsHlo) (op : HloOp τ sig Val) :
    Sat V (hlo hp op (fun _ => .ret ⟨⟩) : Prog (TpuEff nD τ sig Val Λ .tc) PUnit) ↔ op.result V = V :=
  ⟨fun ⟨_, h, _⟩ => h, fun h => ⟨⟨⟩, h, fun b => V b.1, trivial, trivial⟩⟩

/-! ## Lines -/

/-- A buffer's number. -/
abbrev rk (r : Ref sig .tc) : ℕ := r.idx.val

/-- `op` writes the buffer `y`, numbered at least `n`, by the contents of buffers numbered below it. -/
structure OK (n : ℕ) (op : HloOp τ sig Val) (y : Ref sig .tc) : Prop where
  fresh : op.fresh = ∅
  sub : op.bufs ⊆ tcRefs τ sig
  writes : op.writes = {Proc.devRef .tc y}
  lo : n ≤ rk y
  det : ∀ V V' : Valuation τ sig Val, (∀ r : Ref sig .tc, rk r < rk y → V (Proc.devRef .tc r) = V' (Proc.devRef .tc r)) →
    op.result V (Proc.devRef .tc y) = op.result V' (Proc.devRef .tc y)

/-- Every operation of the line is so, each writing above the ones before; the first at least `n`, the last below `m`. -/
inductive OKs : ℕ → ℕ → List (HloOp τ sig Val) → Prop
  | nil {n m : ℕ} : n ≤ m → OKs n m []
  | cons {n m : ℕ} {op : HloOp τ sig Val} {y : Ref sig .tc} {ops : List (HloOp τ sig Val)} :
      OK n op y → OKs (rk y + 1) m ops → OKs n m (op :: ops)

theorem OKs.append {n k m : ℕ} {l₁ l₂ : List (HloOp τ sig Val)} (h₁ : OKs n k l₁) (h₂ : OKs k m l₂) : OKs n m (l₁ ++ l₂) := by
  induction h₁ with
  | nil h =>
    cases h₂ with
    | nil h' => exact .nil (h.trans h')
    | cons a b => exact .cons ⟨a.fresh, a.sub, a.writes, h.trans a.lo, a.det⟩ b
  | cons a _ ih => exact .cons a (ih h₂)

theorem OKs.keep {n m : ℕ} {ops : List (HloOp τ sig Val)} (h : OKs n m ops) (V : Valuation τ sig Val) (r : Ref sig .tc) (hr : rk r < n) :
    after ops V (Proc.devRef .tc r) = V (Proc.devRef .tc r) := by
  induction h generalizing V with
  | nil _ => rfl
  | @cons n m op y ops a b ih =>
    have := a.lo
    rw [after_cons, ih _ (by omega), op.result_of_not_mem]
    rw [a.writes, Finset.mem_singleton]
    exact devRef_ne_of_ne fun e => by subst e; omega

theorem OKs.sat {n m : ℕ} {ops : List (HloOp τ sig Val)} (h : OKs n m ops) (V : Valuation τ sig Val) :
    Sat (after ops V) (seq ops : Prog (TpuEff nD τ sig Val Λ .tc) PUnit) := by
  induction h generalizing V with
  | nil _ => trivial
  | @cons n m op y ops a b ih =>
    rw [after_cons]
    refine (sat_bind _ _ _).mpr ⟨(sat_hlo _ rfl op).mpr (funext fun d => ?_), ih _⟩
    by_cases hd : d ∈ op.writes
    · rw [a.writes, Finset.mem_singleton] at hd
      subst hd
      rw [b.keep _ y (by omega)]
      refine a.det _ _ fun r hr => ?_
      rw [b.keep _ r (by omega), op.result_of_not_mem]
      rw [a.writes, Finset.mem_singleton]
      exact devRef_ne_of_ne fun e => by subst e; omega
    · rw [op.result_of_not_mem _ hd]

theorem OKs.sub {n m : ℕ} {ops : List (HloOp τ sig Val)} (h : OKs n m ops) : ops.Forall fun op => op.bufs ⊆ tcRefs τ sig := by
  induction h with
  | nil _ => trivial
  | cons a _ ih => exact (List.forall_cons _ _ _).mpr ⟨a.sub, ih⟩

theorem OKs.fresh {n m : ℕ} {ops : List (HloOp τ sig Val)} (h : OKs n m ops) : ∀ op ∈ ops, op.fresh = ∅ := by
  induction h with
  | nil _ => intro op ho; exact nomatch ho
  | cons a _ ih =>
    intro op ho
    rcases List.mem_cons.mp ho with rfl | ho
    · exact a.fresh
    · exact ih op ho

/-- The program is such a line. -/
def Line (n m : ℕ) (p : Prog (TpuEff nD τ sig Val Λ .tc) PUnit) : Prop := ∃ ops, p = seq ops ∧ OKs n m ops

section Rules
variable {n k m : ℕ} {op : HloOp τ sig Val} {y : Ref sig .tc} {p q : Prog (TpuEff nD τ sig Val Λ .tc) PUnit}

theorem Line.ret (h : n ≤ m) : Line n m (pure ⟨⟩ : Prog (TpuEff nD τ sig Val Λ .tc) PUnit) := ⟨[], rfl, .nil h⟩

theorem Line.one (h : OK n op y) (hm : rk y < m) : Line n m (hlo rfl op (fun _ => .ret ⟨⟩) : Prog (TpuEff nD τ sig Val Λ .tc) PUnit) :=
  ⟨[op], rfl, .cons h (.nil hm)⟩

theorem Line.bind (hp : Line n k p) (hq : Line k m q) : Line n m (p >>= fun _ => q) := by
  obtain ⟨l₁, rfl, h₁⟩ := hp
  obtain ⟨l₂, rfl, h₂⟩ := hq
  exact ⟨l₁ ++ l₂, (seq_append l₁ l₂).symm, h₁.append h₂⟩

theorem Line.cons (h : OK n op y) (hq : Line (rk y + 1) m q) : Line n m (hlo rfl op (fun _ => (.ret ⟨⟩ : Prog (TpuEff nD τ sig Val Λ .tc) PUnit)) >>= fun _ => q) := by
  obtain ⟨l, rfl, hl⟩ := hq
  exact ⟨op :: l, rfl, .cons h hl⟩

end Rules

section Builders
variable {n : ℕ}

theorem ok_nullary (y : Ref sig .tc) (v : y.ty.Contents Val) (hy) (h : n ≤ rk y) : OK n (nullary (τ := τ) y v hy) y :=
  ⟨rfl, nullary_bufs_sub .., rfl, h, fun V V' _ => by rw [nullary_result, nullary_result]⟩

theorem ok_unary (x y : Ref sig .tc) (f : x.ty.Contents Val → y.ty.Contents Val) (hx hy) (h : n ≤ rk y ∧ rk x < rk y) :
    OK n (unary (τ := τ) x y f hx hy) y :=
  ⟨rfl, unary_bufs_sub .., rfl, h.1, fun V V' hV => by rw [unary_result, unary_result, hV x h.2]⟩

theorem ok_reshape (x y : Ref sig .tc) (he hn hx hy) (h : n ≤ rk y ∧ rk x < rk y) :
    OK n (reshape (τ := τ) (Val := Val) x y he hn hx hy) y :=
  ⟨rfl, reshape_bufs_sub .., rfl, h.1, fun V V' hV => by rw [reshape_result, reshape_result, hV x h.2]⟩

theorem ok_binary (a b y : Ref sig .tc) (f : a.ty.Contents Val → b.ty.Contents Val → y.ty.Contents Val) (ha hb hy)
    (h : n ≤ rk y ∧ rk a < rk y ∧ rk b < rk y) : OK n (binary (τ := τ) a b y f ha hb hy) y :=
  ⟨rfl, binary_bufs_sub .., rfl, h.1, fun V V' hV => by rw [binary_result, binary_result, hV a h.2.1, hV b h.2.2]⟩

theorem ok_ternary (c a b y : Ref sig .tc) (f : c.ty.Contents Val → a.ty.Contents Val → b.ty.Contents Val → y.ty.Contents Val) (hc ha hb hy)
    (h : n ≤ rk y ∧ rk c < rk y ∧ rk a < rk y ∧ rk b < rk y) : OK n (ternary (τ := τ) c a b y f hc ha hb hy) y :=
  ⟨rfl, ternary_bufs_sub .., rfl, h.1, fun V V' hV => by
    rw [ternary_result, ternary_result, hV c h.2.1, hV a h.2.2.1, hV b h.2.2.2]⟩

end Builders

/-- A line runs: it ends at a memory that satisfies its operations, the buffers below it what they were. -/
theorem Line.run {n m : ℕ} (defs : Defs nD τ sig Val Λ) (main : Dev nD → Prog (TpuEff nD τ sig Val Λ .tc) PUnit)
    (h : ∀ d, Line n m (main d)) (hR : (Finset.univ.filter fun b : Ref sig .tc => b.isScoped) = ∅)
    (hC : (Finset.univ.filter fun sm : SemLoc sig => sm.isScoped .tc) = ∅)
    (M : (ℓ : Loc nD τ sig) → Buf Val ℓ) (ρ : Dev nD → PrngReg) :
    θ_run defs (onTc (τ := τ) main) ⟨M, fun _ => 0, ρ⟩ fun r => ∀ d : Dev nD, ∃ V : Valuation τ sig Val, Sat V (main d) ∧
      (∀ b : Ref sig .tc, rk b < n → V (Proc.devRef .tc b) = launchContents M d (Proc.devRef .tc b)) ∧
      ∀ b : Ref sig .tc, r.2.mem ((d.tc : Thread nD τ).loc b) = V (Proc.devRef .tc b) := by
  choose ops hops hok using h
  have key := run_seq (nD := nD) hR hC defs main ops hops (fun d => (hok d).sub) M ρ (fun d => (hok d).fresh)
  refine θ_run_mono key fun r hr d => ?_
  exact ⟨after (ops d) (launchContents M d), by rw [hops d]; exact (hok d).sat _, fun b hb => (hok d).keep _ b hb, hr d⟩

/-! ## What each operation says of the memory -/

/-- A typed buffer's contents. -/
def rd (V : Valuation τ sig Val) {T : BufTy} (x : TRef sig T) : T.Contents Val := x.ofBuf (V (Proc.devRef .tc x.ref))

section Equations
variable (V : Valuation τ sig Val)

theorem res_iff (op : HloOp τ sig Val) (y : Ref sig .tc) (hw : op.writes = {Proc.devRef .tc y}) :
    op.result V = V ↔ V (Proc.devRef .tc y) = op.result V (Proc.devRef .tc y) := by
  refine ⟨fun h => by rw [h], fun h => funext fun d => ?_⟩
  by_cases hd : d ∈ op.writes
  · rw [hw, Finset.mem_singleton] at hd
    subst hd
    exact h.symm
  · exact op.result_of_not_mem _ hd

theorem eq_nullary (y : Ref sig .tc) (v : y.ty.Contents Val) (hy) :
    (nullary (τ := τ) y v hy).result V = V ↔ V (Proc.devRef .tc y) = v := by
  rw [res_iff V _ y rfl, nullary_result]

theorem eq_unary (x y : Ref sig .tc) (f : x.ty.Contents Val → y.ty.Contents Val) (hx hy) :
    (unary (τ := τ) x y f hx hy).result V = V ↔ V (Proc.devRef .tc y) = f (V (Proc.devRef .tc x)) := by
  rw [res_iff V _ y rfl, unary_result]

theorem eq_binary (a b y : Ref sig .tc) (f : a.ty.Contents Val → b.ty.Contents Val → y.ty.Contents Val) (ha hb hy) :
    (binary (τ := τ) a b y f ha hb hy).result V = V ↔
      V (Proc.devRef .tc y) = f (V (Proc.devRef .tc a)) (V (Proc.devRef .tc b)) := by
  rw [res_iff V _ y rfl, binary_result]

theorem eq_ternary (c a b y : Ref sig .tc) (f : c.ty.Contents Val → a.ty.Contents Val → b.ty.Contents Val → y.ty.Contents Val) (hc ha hb hy) :
    (ternary (τ := τ) c a b y f hc ha hb hy).result V = V ↔
      V (Proc.devRef .tc y) = f (V (Proc.devRef .tc c)) (V (Proc.devRef .tc a)) (V (Proc.devRef .tc b)) := by
  rw [res_iff V _ y rfl, ternary_result]

variable {T U W S : BufTy}

theorem rd_iff (y : TRef sig T) (v : T.Contents Val) : V (Proc.devRef .tc y.ref) = y.toBuf v ↔ rd V y = v := by
  obtain ⟨r, h, _, _⟩ := y
  subst h
  exact Iff.rfl

theorem tq_nullary (y : TRef sig T) (v : T.Contents Val) :
    (TRef.nullary (τ := τ) y v).result V = V ↔ rd V y = v := by rw [eq_nullary, rd_iff]

theorem tq_unary (x : TRef sig T) (y : TRef sig U) (f : T.Contents Val → U.Contents Val) :
    (TRef.unary (τ := τ) x y f).result V = V ↔ rd V y = f (rd V x) := (eq_unary ..).trans (rd_iff ..)

theorem tq_binary (a : TRef sig T) (b : TRef sig U) (y : TRef sig W) (f : T.Contents Val → U.Contents Val → W.Contents Val) :
    (TRef.binary (τ := τ) a b y f).result V = V ↔ rd V y = f (rd V a) (rd V b) := (eq_binary ..).trans (rd_iff ..)

theorem tq_ternary (c : TRef sig S) (a : TRef sig T) (b : TRef sig U) (y : TRef sig W) (f : S.Contents Val → T.Contents Val → U.Contents Val → W.Contents Val) :
    (TRef.ternary (τ := τ) c a b y f).result V = V ↔ rd V y = f (rd V c) (rd V a) (rd V b) := (eq_ternary ..).trans (rd_iff ..)

theorem reshape_cast {e : EltTy} {s t : Shape} (A B : BufTy) (hA : A = ⟨s, e⟩) (hB : B = ⟨t, e⟩) (a : A.Contents Val) (b : B.Contents Val)
    (he : A.elt = B.elt) (hn' : A.shape.ShapeCasts B.shape) (hn : s.ShapeCasts t) (ca : A.Contents Val = (⟨s, e⟩ : BufTy).Contents Val)
    (cb : B.Contents Val = (⟨t, e⟩ : BufTy).Contents Val) :
    (b = fun i => he ▸ shapeCast B.shape a hn' i) ↔ cast cb b = shapeCast t (cast ca a) hn := by
  subst hA hB
  exact Iff.rfl

theorem tq_reshape {e : EltTy} {s t : Shape} (x : TRef sig ⟨s, e⟩) (y : TRef sig ⟨t, e⟩) (h : e = e) (hn : s.ShapeCasts t) :
    (TRef.reshape (τ := τ) (Val := Val) x y h hn).result V = V ↔ rd V y = shapeCast t (rd V x) hn := by
  rw [res_iff V _ y.ref rfl, reshape_result]
  exact reshape_cast _ _ x.ty_eq y.ty_eq _ _ _ _ _ _ _

end Equations

end Cert.Proof.Ref

end
-- ==== Proof.Ref.Run.lean ====
/-
  The reference is one straight line of host operations, so it runs.
-/
module

public import proofs.«01_k».proof.Proof.Ref.Line
public import Idealize.ShloMosaic.Lib.Quiescent
public import proofs.«01_k».proof.Defs
public import proofs.«01_k».proof.Proof.Gen.ReferenceIdeal

@[expose] public section

noncomputable section

namespace Cert.Proof.Ref

open Idealize.ShloMosaic Idealize.SL.Sem Idealize.ShloMosaic.StableHlo Cert.ReferenceIdeal

variable {F : FTy → Type} [FloatOps F]

set_option maxHeartbeats 0 in
/-- The hash's calls, piece by piece: each piece is a line. -/
theorem line_pieces :
    Line 24 84 (fn_threefry2x32.body_part0 (F := F) main_call0.v1 main_call0.v3 main_call0.v10 main_call0.v9 main_call0.call0) ∧
    Line 84 144 (fn_threefry2x32.body_part1 (F := F) main_call0.v1 main_call0.v3 main_call0.v10 main_call0.v9 main_call0.call0) ∧
    Line 144 204 (fn_threefry2x32.body_part2 (F := F) main_call0.v1 main_call0.v3 main_call0.v10 main_call0.v9 main_call0.call0) ∧
    Line 204 246 (fn_threefry2x32.body_part3 (F := F) main_call0.v1 main_call0.v3 main_call0.v10 main_call0.v9 main_call0.call0) ∧
    Line 267 327 (fn_threefry2x32_1.body_part0 (F := F) main_call1.call0.v13 main_call1.call0.v14 main_call1.call0.v11 main_call1.call0.v12 main_call1.call0.call0) ∧
    Line 327 387 (fn_threefry2x32_1.body_part1 (F := F) main_call1.call0.v13 main_call1.call0.v14 main_call1.call0.v11 main_call1.call0.v12 main_call1.call0.call0) ∧
    Line 387 447 (fn_threefry2x32_1.body_part2 (F := F) main_call1.call0.v13 main_call1.call0.v14 main_call1.call0.v11 main_call1.call0.v12 main_call1.call0.call0) ∧
    Line 447 492 (fn_threefry2x32_1.body_part3 (F := F) main_call1.call0.v13 main_call1.call0.v14 main_call1.call0.v11 main_call1.call0.v12 main_call1.call0.call0) ∧
    Line 516 576 (fn_threefry2x32_2.body_part0 (F := F) main_call1.v18 main_call1.v19 main_call1.v16 main_call1.v17 main_call1.call1) ∧
    Line 576 636 (fn_threefry2x32_2.body_part1 (F := F) main_call1.v18 main_call1.v19 main_call1.v16 main_call1.v17 main_call1.call1) ∧
    Line 636 696 (fn_threefry2x32_2.body_part2 (F := F) main_call1.v18 main_call1.v19 main_call1.v16 main_call1.v17 main_call1.call1) ∧
    Line 696 741 (fn_threefry2x32_2.body_part3 (F := F) main_call1.v18 main_call1.v19 main_call1.v16 main_call1.v17 main_call1.call1) := by
  refine ⟨?_, ?_, ?_, ?_, ?_, ?_, ?_, ?_, ?_, ?_, ?_, ?_⟩
  all_goals
    first
      | unfold fn_threefry2x32.body_part0
      | unfold fn_threefry2x32.body_part1
      | unfold fn_threefry2x32.body_part2
      | unfold fn_threefry2x32.body_part3
      | unfold fn_threefry2x32_1.body_part0
      | unfold fn_threefry2x32_1.body_part1
      | unfold fn_threefry2x32_1.body_part2
      | unfold fn_threefry2x32_1.body_part3
      | unfold fn_threefry2x32_2.body_part0
      | unfold fn_threefry2x32_2.body_part1
      | unfold fn_threefry2x32_2.body_part2
      | unfold fn_threefry2x32_2.body_part3
    repeat first
      | exact Line.ret (Nat.le_of_ble_eq_true rfl)
      | refine Line.cons (ok_nullary _ _ _ (by decide +kernel)) ?_
      | refine Line.cons (ok_unary _ _ _ _ _ (by decide +kernel)) ?_
      | refine Line.cons (ok_binary _ _ _ _ _ _ _ (by decide +kernel)) ?_
      | refine Line.cons (ok_ternary _ _ _ _ _ _ _ _ _ (by decide +kernel)) ?_
      | refine Line.cons (ok_reshape _ _ _ _ _ _ (by decide +kernel)) ?_
      | refine Line.bind (by assumption) ?_
      | exact Line.one (ok_nullary _ _ _ (by decide +kernel)) (by decide +kernel)
      | exact Line.one (ok_binary _ _ _ _ _ _ _ (by decide +kernel)) (by decide +kernel)

/-- The three calls of the hash are lines. -/
theorem line_hash : Line 24 246 (fn_threefry2x32.body (F := F) main_call0.v1 main_call0.v3 main_call0.v10 main_call0.v9 main_call0.call0) :=
  let ⟨h0, h1, h2, h3, _⟩ := line_pieces (F := F)
  h0.bind (h1.bind (h2.bind h3))

theorem line_hash_1 : Line 267 492 (fn_threefry2x32_1.body (F := F) main_call1.call0.v13 main_call1.call0.v14 main_call1.call0.v11 main_call1.call0.v12 main_call1.call0.call0) :=
  let ⟨_, _, _, _, h0, h1, h2, h3, _⟩ := line_pieces (F := F)
  h0.bind (h1.bind (h2.bind h3))

theorem line_hash_2 : Line 516 741 (fn_threefry2x32_2.body (F := F) main_call1.v18 main_call1.v19 main_call1.v16 main_call1.v17 main_call1.call1) :=
  let ⟨_, _, _, _, _, _, _, _, h0, h1, h2, h3⟩ := line_pieces (F := F)
  h0.bind (h1.bind (h2.bind h3))

attribute [local irreducible] fn_threefry2x32.body fn_threefry2x32_1.body fn_threefry2x32_2.body fn_threefry_split.body fn_threefry_split_0.body
  fn_shuffle.body fn_take_along_axis.body

set_option maxHeartbeats 0 in
/-- The reference's functions are lines one after another. -/
theorem line_parts (d : Dev nD) :
    Line 11 249 (fn_threefry_split.body (F := F) (.of main_v6) main_call0) ∧
    Line 250 495 (fn_threefry_split_0.body (F := F) (.of main_v7) main_call1.call0) ∧
    (Line 250 495 (fn_threefry_split_0.body (F := F) (.of main_v7) main_call1.call0) →
      Line 250 745 (fn_shuffle.body (F := F) (.of main_v7) (.of main_v8) main_call1)) ∧
    Line 746 768 (fn_take_along_axis.body (F := F) (.of main_arg0) (.of main_v10) main_call2) ∧
    (Line 11 249 (fn_threefry_split.body (F := F) (.of main_v6) main_call0) →
      Line 250 745 (fn_shuffle.body (F := F) (.of main_v7) (.of main_v8) main_call1) →
      Line 746 768 (fn_take_along_axis.body (F := F) (.of main_arg0) (.of main_v10) main_call2) → Line 1 768 (main (F := F) d)) := by
  have h₀ := line_hash (F := F)
  have h₁ := line_hash_1 (F := F)
  have h₂ := line_hash_2 (F := F)
  refine ⟨?_, ?_, fun _ => ?_, ?_, fun _ _ _ => ?_⟩
  all_goals
    first
      | unfold fn_threefry_split.body
      | unfold fn_threefry_split_0.body
      | unfold fn_shuffle.body
      | unfold fn_take_along_axis.body
      | unfold main
    repeat first
      | exact Line.ret (Nat.le_of_ble_eq_true rfl)
      | refine Line.bind (by assumption) ?_
      | refine Line.cons (ok_nullary _ _ _ (by decide +kernel)) ?_
      | refine Line.cons (ok_unary _ _ _ _ _ (by decide +kernel)) ?_
      | refine Line.cons (ok_binary _ _ _ _ _ _ _ (by decide +kernel)) ?_
      | refine Line.cons (ok_ternary _ _ _ _ _ _ _ _ _ (by decide +kernel)) ?_
      | refine Line.cons (ok_reshape _ _ _ _ _ _ (by decide +kernel)) ?_
      | exact Line.one (ok_nullary _ _ _ (by decide +kernel)) (by decide +kernel)
      | exact Line.one (ok_binary _ _ _ _ _ _ _ (by decide +kernel)) (by decide +kernel)

/-- The reference is a line. -/
theorem line_main (d : Dev nD) : Line 1 768 (main (F := F) d) :=
  let ⟨a, b, c, e, f⟩ := line_parts (F := F) d
  f a (c b) e

/-- What the reference's run leaves: a memory satisfying its operations, its argument what it was. -/
theorem run_ref (M : (ℓ : Loc nD τ sig) → Buf (Elt F) ℓ) (ρ : Dev nD → PrngReg) :
    θ_run (defs (F := F)) (onTc (τ := τ) (main (F := F))) ⟨M, fun _ => 0, ρ⟩ fun r => ∀ d : Dev nD, ∃ V : Valuation τ sig (Elt F),
      Sat V (main (F := F) d) ∧ V (Proc.devRef .tc main_arg0) = M ((d.tc : Thread nD τ).loc main_arg0) ∧
      ∀ b : Ref sig .tc, r.2.mem ((d.tc : Thread nD τ).loc b) = V (Proc.devRef .tc b) :=
  θ_run_mono (Line.run defs main line_main (by decide +kernel) (by decide +kernel) M ρ) fun _ h d =>
    let ⟨V, hs, hb, hv⟩ := h d
    ⟨V, hs, hb main_arg0 (by decide +kernel), hv⟩

/-- The reference's frame. -/
theorem frame_ref : Cert.quiescent_ReferenceIdeal := fun m ρ _ =>
  θ_run_mono (run_ref (F := Ideal) m ρ) fun r h =>
    ⟨fun c => let ⟨_, _, ha, hv⟩ := h c; (hv main_arg0).trans ha, sem_eq_zero_of_no_sems (by decide) r.2⟩

end Cert.Proof.Ref

end
-- ==== Proof.Ref.Hash.lean ====
/-
  The hash as the reference writes it, a few operations a step: what the memory holds after it.
-/
module

public import proofs.«01_k».proof.Proof.Ref.Line
public import proofs.«01_k».proof.Proof.Lit.Defs
public import proofs.«01_k».proof.ReferenceIdeal

@[expose] public section

noncomputable section

namespace Cert.Proof.Ref

open Idealize.ShloMosaic Idealize.SL.Sem Idealize.ShloMosaic.StableHlo Cert.ReferenceIdeal
open Cert.Proof.Lit (Ops wordOps rnd inj four key2 tf)

variable {F : FTy → Type} [FloatOps F] [Facts]

/-- The two words of a hash state at an index. -/
abbrev two {s : Shape} (a b : IVec s 32) (i : s.Idx) : BitVec 32 × BitVec 32 := (a i, b i)

/-- One word for every index. -/
abbrev spread (s : Shape) (h : S_.BroadcastsInDim s ![]) (x : IVec S_ 32) : IVec s 32 := broadcastInDim s ![] h x

section Steps
variable {s : Shape}

theorem rot_word (l r : ℕ) (x : BitVec 32) (hl : l < 32) (hr : r = 32 - l) (h0 : 0 < l) :
    IntOp.ori (IntOp.shli .host x (BitVec.ofNat 32 l)) (IntOp.shrui .host x (BitVec.ofNat 32 r)) = wordOps.rot l x := by
  have e₁ : (BitVec.ofNat 32 l).toNat = l := by rw [BitVec.toNat_ofNat]; omega
  have e₂ : (BitVec.ofNat 32 r).toNat = r := by rw [BitVec.toNat_ofNat]; omega
  unfold IntOp.shli IntOp.shrui IntOp.ori
  rw [if_pos (by omega), if_pos (by omega)]
  show x <<< (BitVec.ofNat 32 l).toNat ||| x >>> (BitVec.ofNat 32 r).toNat = _
  rw [e₁, e₂, hr]
  rfl

/-- A round's nine operations. -/
theorem round_step {R : Prop} {x0 x1 a l r o w cl' cr' : IVec s 32} {cl cr : IVec S_ 32} {p q : S_.BroadcastsInDim s ![]} (nl nr : ℕ)
    (hl : nl < 32 := by decide) (hr : nr = 32 - nl := by rfl) (h0 : 0 < nl := by decide)
    (h : a = addi x0 x1 ∧ cl = constantI S_ 32 (BitVec.ofNat 32 nl) ∧ cl' = broadcastInDim s ![] p cl ∧ l = Host.shli x1 cl' ∧
      cr = constantI S_ 32 (BitVec.ofNat 32 nr) ∧ cr' = broadcastInDim s ![] q cr ∧ r = Host.shrui x1 cr' ∧ o = ori l r ∧ w = xori a o ∧ R) :
    (∀ i, two a w i = rnd wordOps nl (two x0 x1 i)) ∧ R := by
  obtain ⟨rfl, rfl, rfl, rfl, rfl, rfl, rfl, rfl, rfl, hR⟩ := h
  refine ⟨fun i => Prod.ext rfl ?_, hR⟩
  exact congrArg (IntOp.xori (IntOp.addi (x0 i) (x1 i))) (rot_word nl nr (x1 i) hl hr h0)

/-- The key's addition after four rounds, seven operations. -/
theorem inj_step {R : Prop} {t t' : Shape} {ka : IVec t 32} {kb : IVec t' 32} {da : Fin t.rank → Fin s.rank} {db : Fin t'.rank → Fin s.rank}
    {x0 x1 ka' y0 kb' z c' y1 : IVec s 32} {c : IVec S_ 32} {pa : t.BroadcastsInDim s da} {pb : t'.BroadcastsInDim s db}
    {q : S_.BroadcastsInDim s ![]} (n : ℕ)
    (h : ka' = broadcastInDim s da pa ka ∧ y0 = addi x0 ka' ∧ kb' = broadcastInDim s db pb kb ∧ z = addi x1 kb' ∧
      c = constantI S_ 32 (BitVec.ofNat 32 n) ∧ c' = broadcastInDim s ![] q c ∧ y1 = addi z c' ∧ R) :
    (∀ i, two y0 y1 i = inj wordOps (broadcastInDim s da pa ka i) (broadcastInDim s db pb kb i) n (two x0 x1 i)) ∧ R := by
  obtain ⟨rfl, rfl, rfl, rfl, rfl, rfl, rfl, hR⟩ := h
  exact ⟨fun i => rfl, hR⟩

end Steps

/-- One call of the hash over the seed's key. -/
theorem hash_a (V : Valuation τ sig (Elt F)) (k0 k1 : TRef sig ⟨S_, .i32⟩) (c0 c1 : TRef sig ⟨S16384, .i32⟩) (φ : fn_threefry2x32.Bufs)
    (h : Sat V (fn_threefry2x32.body (F := F) k0 k1 c0 c1 φ)) (i : S16384.Idx) :
    two (s := S16384) (rd V φ.v171) (rd V φ.v175) i =
      tf wordOps (spread S16384 Facts₀.bcast_S_S16384 (rd V k0) i) (spread S16384 Facts₀.bcast_S_S16384 (rd V k1) i) (rd V c0 i) (rd V c1 i) := by
  unfold fn_threefry2x32.body fn_threefry2x32.body_part0 fn_threefry2x32.body_part1 fn_threefry2x32.body_part2 fn_threefry2x32.body_part3 at h
  simp only [sat_bind, sat_hlo, sat_pure, tq_nullary, tq_unary, tq_binary, and_assoc] at h
  obtain ⟨a0, a1, a2, a3, a4, a5, a6, h⟩ := h
  obtain ⟨r1, h⟩ := round_step 13 19 (h := h)
  obtain ⟨r2, h⟩ := round_step 15 17 (h := h)
  obtain ⟨r3, h⟩ := round_step 26 6 (h := h)
  obtain ⟨r4, h⟩ := round_step 6 26 (h := h)
  obtain ⟨k1, h⟩ := inj_step 1 h
  obtain ⟨r5, h⟩ := round_step 17 15 (h := h)
  obtain ⟨r6, h⟩ := round_step 29 3 (h := h)
  obtain ⟨r7, h⟩ := round_step 16 16 (h := h)
  obtain ⟨r8, h⟩ := round_step 24 8 (h := h)
  obtain ⟨k2, h⟩ := inj_step 2 h
  obtain ⟨r9, h⟩ := round_step 13 19 (h := h)
  obtain ⟨r10, h⟩ := round_step 15 17 (h := h)
  obtain ⟨r11, h⟩ := round_step 26 6 (h := h)
  obtain ⟨r12, h⟩ := round_step 6 26 (h := h)
  obtain ⟨k3, h⟩ := inj_step 3 h
  obtain ⟨r13, h⟩ := round_step 17 15 (h := h)
  obtain ⟨r14, h⟩ := round_step 29 3 (h := h)
  obtain ⟨r15, h⟩ := round_step 16 16 (h := h)
  obtain ⟨r16, h⟩ := round_step 24 8 (h := h)
  obtain ⟨k4, h⟩ := inj_step 4 h
  obtain ⟨r17, h⟩ := round_step 13 19 (h := h)
  obtain ⟨r18, h⟩ := round_step 15 17 (h := h)
  obtain ⟨r19, h⟩ := round_step 26 6 (h := h)
  obtain ⟨r20, h⟩ := round_step 6 26 (h := h)
  obtain ⟨k5, h⟩ := inj_step 5 h
  rw [k5, r20, r19, r18, r17, k4, r16, r15, r14, r13, k3, r12, r11, r10, r9, k2, r8, r7, r6, r5, k1, r4, r3, r2, r1]
  rw [a4, a6, a3, a5, a2, a1, a0]
  rfl

/-- One call of the hash over every row's key, 2 counters a row. -/
theorem hash_b (V : Valuation τ sig (Elt F)) (k0 k1 : TRef sig ⟨S16384x1, .i32⟩) (c0 c1 : TRef sig ⟨S1x2, .i32⟩) (φ : fn_threefry2x32_1.Bufs)
    (h : Sat V (fn_threefry2x32_1.body (F := F) k0 k1 c0 c1 φ)) (i : S16384x2.Idx) :
    two (s := S16384x2) (rd V φ.v174) (rd V φ.v178) i =
      tf wordOps (broadcastInDim (s := S16384x1) (α := BitVec 32) S16384x2 ![0, 1] Facts₀.bcast_S16384x1_S16384x2_0_1 (rd V k0) i) (broadcastInDim (s := S16384x1) (α := BitVec 32) S16384x2 ![0, 1] Facts₀.bcast_S16384x1_S16384x2_0_1 (rd V k1) i)
        (broadcastInDim (s := S1x2) (α := BitVec 32) S16384x2 ![0, 1] Facts₀.bcast_S1x2_S16384x2_0_1 (rd V c0) i) (broadcastInDim (s := S1x2) (α := BitVec 32) S16384x2 ![0, 1] Facts₀.bcast_S1x2_S16384x2_0_1 (rd V c1) i) := by
  unfold fn_threefry2x32_1.body fn_threefry2x32_1.body_part0 fn_threefry2x32_1.body_part1 fn_threefry2x32_1.body_part2 fn_threefry2x32_1.body_part3 at h
  simp only [sat_bind, sat_hlo, sat_pure, tq_nullary, tq_unary, tq_binary, and_assoc] at h
  obtain ⟨a0, a1, a2, a3, a4, a5, a6, a7, a8, a9, h⟩ := h
  obtain ⟨r1, h⟩ := round_step 13 19 (h := h)
  obtain ⟨r2, h⟩ := round_step 15 17 (h := h)
  obtain ⟨r3, h⟩ := round_step 26 6 (h := h)
  obtain ⟨r4, h⟩ := round_step 6 26 (h := h)
  obtain ⟨k1, h⟩ := inj_step 1 h
  obtain ⟨r5, h⟩ := round_step 17 15 (h := h)
  obtain ⟨r6, h⟩ := round_step 29 3 (h := h)
  obtain ⟨r7, h⟩ := round_step 16 16 (h := h)
  obtain ⟨r8, h⟩ := round_step 24 8 (h := h)
  obtain ⟨k2, h⟩ := inj_step 2 h
  obtain ⟨r9, h⟩ := round_step 13 19 (h := h)
  obtain ⟨r10, h⟩ := round_step 15 17 (h := h)
  obtain ⟨r11, h⟩ := round_step 26 6 (h := h)
  obtain ⟨r12, h⟩ := round_step 6 26 (h := h)
  obtain ⟨k3, h⟩ := inj_step 3 h
  obtain ⟨r13, h⟩ := round_step 17 15 (h := h)
  obtain ⟨r14, h⟩ := round_step 29 3 (h := h)
  obtain ⟨r15, h⟩ := round_step 16 16 (h := h)
  obtain ⟨r16, h⟩ := round_step 24 8 (h := h)
  obtain ⟨k4, h⟩ := inj_step 4 h
  obtain ⟨r17, h⟩ := round_step 13 19 (h := h)
  obtain ⟨r18, h⟩ := round_step 15 17 (h := h)
  obtain ⟨r19, h⟩ := round_step 26 6 (h := h)
  obtain ⟨r20, h⟩ := round_step 6 26 (h := h)
  obtain ⟨k5, h⟩ := inj_step 5 h
  rw [k5, r20, r19, r18, r17, k4, r16, r15, r14, r13, k3, r12, r11, r10, r9, k2, r8, r7, r6, r5, k1, r4, r3, r2, r1]
  rw [a6, a9, a4, a5, a7, a8, a3, a2, a1, a0]
  rfl

/-- One call of the hash over every row's key, 17 counters a row. -/
theorem hash_c (V : Valuation τ sig (Elt F)) (k0 k1 : TRef sig ⟨S16384x1, .i32⟩) (c0 c1 : TRef sig ⟨S1x17, .i32⟩) (φ : fn_threefry2x32_2.Bufs)
    (h : Sat V (fn_threefry2x32_2.body (F := F) k0 k1 c0 c1 φ)) (i : S16384x17.Idx) :
    two (s := S16384x17) (rd V φ.v174) (rd V φ.v178) i =
      tf wordOps (broadcastInDim (s := S16384x1) (α := BitVec 32) S16384x17 ![0, 1] Facts₀.bcast_S16384x1_S16384x17_0_1 (rd V k0) i) (broadcastInDim (s := S16384x1) (α := BitVec 32) S16384x17 ![0, 1] Facts₀.bcast_S16384x1_S16384x17_0_1 (rd V k1) i)
        (broadcastInDim (s := S1x17) (α := BitVec 32) S16384x17 ![0, 1] Facts₀.bcast_S1x17_S16384x17_0_1 (rd V c0) i) (broadcastInDim (s := S1x17) (α := BitVec 32) S16384x17 ![0, 1] Facts₀.bcast_S1x17_S16384x17_0_1 (rd V c1) i) := by
  unfold fn_threefry2x32_2.body fn_threefry2x32_2.body_part0 fn_threefry2x32_2.body_part1 fn_threefry2x32_2.body_part2 fn_threefry2x32_2.body_part3 at h
  simp only [sat_bind, sat_hlo, sat_pure, tq_nullary, tq_unary, tq_binary, and_assoc] at h
  obtain ⟨a0, a1, a2, a3, a4, a5, a6, a7, a8, a9, h⟩ := h
  obtain ⟨r1, h⟩ := round_step 13 19 (h := h)
  obtain ⟨r2, h⟩ := round_step 15 17 (h := h)
  obtain ⟨r3, h⟩ := round_step 26 6 (h := h)
  obtain ⟨r4, h⟩ := round_step 6 26 (h := h)
  obtain ⟨k1, h⟩ := inj_step 1 h
  obtain ⟨r5, h⟩ := round_step 17 15 (h := h)
  obtain ⟨r6, h⟩ := round_step 29 3 (h := h)
  obtain ⟨r7, h⟩ := round_step 16 16 (h := h)
  obtain ⟨r8, h⟩ := round_step 24 8 (h := h)
  obtain ⟨k2, h⟩ := inj_step 2 h
  obtain ⟨r9, h⟩ := round_step 13 19 (h := h)
  obtain ⟨r10, h⟩ := round_step 15 17 (h := h)
  obtain ⟨r11, h⟩ := round_step 26 6 (h := h)
  obtain ⟨r12, h⟩ := round_step 6 26 (h := h)
  obtain ⟨k3, h⟩ := inj_step 3 h
  obtain ⟨r13, h⟩ := round_step 17 15 (h := h)
  obtain ⟨r14, h⟩ := round_step 29 3 (h := h)
  obtain ⟨r15, h⟩ := round_step 16 16 (h := h)
  obtain ⟨r16, h⟩ := round_step 24 8 (h := h)
  obtain ⟨k4, h⟩ := inj_step 4 h
  obtain ⟨r17, h⟩ := round_step 13 19 (h := h)
  obtain ⟨r18, h⟩ := round_step 15 17 (h := h)
  obtain ⟨r19, h⟩ := round_step 26 6 (h := h)
  obtain ⟨r20, h⟩ := round_step 6 26 (h := h)
  obtain ⟨k5, h⟩ := inj_step 5 h
  rw [k5, r20, r19, r18, r17, k4, r16, r15, r14, r13, k3, r12, r11, r10, r9, k2, r8, r7, r6, r5, k1, r4, r3, r2, r1]
  rw [a6, a9, a4, a5, a7, a8, a3, a2, a1, a0]
  rfl

end Cert.Proof.Ref

end
-- ==== Proof.Ref.Sort.lean ====
/-
  The stable sort of a row's positions by their words is the row the list names.
-/
module

public import proofs.«01_k».proof.Proof.Lit.Facts
public import Idealize.ShloMosaic.Lib.SortFacts
public import Mathlib.Order.WellFounded
public import Mathlib.Data.Fintype.EquivFin

@[expose] public section

namespace Cert.Proof.Ref

open Idealize.ShloMosaic Cert.Proof.Lit

/-- A stable sort compares a position only with later ones. -/
theorem stableSort_ordered {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_ordered {n : ℕ} (R R' : Fin n → Fin n → Bool) (h : ∀ a b, a < b → R b a = R' b a) (k : Fin n) :
    sortedFrom R k = sortedFrom R' k := by
  have e : sortPositions n R = sortPositions n R' := stableSort_ordered R R' h _ (List.pairwise_lt_finRange n)
  unfold sortedFrom
  simp only [List.get_eq_getElem, e]
  rfl

theorem ord_lt_iff (b : ℕ) (c e : ℕ) (hc : c < 32) (he : e < 32) (h : c < e) :
    ord b e < ord b c ↔ (sortKey b e).toNat < (sortKey b c).toNat := by
  unfold ord
  omega

theorem ord_inj (b : ℕ) (c e : ℕ) (hc : c < 32) (he : e < 32) (h : ord b c = ord b e) : c = e := by
  unfold ord at h
  omega

/-- Sorting the positions of row `b` by their words gives the positions the list names. -/
theorem sortedFrom_pos (b : ℕ) (hb : b < 16384) (R : Fin 17 → Fin 17 → Bool)
    (hR : ∀ k k', R k k' = true ↔ (sortKey b k.val).toNat < (sortKey b k'.val).toNat) (j : Fin 17) :
    (sortedFrom R j).val = pos b j.val := by
  let L : Fin 17 → Fin 17 → Bool := fun k k' => decide (ord b k.val < ord b k'.val)
  have hL : ∀ k, sortedFrom R k = sortedFrom L k := sortedFrom_ordered R L fun a c hac => by
    rw [Bool.eq_iff_iff, hR, decide_eq_true_iff]
    exact (ord_lt_iff b a.val c.val (by omega) (by omega) hac).symm
  let p : Fin 17 → Fin 17 := fun k => ⟨pos b k.val, (facts b hb k.val k.isLt).1.2⟩
  have hp : StrictMono fun k => ord b (p k).val := fun k k' h => (facts b hb k.val k.isLt).2 k'.val h k'.isLt
  have hs : StrictMono fun k => ord b (sortedFrom L k).val := fun k k' h => by
    have hi := sortedFrom_noInversion L L (fun a c h => by simp only [L, decide_eq_true_iff, decide_eq_false_iff_not] at h ⊢; omega)
      (fun _ _ h => h) (fun a c e h h' => by simp only [L, decide_eq_false_iff_not] at h h' ⊢; omega) k k' h
    simp only [L, decide_eq_false_iff_not, not_lt] at hi
    refine lt_of_le_of_ne hi fun e => ?_
    exact absurd (sortedFrom_injective L (Fin.ext (ord_inj b _ _ (by omega) (by omega) e))) (ne_of_lt h)
  have hpi : Function.Injective p := fun k k' h => hp.injective (congrArg (fun x : Fin 17 => ord b x.val) h)
  have hr : Set.range (fun k => ord b (p k).val) = Set.range fun k => ord b (sortedFrom L k).val := by
    have e₁ := (Finite.injective_iff_surjective.mp hpi).range_comp fun x : Fin 17 => ord b x.val
    have e₂ := (sortedFrom_surjective L).range_comp fun x : Fin 17 => ord b x.val
    exact e₁.trans e₂.symm
  have h := congrFun ((hp.range_inj hs).mp hr) j
  rw [hL]
  exact (ord_inj b _ _ (by omega) (by omega) h).symm

end Cert.Proof.Ref
-- ==== Proof.Ref.Value.lean ====
/-
  What the reference's memory holds: the seed's key, the rows' keys, the words sorted by, the positions, the result.
-/
module

public import proofs.«01_k».proof.Proof.Ref.Hash
public import proofs.«01_k».proof.Proof.Ref.Sort
public import Idealize.ShloMosaic.Lib.ValueIdxCore
public import Idealize.ShloMosaic.Lib.Pipeline.Value

@[expose] public section

noncomputable section

namespace Cert.Proof.Ref

open Idealize.ShloMosaic Idealize.SL.Sem Idealize.ShloMosaic.StableHlo Cert.ReferenceIdeal
open Idealize.ShloMosaic.ValueIdx (ix0 ix1 ix2 ix3 eq_ix0)
open Cert.Proof.Lit (Ops wordOps rnd inj four key2 tf rowKey subKey bitsAt sortKey pos facts)

/-! ## Reading at an index -/

section Read
variable {α : Type} {n m C : ℕ}

/-- A column of a matrix, as a vector. -/
theorem col_apply (c : Fin m) (off : Fin 2 → ℕ) (ho : off = ![0, c.val]) (x : (⟨2, ![n, m]⟩ : Shape).Idx → α)
    (h : (⟨2, ![n, m]⟩ : Shape).Slices off ⟨2, ![n, 1]⟩)
    (h' : (⟨2, ![n, 1]⟩ : Shape).ShapeCasts ⟨1, ![n]⟩) (b : Fin n) :
    shapeCast ⟨1, ![n]⟩ (extractStridedSlice ⟨2, ![n, 1]⟩ off x h) h' (ix1 b) = x (ix2 b c) := by
  subst ho
  rw [shapeCast_apply _ _ _ (ix2 b 0) (by rw [Shape.rowMajor_val_two, Shape.rowMajor_val_one]; exact (Nat.mul_one _).symm ▸ rfl)]
  exact extractStridedSlice_apply _ _ _ _ _ fun a => match a with
    | ⟨0, _⟩ => (Nat.zero_add _).symm
    | ⟨1, _⟩ => rfl

/-- An entry of a vector, as a scalar. -/
theorem entry_apply (c : Fin m) (off : Fin 1 → ℕ) (ho : off = ![c.val]) (x : (⟨1, ![m]⟩ : Shape).Idx → α)
    (h : (⟨1, ![m]⟩ : Shape).Slices off ⟨1, ![1]⟩) (h' : (⟨1, ![1]⟩ : Shape).ShapeCasts ⟨0, ![]⟩) (i : (⟨0, ![]⟩ : Shape).Idx) :
    shapeCast ⟨0, ![]⟩ (extractStridedSlice ⟨1, ![1]⟩ off x h) h' i = x (ix1 c) := by
  subst ho
  rw [shapeCast_apply _ _ _ (ix1 0) (by
    have := ((⟨0, ![]⟩ : Shape).rowMajor i).isLt
    have e : (⟨0, ![]⟩ : Shape).numel = 1 := rfl
    rw [Shape.rowMajor_val_one]
    show 0 = _
    omega)]
  exact extractStridedSlice_apply _ _ _ _ _ fun a => match a with
    | ⟨0, _⟩ => rfl

/-- A vector over the rows, spread along each row. -/
theorem rows_apply (hn : n ≠ 1) (h : (⟨1, ![n]⟩ : Shape).BroadcastsInDim ⟨2, ![n, 1]⟩ ![0])
    (h' : (⟨2, ![n, 1]⟩ : Shape).BroadcastsInDim ⟨2, ![n, C]⟩ ![0, 1]) (u : (⟨1, ![n]⟩ : Shape).Idx → α) (b : Fin n) (c : Fin C) :
    broadcastInDim ⟨2, ![n, C]⟩ ![0, 1] h' (broadcastInDim ⟨2, ![n, 1]⟩ ![0] h u) (ix2 b c) = u (ix1 b) := by
  rw [broadcastInDim_apply _ _ _ _ (ix2 b 0) fun a => match a with
    | ⟨0, _⟩ => (if_neg hn).symm
    | ⟨1, _⟩ => rfl]
  exact broadcastInDim_apply _ _ _ _ _ fun a => match a with
    | ⟨0, _⟩ => (if_neg hn).symm

/-- A vector over the columns, the same in each row. -/
theorem cols_apply (hC : C ≠ 1) (h : (⟨1, ![C]⟩ : Shape).BroadcastsInDim ⟨2, ![1, C]⟩ ![1])
    (h' : (⟨2, ![1, C]⟩ : Shape).BroadcastsInDim ⟨2, ![n, C]⟩ ![0, 1]) (u : (⟨1, ![C]⟩ : Shape).Idx → α) (b : Fin n) (c : Fin C) :
    broadcastInDim ⟨2, ![n, C]⟩ ![0, 1] h' (broadcastInDim ⟨2, ![1, C]⟩ ![1] h u) (ix2 b c) = u (ix1 c) := by
  rw [broadcastInDim_apply _ _ _ _ (ix2 0 c) fun a => match a with
    | ⟨0, _⟩ => rfl
    | ⟨1, _⟩ => (if_neg hC).symm]
  exact broadcastInDim_apply _ _ _ _ _ fun a => match a with
    | ⟨0, _⟩ => (if_neg hC).symm

/-- Two numbers, one after the other. -/
theorem pair_apply (h : (⟨0, ![]⟩ : Shape).BroadcastsInDim ⟨1, ![1]⟩ ![])
    (h' : (⟨1, ![2]⟩ : Shape).Concatenates [⟨1, ![1]⟩, ⟨1, ![1]⟩] 0) (u w : (⟨0, ![]⟩ : Shape).Idx → α) :
    concatenate ⟨1, ![2]⟩ 0 [⟨⟨1, ![1]⟩, broadcastInDim ⟨1, ![1]⟩ ![] h u⟩, ⟨⟨1, ![1]⟩, broadcastInDim ⟨1, ![1]⟩ ![] h w⟩] h' (ix1 0) = u ix0 ∧
    concatenate ⟨1, ![2]⟩ 0 [⟨⟨1, ![1]⟩, broadcastInDim ⟨1, ![1]⟩ ![] h u⟩, ⟨⟨1, ![1]⟩, broadcastInDim ⟨1, ![1]⟩ ![] h w⟩] h' (ix1 1) = w ix0 := by
  constructor
  · refine (concatenate_pair_apply_left (t := ⟨1, ![2]⟩) (s₁ := ⟨1, ![1]⟩) (s₂ := ⟨1, ![1]⟩) 0 _ _ h' _ rfl (ix1 0 : (⟨1, ![1]⟩ : Shape).Idx) fun a => match a with
      | ⟨0, _⟩ => rfl).trans ?_
    exact broadcastInDim_apply _ _ _ _ _ fun a => a.elim0
  · refine (concatenate_pair_apply_right (t := ⟨1, ![2]⟩) (s₁ := ⟨1, ![1]⟩) (s₂ := ⟨1, ![1]⟩) 0 _ _ h' _ rfl rfl (ix1 0 : (⟨1, ![1]⟩ : Shape).Idx) (fun a => match a with
      | ⟨0, _⟩ => fun h => absurd rfl h) rfl).trans ?_
    exact broadcastInDim_apply _ _ _ _ _ fun a => a.elim0

/-- Two vectors, side by side. -/
theorem sides_apply (hn : n ≠ 1) (h : (⟨1, ![n]⟩ : Shape).BroadcastsInDim ⟨2, ![n, 1]⟩ ![0])
    (h' : (⟨2, ![n, 2]⟩ : Shape).Concatenates [⟨2, ![n, 1]⟩, ⟨2, ![n, 1]⟩] 1) (u w : (⟨1, ![n]⟩ : Shape).Idx → α) (b : Fin n) :
    concatenate ⟨2, ![n, 2]⟩ 1 [⟨⟨2, ![n, 1]⟩, broadcastInDim ⟨2, ![n, 1]⟩ ![0] h u⟩, ⟨⟨2, ![n, 1]⟩, broadcastInDim ⟨2, ![n, 1]⟩ ![0] h w⟩] h' (ix2 b 0) = u (ix1 b) ∧
    concatenate ⟨2, ![n, 2]⟩ 1 [⟨⟨2, ![n, 1]⟩, broadcastInDim ⟨2, ![n, 1]⟩ ![0] h u⟩, ⟨⟨2, ![n, 1]⟩, broadcastInDim ⟨2, ![n, 1]⟩ ![0] h w⟩] h' (ix2 b 1) = w (ix1 b) := by
  constructor
  · refine (concatenate_pair_apply_left (t := ⟨2, ![n, 2]⟩) (s₁ := ⟨2, ![n, 1]⟩) (s₂ := ⟨2, ![n, 1]⟩) 1 _ _ h' _ rfl (ix2 b 0 : (⟨2, ![n, 1]⟩ : Shape).Idx) fun a => match a with
      | ⟨0, _⟩ => rfl
      | ⟨1, _⟩ => rfl).trans ?_
    exact broadcastInDim_apply _ _ _ _ _ fun a => match a with
      | ⟨0, _⟩ => (if_neg hn).symm
  · refine (concatenate_pair_apply_right (t := ⟨2, ![n, 2]⟩) (s₁ := ⟨2, ![n, 1]⟩) (s₂ := ⟨2, ![n, 1]⟩) 1 _ _ h' _ rfl rfl (ix2 b 0 : (⟨2, ![n, 1]⟩ : Shape).Idx) (fun a => match a with
      | ⟨0, _⟩ => fun _ => rfl
      | ⟨1, _⟩ => fun h => absurd rfl h) rfl).trans ?_
    exact broadcastInDim_apply _ _ _ _ _ fun a => match a with
      | ⟨0, _⟩ => (if_neg hn).symm

/-- Two matrices, side by side along a third axis. -/
theorem layers_apply (hn : n ≠ 1) (hm : m ≠ 1) (h : (⟨2, ![n, m]⟩ : Shape).BroadcastsInDim ⟨3, ![n, m, 1]⟩ ![0, 1])
    (h' : (⟨3, ![n, m, 2]⟩ : Shape).Concatenates [⟨3, ![n, m, 1]⟩, ⟨3, ![n, m, 1]⟩] 2) (u w : (⟨2, ![n, m]⟩ : Shape).Idx → α) (b : Fin n) (c : Fin m) :
    concatenate ⟨3, ![n, m, 2]⟩ 2 [⟨⟨3, ![n, m, 1]⟩, broadcastInDim ⟨3, ![n, m, 1]⟩ ![0, 1] h u⟩, ⟨⟨3, ![n, m, 1]⟩, broadcastInDim ⟨3, ![n, m, 1]⟩ ![0, 1] h w⟩] h' (ix3 b c 0) = u (ix2 b c) ∧
    concatenate ⟨3, ![n, m, 2]⟩ 2 [⟨⟨3, ![n, m, 1]⟩, broadcastInDim ⟨3, ![n, m, 1]⟩ ![0, 1] h u⟩, ⟨⟨3, ![n, m, 1]⟩, broadcastInDim ⟨3, ![n, m, 1]⟩ ![0, 1] h w⟩] h' (ix3 b c 1) = w (ix2 b c) := by
  have hb : ∀ a : Fin 2, ((ix2 b c : (⟨2, ![n, m]⟩ : Shape).Idx) a).val = if (⟨2, ![n, m]⟩ : Shape).size a = 1 then 0 else ((ix3 b c 0 : (⟨3, ![n, m, 1]⟩ : Shape).Idx) (![0, 1] a)).val := fun a => match a with
    | ⟨0, _⟩ => (if_neg hn).symm
    | ⟨1, _⟩ => (if_neg hm).symm
  constructor
  · refine (concatenate_pair_apply_left (t := ⟨3, ![n, m, 2]⟩) (s₁ := ⟨3, ![n, m, 1]⟩) (s₂ := ⟨3, ![n, m, 1]⟩) 2 _ _ h' _ rfl (ix3 b c 0 : (⟨3, ![n, m, 1]⟩ : Shape).Idx) fun a => match a with
      | ⟨0, _⟩ => rfl
      | ⟨1, _⟩ => rfl
      | ⟨2, _⟩ => rfl).trans ?_
    exact broadcastInDim_apply _ _ _ _ _ hb
  · refine (concatenate_pair_apply_right (t := ⟨3, ![n, m, 2]⟩) (s₁ := ⟨3, ![n, m, 1]⟩) (s₂ := ⟨3, ![n, m, 1]⟩) 2 _ _ h' _ rfl rfl (ix3 b c 0 : (⟨3, ![n, m, 1]⟩ : Shape).Idx) (fun a => match a with
      | ⟨0, _⟩ => fun _ => rfl
      | ⟨1, _⟩ => fun _ => rfl
      | ⟨2, _⟩ => fun h => absurd rfl h) rfl).trans ?_
    exact broadcastInDim_apply _ _ _ _ _ hb

end Read

/-! ## The counters -/

/-- A count's low word. -/
theorem count_lo (n : ℕ) : (IntOp.muli 1#64 (BitVec.ofNat 64 n)).setWidth 32 = BitVec.ofNat 32 n := by
  unfold IntOp.muli
  rw [BitVec.one_mul]
  exact BitVec.setWidth_ofNat_of_le (by omega) n

/-- A count's high word is zero. -/
theorem count_hi (n : ℕ) (hn : n < 2 ^ 32) :
    (IntOp.shrui .host (IntOp.muli 1#64 (BitVec.ofNat 64 n)) 32#64).setWidth 32 = BitVec.ofNat 32 0 := by
  unfold IntOp.muli IntOp.shrui
  rw [BitVec.one_mul, if_pos (by decide)]
  apply BitVec.eq_of_toNat_eq
  rw [BitVec.toNat_setWidth]
  show ((BitVec.ofNat 64 n) >>> (32#64).toNat).toNat % _ = _
  rw [BitVec.toNat_ushiftRight, BitVec.toNat_ofNat]
  show (n % 2 ^ 64) >>> 32 % 2 ^ 32 = 0
  rw [Nat.shiftRight_eq_div_pow]
  omega

/-- The operations that count the positions, in two words each. -/
theorem count_step {R : Prop} {n : ℕ} (hn : n ≤ 2 ^ 32) {v4 v5 v6 v7 v8 : IVec ⟨1, ![n]⟩ 64} {v9 v10 : IVec ⟨1, ![n]⟩ 32} {c c0 : IVec S_ 64}
    {p q : S_.BroadcastsInDim ⟨1, ![n]⟩ ![]} {w w' : 32 < 64}
    (h : v4 = iotaInDim ⟨1, ![n]⟩ 64 0 ∧ c = constantI S_ 64 1#64 ∧ v5 = broadcastInDim ⟨1, ![n]⟩ ![] p c ∧ v6 = muli v5 v4 ∧
      c0 = constantI S_ 64 32#64 ∧ v7 = broadcastInDim ⟨1, ![n]⟩ ![] q c0 ∧ v8 = Host.shrui v6 v7 ∧ v9 = trunci 32 v6 w ∧ v10 = trunci 32 v8 w' ∧ R) :
    (∀ b : Fin n, v9 (ix1 b) = BitVec.ofNat 32 b.val) ∧ (∀ b : Fin n, v10 (ix1 b) = BitVec.ofNat 32 0) ∧ R := by
  obtain ⟨rfl, rfl, rfl, rfl, rfl, rfl, rfl, rfl, rfl, hR⟩ := h
  exact ⟨fun b => count_lo b.val, fun b => count_hi b.val (by omega), hR⟩

/-! ## The functions -/

variable {F : FTy → Type} [FloatOps F] [Facts] (V : Valuation τ sig (Elt F))

/-- The rows' keys. -/
theorem split_val (x : TRef sig ⟨S2, .i32⟩) (φ : fn_threefry_split.Bufs) (h : Sat V (fn_threefry_split.body (F := F) x φ)) (b : Fin 16384) :
    ((rd V φ.v14 : IVec S16384x2 32) (ix2 b 0), (rd V φ.v14 : IVec S16384x2 32) (ix2 b 1)) =
      tf wordOps ((rd V x : IVec S2 32) (ix1 0)) ((rd V x : IVec S2 32) (ix1 1)) (BitVec.ofNat 32 0) (BitVec.ofNat 32 b.val) := by
  unfold fn_threefry_split.body at h
  simp only [sat_bind, sat_hlo, sat_pure, tq_nullary, tq_unary, tq_binary, tq_reshape, and_assoc] at h
  obtain ⟨e0, e1, e2, e3, h⟩ := h
  obtain ⟨lo, hi, h⟩ := count_step (by norm_num) h
  obtain ⟨hs, e12, e13, e14, _⟩ := h
  have hh := hash_a V φ.v1 φ.v3 φ.v10 φ.v9 φ.call0 hs (ix1 b)
  have t := sides_apply (by decide) Facts₀.bcast_S16384_S16384x1_0 Facts₀.concatenates_S16384x1_S16384x1_S16384x2_d1 (rd V φ.call0.v171) (rd V φ.call0.v175) b
  rw [← e12, ← e13, ← e14] at t
  rw [t.1, t.2]
  refine hh.trans ?_
  rw [lo, hi]
  have k0 : ∀ i, spread S16384 Facts₀.bcast_S_S16384 (rd V φ.v1) i = (rd V x : IVec S2 32) (ix1 0) := fun i => by
    rw [spread, broadcastInDim_apply _ _ _ _ ix0 (fun a => a.elim0), e1, e0]
    exact entry_apply 0 _ rfl _ _ _ _
  have k1 : ∀ i, spread S16384 Facts₀.bcast_S_S16384 (rd V φ.v3) i = (rd V x : IVec S2 32) (ix1 1) := fun i => by
    rw [spread, broadcastInDim_apply _ _ _ _ ix0 (fun a => a.elim0), e3, e2]
    exact entry_apply 1 _ rfl _ _ _ _
  rw [k0, k1]

/-- Each row's key, split in two. -/
theorem split0_val (x : TRef sig ⟨S16384x2, .i32⟩) (φ : fn_threefry_split_0.Bufs) (h : Sat V (fn_threefry_split_0.body (F := F) x φ))
    (b : Fin 16384) (c : Fin 2) :
    ((rd V φ.v18 : IVec S16384x2x2 32) (ix3 b c 0), (rd V φ.v18 : IVec S16384x2x2 32) (ix3 b c 1)) =
      tf wordOps ((rd V x : IVec S16384x2 32) (ix2 b 0)) ((rd V x : IVec S16384x2 32) (ix2 b 1)) (BitVec.ofNat 32 0) (BitVec.ofNat 32 c.val) := by
  unfold fn_threefry_split_0.body at h
  simp only [sat_bind, sat_hlo, sat_pure, tq_nullary, tq_unary, tq_binary, tq_reshape, and_assoc] at h
  obtain ⟨e0, e1, e2, e3, h⟩ := h
  obtain ⟨lo, hi, h⟩ := count_step (by norm_num) h
  obtain ⟨e11, e12, e13, e14, hs, e16, e17, e18, _⟩ := h
  have t := layers_apply (by decide) (by decide) Facts₀.bcast_S16384x2_S16384x2x1_0_1 Facts₀.concatenates_S16384x2x1_S16384x2x1_S16384x2x2_d2
    (rd V φ.call0.v174) (rd V φ.call0.v178) b c
  rw [← e16, ← e17, ← e18] at t
  rw [t.1, t.2]
  refine (hash_b V φ.v13 φ.v14 φ.v11 φ.v12 φ.call0 hs (ix2 b c)).trans ?_
  rw [e11, e12, e13, e14, rows_apply (by decide), rows_apply (by decide), cols_apply (by decide), cols_apply (by decide), lo, hi, e1, e0, e3, e2,
    col_apply (m := 2) 0 ![0, 0] rfl, col_apply (m := 2) 1 ![0, 1] rfl]

/-- The words each row is sorted by. -/
theorem words_val (x : TRef sig ⟨S16384x2, .i32⟩) (y : TRef sig ⟨S17, .i32⟩) (φ : fn_shuffle.Bufs) (h : Sat V (fn_shuffle.body (F := F) x y φ))
    (hx : ∀ b : Fin 16384, ((rd V x : IVec S16384x2 32) (ix2 b 0), (rd V x : IVec S16384x2 32) (ix2 b 1)) = rowKey wordOps (BitVec.ofNat 32 b.val)) :
    (∀ (b : Fin 16384) (c : Fin 17), (rd V φ.v21 : IVec S16384x17 32) (ix2 b c) = sortKey b.val c.val) ∧
    rd V φ.v23_1 = (Host.sort2 S16384x17 1 comparator_i32_i32_d1 (rd V φ.v21) (broadcastInDim S16384x17 ![1] Facts₀.bcast_S17_S16384x17_1 (rd V y))).2 := by
  unfold fn_shuffle.body at h
  simp only [sat_bind, sat_hlo, sat_pure, tq_nullary, tq_unary, tq_binary, tq_reshape, and_assoc] at h
  obtain ⟨hs0, e1, e2, e3, e4, e5, e6, e7, e8, h⟩ := h
  obtain ⟨lo, hi, h⟩ := count_step (by norm_num) h
  obtain ⟨e16, e17, e18, e19, hs, e21, e22, e230, e231, _⟩ := h
  refine ⟨fun b c => ?_, by rw [e231, e22]⟩
  have k : ∀ a : Fin 2, (rd V φ.v4 : IVec S16384x2 32) (ix2 b a) = (rd V φ.call0.v18 : IVec S16384x2x2 32) (ix3 b 1 a) := fun a => by
    rw [e4, e3, shapeCast_apply _ _ _ (ix3 b 0 a : (⟨3, ![16384, 1, 2]⟩ : Shape).Idx)
      (by rw [Shape.rowMajor_val_three, Shape.rowMajor_val_two]; show (b.val * 1 + 0) * 2 + a.val = b.val * 2 + a.val; omega)]
    exact extractStridedSlice_apply _ _ _ _ _ fun q => match q with
      | ⟨0, _⟩ => (Nat.zero_add _).symm
      | ⟨1, _⟩ => rfl
      | ⟨2, _⟩ => (Nat.zero_add _).symm
  have hk := split0_val V x φ.call0 hs0 b 1
  have hr := hx b
  have hb := hash_c V φ.v18 φ.v19 φ.v16 φ.v17 φ.call1 hs (ix2 b c)
  rw [e16, e17, e18, e19, rows_apply (by decide), rows_apply (by decide), cols_apply (by decide), cols_apply (by decide), lo, hi, e6, e5, e8, e7,
    col_apply (m := 2) 0 ![0, 0] rfl, col_apply (m := 2) 1 ![0, 1] rfl, k, k] at hb
  have e : sortKey b.val c.val = IntOp.xori (tf wordOps ((rd V φ.call0.v18 : IVec S16384x2x2 32) (ix3 b 1 0))
      ((rd V φ.call0.v18 : IVec S16384x2x2 32) (ix3 b 1 1)) (BitVec.ofNat 32 0) (BitVec.ofNat 32 c.val)).1
      (tf wordOps ((rd V φ.call0.v18 : IVec S16384x2x2 32) (ix3 b 1 0))
      ((rd V φ.call0.v18 : IVec S16384x2x2 32) (ix3 b 1 1)) (BitVec.ofNat 32 0) (BitVec.ofNat 32 c.val)).2 := by
    have : ((rd V φ.call0.v18 : IVec S16384x2x2 32) (ix3 b 1 0), (rd V φ.call0.v18 : IVec S16384x2x2 32) (ix3 b 1 1)) =
        subKey wordOps (rowKey wordOps (BitVec.ofNat 32 b.val)) := by
      rw [hk, ← hr]
      rfl
    unfold sortKey bitsAt
    rw [← this]
    rfl
  rw [e, ← hb, e21]
  rfl

/-- The positions each row's columns come in. -/
theorem order_val (x : TRef sig ⟨S16384x2, .i32⟩) (y : TRef sig ⟨S17, .i32⟩) (φ : fn_shuffle.Bufs) (h : Sat V (fn_shuffle.body (F := F) x y φ))
    (hx : ∀ b : Fin 16384, ((rd V x : IVec S16384x2 32) (ix2 b 0), (rd V x : IVec S16384x2 32) (ix2 b 1)) = rowKey wordOps (BitVec.ofNat 32 b.val))
    (hy : ∀ c : Fin 17, (rd V y : IVec S17 32) (ix1 c) = BitVec.ofNat 32 c.val) (b : Fin 16384) (j : Fin 17) :
    (rd V φ.v23_1 : IVec S16384x17 32) (ix2 b j) = BitVec.ofNat 32 (pos b.val j.val) := by
  obtain ⟨w, e⟩ := words_val V x y φ h hx
  have al : ∀ k : Fin 17, (ix2 b j : S16384x17.Idx).along 1 k = ix2 b k := fun k => funext fun a => match a with
    | ⟨0, _⟩ => rfl
    | ⟨1, _⟩ => rfl
  have bc : ∀ k : Fin 17, broadcastInDim S16384x17 ![1] Facts₀.bcast_S17_S16384x17_1 (rd V y) ((ix2 b j : S16384x17.Idx).along 1 k) =
      BitVec.ofNat 32 k.val := fun k => by
    rw [al, broadcastInDim_apply _ _ _ _ (ix1 k) fun a => match a with | ⟨0, _⟩ => rfl]
    exact hy k
  have wd : ∀ k : Fin 17, (rd V φ.v21 : IVec S16384x17 32) ((ix2 b j : S16384x17.Idx).along 1 k) = sortKey b.val k.val := fun k => by
    rw [al]
    exact w b k
  have lt : ∀ p q : BitVec 32, (IntOp.cmpi .ult p q == 1#1) = true ↔ p.toNat < q.toNat := fun p q => by
    unfold IntOp.cmpi
    show (BitVec.ofBool (p.ult q) == 1#1) = true ↔ _
    rw [show p.ult q = decide (p.toNat < q.toNat) from rfl]
    by_cases h : p.toNat < q.toNat <;> simp [h]
  rw [e]
  refine (bc _).trans (congrArg (BitVec.ofNat 32) (sortedFrom_pos b.val b.isLt _ (fun k k' => ?_) j))
  rw [← wd k, ← wd k']
  exact lt _ _

end Cert.Proof.Ref

end
-- ==== Proof.Ref.Take.lean ====
/-
  Taking along the axis: each row's pages in the order its positions say.
-/
module

public import proofs.«01_k».proof.Proof.Ref.Value

@[expose] public section

noncomputable section

namespace Cert.Proof.Ref

open Idealize.ShloMosaic Idealize.SL.Sem Idealize.ShloMosaic.StableHlo Cert.ReferenceIdeal
open Idealize.ShloMosaic.ValueIdx (ix0 ix1 ix2 ix3 eq_ix3)
open Cert.Proof.Lit (wordOps tf rowKey pos)

variable {F : FTy → Type} [FloatOps F] [Facts] (V : Valuation τ sig (Elt F))

/-- A position is not negative, so it stays. -/
theorem wrap_word : ∀ k : Fin 17, Scalar.select (IntOp.cmpi .slt (BitVec.ofNat 32 k.val) 0#32) (IntOp.addi (BitVec.ofNat 32 k.val) 17#32)
    (BitVec.ofNat 32 k.val) = BitVec.ofNat 32 k.val := by decide

/-- A position is in range. -/
theorem range_word : ∀ k : Fin 17, IntOp.andi (IntOp.cmpi .sge (BitVec.ofNat 32 k.val) 0#32) (IntOp.cmpi .sle (BitVec.ofNat 32 k.val) 16#32) = 1#1 := by
  decide

/-- A position, read as the gather reads it. -/
theorem start_word : ∀ k : Fin 17, min (BitVec.ofNat 32 k.val).toInt.toNat 16 = k.val := by decide

/-- The conjunction of true bits is true. -/
theorem foldl_ones {α : Type} (g : α → BitVec 1) (hg : ∀ a, g a = 1#1) (l : List α) : l.foldl (fun r n => IntOp.andi r (g n)) 1#1 = 1#1 := by
  induction l with
  | nil => rfl
  | cons a l ih =>
    rw [List.foldl_cons, hg a]
    exact ih

/-- The gather, at an index. -/
theorem gather_at {α : Type} (x : S16384x17x128.Idx → α) (v : IVec S16384x17x1 32) (b : Fin 16384) (j : Fin 17) (l : Fin 128) (k : Fin 17)
    (hv : v (ix3 b j 0) = BitVec.ofNat 32 k.val) :
    Host.gather gather_S16384x17x128_S16384x17x1_S16384x17x128_2_1_0_0_1_2_11128 x v (ix3 b j l) = x (ix3 b k l) := by
  let G := gather_S16384x17x128_S16384x17x1_S16384x17x128_2_1_0_0_1_2_11128
  unfold Host.gather
  congr 1
  funext a
  refine Fin.ext ?_
  show G.start (ix3 b j l) v a + G.batchCoord (ix3 b j l) a + G.offCoord (ix3 b j l) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ G.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ G.startIndexMap from List.mem_singleton.mpr rfl)]
    have hsi : G.siIdx (ix3 b j l) ⟨List.idxOf (1 : Fin 3) G.startIndexMap, List.idxOf_lt_length_iff.2 (List.mem_singleton.mpr rfl)⟩ = ix3 b j 0 := by
      funext q
      refine Fin.ext ?_
      match q with
      | ⟨0, _⟩ => rfl
      | ⟨1, _⟩ => rfl
      | ⟨2, _⟩ => rfl
    exact Eq.trans (congrArg (fun w : BitVec 32 => min w.toInt.toNat 16) ((congrArg v hsi).trans hv)) (start_word k)
  · rw [GatherDims.batchCoord_eq_zero _ _ _ (fun h => absurd (List.mem_singleton.mp h) (by decide))]
    unfold GatherDims.start
    rw [dif_neg (show (2 : Fin 3) ∉ G.startIndexMap from fun h => absurd (List.mem_singleton.mp h) (by decide))]
    unfold GatherDims.offCoord
    rw [dif_pos (show (2 : Fin 3) ∈ G.sKept from
      (GatherDims.mem_sKept _ _).mpr ⟨fun h => absurd (List.mem_singleton.mp h) (by decide), fun h => absurd (List.mem_singleton.mp h) (by decide)⟩)]
    simp only [Nat.zero_add]
    rfl

/-- Taking along the axis at positions in range. -/
theorem take_val (x : TRef sig ⟨S16384x17x128, .f32⟩) (y : TRef sig ⟨S16384x17x1, .i32⟩) (φ : fn_take_along_axis.Bufs)
    (h : Sat V (fn_take_along_axis.body (F := F) x y φ)) (p : Fin 16384 → Fin 17 → Fin 17)
    (hp : ∀ b j, (rd V y : IVec S16384x17x1 32) (ix3 b j 0) = BitVec.ofNat 32 (p b j).val) (b : Fin 16384) (j : Fin 17) (l : Fin 128) :
    (rd V φ.v15 : FVec F S16384x17x128 .f32) (ix3 b j l) = (rd V x : FVec F S16384x17x128 .f32) (ix3 b (p b j) l) := by
  unfold fn_take_along_axis.body at h
  simp only [sat_bind, sat_hlo, sat_pure, tq_nullary, tq_unary, tq_binary, tq_ternary, and_assoc] at h
  obtain ⟨ec, e0, e1, ec0, e2, e3, e4, ec1, ec2, e5, e6, e7, e8, e9, e10, ec3, e11, e12, e13, ecst, e14, e15, _⟩ := h
  have h4 : ∀ b j, (rd V φ.v4 : IVec S16384x17x1 32) (ix3 b j 0) = BitVec.ofNat 32 (p b j).val := fun b j => by
    rw [e4, e1, e3, e0, e2, ec, ec0]
    refine Eq.trans ?_ (wrap_word (p b j))
    rw [← hp b j]
    rfl
  have h10 : ∀ i, (rd V φ.v10 : IVec S16384x17x1 1) i = 1#1 := fun i => by
    have hi : i = ix3 (i 0) (i 1) 0 := by
      have e := eq_ix3 i
      rw [show i 2 = (0 : Fin 1) from Subsingleton.elim (α := Fin 1) _ _] at e
      exact e
    rw [hi, e10, e6, e9, e5, e8, e7, ec1, ec2]
    refine Eq.trans ?_ (range_word (p (i 0) (i 1)))
    rw [← h4 (i 0) (i 1)]
    rfl
  have h11 : ∀ i, (rd V φ.v11 : IVec S16384x17 1) i = 1#1 := fun i => by
    rw [e11, ec3]
    exact foldl_ones (fun n => (rd V φ.v10 : IVec S16384x17x1 1) (S16384x17x1.rowMajor.symm n)) (fun n => h10 _) _
  have h13 : ∀ i, (rd V φ.v13 : IVec S16384x17x128 1) i = 1#1 := fun i => by
    rw [e13]
    exact h11 _
  rw [e15]
  show Scalar.select ((rd V φ.v13 : IVec S16384x17x128 1) (ix3 b j l)) ((rd V φ.v12 : FVec F S16384x17x128 .f32) (ix3 b j l)) _ = _
  rw [h13, e12]
  exact (if_pos rfl).trans (gather_at _ _ b j l (p b j) (h4 b j))

/-- The reference's result: each row's pages, in the order of the words drawn for them. -/
theorem main_val (d : Dev nD) (h : Sat V (main (F := F) d)) (hp : ∀ b : Fin 16384, ∀ j : Fin 17, pos b.val j.val < 17) (b : Fin 16384) (j : Fin 17) (l : Fin 128) :
    (V (Proc.devRef .tc main_v11) : FVec F S16384x17x128 .f32) (ix3 b j l) =
      (V (Proc.devRef .tc main_arg0) : FVec F S16384x17x128 .f32) (ix3 b ⟨pos b.val j.val, hp b j⟩ l) := by
  unfold main at h
  simp only [sat_bind, sat_hlo, sat_pure, eq_nullary, eq_unary, eq_binary, and_assoc] at h
  obtain ⟨ec, ec0, e0, e1, e2, ec1, e3, e4, e5, e6, hs, e8, hf, e10, ht, _⟩ := h
  have t := pair_apply Facts₀.bcast_S_S1 Facts₀.concatenates_S1_S1_S2_d0 (V (Proc.devRef .tc main_v1)) (V (Proc.devRef .tc main_v4))
  rw [← e2, ← e5, ← e6] at t
  have k0 : (V (Proc.devRef .tc main_v6) : IVec S2 32) (ix1 0) = BitVec.ofNat 32 0 := by
    rw [t.1, e1, e0, ec, ec0]
    rfl
  have k1 : (V (Proc.devRef .tc main_v6) : IVec S2 32) (ix1 1) = BitVec.ofNat 32 1234 := by
    rw [t.2, e4, e3, ec, ec1]
    rfl
  have hk : ∀ b : Fin 16384, ((rd V main_call0.v14 : IVec S16384x2 32) (ix2 b 0), (rd V main_call0.v14 : IVec S16384x2 32) (ix2 b 1)) =
      rowKey wordOps (BitVec.ofNat 32 b.val) := fun b => by
    refine (split_val V (.of main_v6) main_call0 hs b).trans ?_
    show tf wordOps ((V (Proc.devRef .tc main_v6) : IVec S2 32) (ix1 0)) ((V (Proc.devRef .tc main_v6) : IVec S2 32) (ix1 1)) _ _ = _
    rw [k0, k1]
    rfl
  have ho := order_val V (.of main_v7) (.of main_v8) main_call1 hf hk fun c => by
    show (V (Proc.devRef .tc main_v8) : IVec S17 32) (ix1 c) = _
    rw [e8]
    rfl
  exact take_val V (.of main_arg0) (.of main_v10) main_call2 ht (fun b j => ⟨pos b.val j.val, hp b j⟩) (fun b j => by
    show (V (Proc.devRef .tc main_v10) : IVec S16384x17x1 32) (ix3 b j 0) = _
    rw [e10, broadcastInDim_apply _ _ _ _ (ix2 b j) fun a => match a with
      | ⟨0, _⟩ => rfl
      | ⟨1, _⟩ => rfl]
    exact ho b j) b j l

end Cert.Proof.Ref

end
-- ==== Proof.Ref.Agree.lean ====
/-
  The kernel's result, element by element, is the reference's.
-/
module

public import proofs.«01_k».proof.Proof.Tile.Frames
public import proofs.«01_k».proof.Proof.Ref.Run
public import proofs.«01_k».proof.Proof.Ref.Take

@[expose] public section

noncomputable section

namespace Cert.Proof.Ref

open Idealize.ShloMosaic Idealize.SL.Sem
open Idealize.ShloMosaic.ValueIdx (ix2 ix3 eq_ix3)
open Cert.Proof.Lit (pos lit_word)
open Cert.KernelIdeal (lit0t)
open Cert.Proof.Tile

/-- A position is one of the 17. -/
theorem pos_lt (b : Fin 16384) (j : Fin 17) : pos b.val j.val < 17 := (Lit.facts b.val b.isLt j.val j.isLt).1.2

variable {F : FTy → Type} [FloatOps F]

/-- The list is read off the table of words. -/
theorem lit_at : ∀ x : Fin 278528, Cert.KernelIdeal.lit0 x = lit0t x.val := fun x => by
  unfold Cert.KernelIdeal.lit0
  rfl

/-- The list's word at a place is the table's of words there. -/
theorem list_word (d : Dev Cert.KernelIdeal.nD) (i : Cert.KernelIdeal.S278528.Idx) :
    (ixM (F := F) d i : BitVec 32).toNat = (lit0t (i 0).val).toNat :=
  (congrArg BitVec.toNat (lit_at (Cert.KernelIdeal.S278528.rowMajor i))).trans
    (congrArg (fun n => (lit0t n).toNat) (Shape.rowMajor_val_one i))

/-- The row a list names, when its words there are known. -/
theorem rowAt_val (d : Dev Cert.KernelIdeal.nD) (ix : Buf (Elt F) (iLoc d)) (j n : ℕ) (hj : j < 278528) (hn : n < 278528)
    (h : ∀ i : Cert.KernelIdeal.S278528.Idx, (i 0).val = j → (ix i : BitVec 32).toNat = n) : (rowAt d ix j).val = n := by
  unfold rowAt
  split
  · split
    · exact h _ rfl
    · rename_i h2
      exact absurd (lt_of_eq_of_lt (h _ rfl) hn) h2
  · contradiction

/-- The kernel's result: each row's pages, in the order of the words drawn for them. -/
theorem kernel_val (m : (ℓ : Loc Cert.KernelIdeal.nD Cert.KernelIdeal.τ Cert.KernelIdeal.sig) → Buf (Elt F) ℓ) (d : Dev Cert.KernelIdeal.nD)
    (b : Fin 16384) (j : Fin 17) (l : Fin 128) :
    (resM m d : FVec F Cert.KernelIdeal.S16384x17x128 .f32) (ix3 b j l) =
      (m (xLoc d) : FVec F Cert.KernelIdeal.S16384x17x128 .f32) (ix3 b ⟨pos b.val j.val, pos_lt b j⟩ l) := by
  have hb := b.isLt
  have hj := j.isLt
  have hq := pos_lt b j
  have hn : 16384 * j.val + b.val < 278528 := by omega
  have hr : (rowAt d (ixM (F := F) d) (16384 * j.val + b.val)).val = pos b.val j.val * 16384 + b.val :=
    rowAt_val d _ _ _ hn (by omega) fun i hi => by
      rw [list_word d i, hi]
      exact lit_word b.val hb j.val hj
  unfold resM
  rw [transpose_apply _ _ _ _ (ix3 j b l : (⟨3, ![17, 16384, 128]⟩ : Shape).Idx) fun a => match a with
    | ⟨0, _⟩ => rfl
    | ⟨1, _⟩ => rfl
    | ⟨2, _⟩ => rfl]
  rw [shapeCast_apply _ _ _ (ix2 ⟨16384 * j.val + b.val, hn⟩ l : (⟨2, ![278528, 128]⟩ : Shape).Idx) (by
    rw [Shape.rowMajor_val_three, Shape.rowMajor_val_two]
    show (16384 * j.val + b.val) * 128 + l.val = (j.val * 16384 + b.val) * 128 + l.val
    omega)]
  show tbM m d (fun | 0 => rowAt d (ixM (F := F) d) (16384 * j.val + b.val) | 1 => l) = _
  unfold tbM
  rw [shapeCast_apply _ _ _ (ix3 ⟨pos b.val j.val, hq⟩ b l : (⟨3, ![17, 16384, 128]⟩ : Shape).Idx) (by
    rw [Shape.rowMajor_val_three, Shape.rowMajor_val_two]
    show (pos b.val j.val * 16384 + b.val) * 128 + l.val = (rowAt d (ixM (F := F) d) (16384 * j.val + b.val)).val * 128 + l.val
    rw [hr])]
  exact transpose_apply _ _ _ _ _ fun a => match a with
    | ⟨0, _⟩ => rfl
    | ⟨1, _⟩ => rfl
    | ⟨2, _⟩ => rfl

/-- The kernel and the reference leave the same result. -/
theorem agree : Cert.algebraic_KernelIdeal_ReferenceIdeal := fun m g m' g' _ hm =>
  ⟨fun c => resM m c, (θ_run _ _ _).mono (fun _ h => h.1) (run_main (F := Ideal) m g ixM_ok),
    (θ_run _ _ _).mono (fun r h c => by
      obtain ⟨V, hs, ha, hv⟩ := h c
      refine ⟨(hv _).trans ?_, (hv _).trans ha⟩
      refine funext fun (i : Cert.ReferenceIdeal.S16384x17x128.Idx) => ?_
      rw [eq_ix3 i]
      refine (main_val V c hs pos_lt (i 0) (i 1) (i 2)).trans ?_
      rw [ha, hm c]
      exact (kernel_val (F := Ideal) m c (i 0) (i 1) (i 2)).symm) (run_ref (F := Ideal) m' g')⟩

end Cert.Proof.Ref

end
-- ==== Proof.lean ====
/-
  The certificate: the two frames, and the kernel's result against the reference's.
-/
module

public import proofs.«01_k».proof.Defs
public import proofs.«01_k».proof.Proof.Gen.KernelIdeal
public import proofs.«01_k».proof.Proof.Gen.ReferenceIdeal
public import proofs.«01_k».proof.Proof.Tile.Frames
public import proofs.«01_k».proof.Proof.Ref.Run
public import proofs.«01_k».proof.Proof.Ref.Agree

@[expose] public section

noncomputable section

namespace Cert.Proof

open Idealize.ShloMosaic Idealize.SL.Sem

/-- Each program ends without fault, its argument what it was and every semaphore counter at zero; and the kernel's result is the
    reference's. -/
theorem claim : Cert.Claim :=
  ⟨Cert.KernelIdeal.Gen.facts, Cert.ReferenceIdeal.Gen.facts, Tile.frame_kernelIdeal, Ref.frame_ref, Ref.agree⟩

end Cert.Proof

end
